-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_tame.lean ====
abbrev S8192x8192 : Shape := ⟨2, ![8192, 8192]⟩
abbrev S8192x4096 : Shape := ⟨2, ![8192, 4096]⟩
abbrev S8192x128 : Shape := ⟨2, ![8192, 128]⟩
abbrev S128 : Shape := ⟨1, ![128]⟩
abbrev S8192x32 : Shape := ⟨2, ![8192, 32]⟩
abbrev S128x64x32 : Shape := ⟨3, ![128, 64, 32]⟩
abbrev S128x1x32 : Shape := ⟨3, ![128, 1, 32]⟩
abbrev S128x63x32 : Shape := ⟨3, ![128, 63, 32]⟩
abbrev S_ : Shape := ⟨0, ![]⟩
abbrev S8192x64 : Shape := ⟨2, ![8192, 64]⟩
abbrev S8192x8288 : Shape := ⟨2, ![8192, 8288]⟩

class Facts : Prop where
  slices_S8192x128_S8192x32_0_32 : S8192x128.Slices ![0, 32] S8192x32
  shapeCasts_S8192x32_S128x64x32 : S8192x32.ShapeCasts S128x64x32
  slices_S128x64x32_S128x1x32_0_0_0 : S128x64x32.Slices ![0, 0, 0] S128x1x32
  slices_S128x64x32_S128x63x32_0_1_0 : S128x64x32.Slices ![0, 1, 0] S128x63x32
  slices_S128x64x32_S128x63x32_0_0_0 : S128x64x32.Slices ![0, 0, 0] S128x63x32
  concatenates_S128x1x32_S128x63x32_S128x64x32_d1 : Shape.Concatenates [S128x1x32, S128x63x32] S128x64x32 1
  shapeCasts_S128x64x32_S8192x32 : S128x64x32.ShapeCasts S8192x32
  bcast_S_S8192x8192 : S_.BroadcastsInDim S8192x8192 (![] : Fin 0 → Fin S8192x8192.rank)
  slices_S8192x128_S8192x64_0_0 : S8192x128.Slices ![0, 0] S8192x64
  bcast_S_S8192x64 : S_.BroadcastsInDim S8192x64 (![] : Fin 0 → Fin S8192x64.rank)
  concatenates_S8192x8192_S8192x64_S8192x32_S8192x8288_d1 : Shape.Concatenates [S8192x8192, S8192x64, S8192x32] S8192x8288 1

variable [Facts]

def fn {F : FTy → Type} [FloatOps F] (main_arg0 : FVec F S8192x8192 .f32) (main_arg1 : FVec F S8192x4096 .f32) (main_arg2 : FVec F S8192x128 .f32) (main_arg3 : FVec F S128 .f32) : IVec S8192x8288 1 :=
  let main_v0 : FVec F S8192x32 .f32 := (extractStridedSlice S8192x32 ![0, 32] · slices_S8192x128_S8192x32_0_32) main_arg2
  let main_v1 : FVec F S128x64x32 .f32 := shapeCast S128x64x32 main_v0 shapeCasts_S8192x32_S128x64x32
  let main_v2 : FVec F S128x1x32 .f32 := (extractStridedSlice S128x1x32 ![0, 0, 0] · slices_S128x64x32_S128x1x32_0_0_0) main_v1
  let main_v3 : FVec F S128x1x32 .f32 := (extractStridedSlice S128x1x32 ![0, 0, 0] · slices_S128x64x32_S128x1x32_0_0_0) main_v1
  let main_v4 : IVec S128x1x32 1 := cmpf .ole main_v2 main_v3
  let main_v5 : FVec F S128x63x32 .f32 := (extractStridedSlice S128x63x32 ![0, 1, 0] · slices_S128x64x32_S128x63x32_0_1_0) main_v1
  let main_v6 : FVec F S128x63x32 .f32 := (extractStridedSlice S128x63x32 ![0, 0, 0] · slices_S128x64x32_S128x63x32_0_0_0) main_v1
  let main_v7 : IVec S128x63x32 1 := cmpf .ole main_v5 main_v6
  let main_v8 : IVec S128x64x32 1 := (fun a b => concatenate S128x64x32 1 [⟨S128x1x32, a⟩, ⟨S128x63x32, b⟩] concatenates_S128x1x32_S128x63x32_S128x64x32_d1) main_v4 main_v7
  let main_v9 : IVec S8192x32 1 := shapeCast S8192x32 main_v8 shapeCasts_S128x64x32_S8192x32
  let main_v10 : FVec F S8192x8192 .f32 := Host.absf main_arg0
  let main_cst : FVec F S_ .f32 := constant S_ .f32 0x7F800000#32
  let main_v11 : FVec F S8192x8192 .f32 := broadcastInDim S8192x8192 ![] bcast_S_S8192x8192 main_cst
  let main_v12 : IVec S8192x8192 1 := cmpf .olt main_v10 main_v11
  let main_v13 : FVec F S8192x64 .f32 := (extractStridedSlice S8192x64 ![0, 0] · slices_S8192x128_S8192x64_0_0) main_arg2
  let main_v14 : FVec F S8192x64 .f32 := Host.absf main_v13
  let main_cst_0 : FVec F S_ .f32 := constant S_ .f32 0x7F800000#32
  let main_v15 : FVec F S8192x64 .f32 := broadcastInDim S8192x64 ![] bcast_S_S8192x64 main_cst_0
  let main_v16 : IVec S8192x64 1 := cmpf .olt main_v14 main_v15
  let main_v17 : IVec S8192x8288 1 := concatenate S8192x8288 1 [⟨S8192x8192, main_v12⟩, ⟨S8192x64, main_v16⟩, ⟨S8192x32, main_v9⟩] concatenates_S8192x8192_S8192x64_S8192x32_S8192x8288_d1
  main_v17
-- ==== Kernel.lean ====
abbrev S8192x8192 : Shape := ⟨2, ![8192, 8192]⟩
abbrev S8192x4096 : Shape := ⟨2, ![8192, 4096]⟩
abbrev S8192x128 : Shape := ⟨2, ![8192, 128]⟩
abbrev S128 : Shape := ⟨1, ![128]⟩
abbrev S128x8192 : Shape := ⟨2, ![128, 8192]⟩
abbrev S1x128 : Shape := ⟨2, ![1, 128]⟩
abbrev S1024x128 : Shape := ⟨2, ![1024, 128]⟩
abbrev S1024x256 : Shape := ⟨2, ![1024, 256]⟩
abbrev S128x1024 : Shape := ⟨2, ![128, 1024]⟩
abbrev S2x128x128 : Shape := ⟨3, ![2, 128, 128]⟩
abbrev S32x192x128 : Shape := ⟨3, ![32, 192, 128]⟩
abbrev S32x128x128 : Shape := ⟨3, ![32, 128, 128]⟩
abbrev S32x64x128 : Shape := ⟨3, ![32, 64, 128]⟩
abbrev S32x8x128 : Shape := ⟨3, ![32, 8, 128]⟩
abbrev S1x128x128 : Shape := ⟨3, ![1, 128, 128]⟩
abbrev S128x128 : Shape := ⟨2, ![128, 128]⟩
abbrev S1x192x128 : Shape := ⟨3, ![1, 192, 128]⟩
abbrev S192x128 : Shape := ⟨2, ![192, 128]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S64 : Shape := ⟨1, ![64]⟩
abbrev S64x1 : Shape := ⟨2, ![64, 1]⟩
abbrev S256x256 : Shape := ⟨2, ![256, 256]⟩
abbrev S64x256 : Shape := ⟨2, ![64, 256]⟩
abbrev S1024 : Shape := ⟨1, ![1024]⟩
abbrev S1024x1 : Shape := ⟨2, ![1024, 1]⟩
abbrev S1x1024 : Shape := ⟨2, ![1, 1024]⟩
abbrev S256x128 : Shape := ⟨2, ![256, 128]⟩
abbrev S256x1 : Shape := ⟨2, ![256, 1]⟩
abbrev S1x256 : Shape := ⟨2, ![1, 256]⟩
abbrev S1x1 : Shape := ⟨2, ![1, 1]⟩
abbrev S128x256 : Shape := ⟨2, ![128, 256]⟩

abbrev nBuf : Space → Nat
  | .hbm => 7
  | .vmem => 20
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x128, .f32⟩
  | .hbm, ⟨3, _⟩ => ⟨S128, .f32⟩
  | .hbm, ⟨4, _⟩ => ⟨S128x8192, .f32⟩
  | .hbm, ⟨5, _⟩ => ⟨S1x128, .f32⟩
  | .hbm, ⟨6, _⟩ => ⟨S8192x4096, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x128, .f32⟩
  | .local _ .vmem, ⟨9, _⟩ => ⟨S1024x128, .f32⟩
  | .local _ .vmem, ⟨10, _⟩ => ⟨S128x1024, .f32⟩
  | .local _ .vmem, ⟨11, _⟩ => ⟨S128x1024, .f32⟩
  | .local _ .vmem, ⟨12, _⟩ => ⟨S1x128, .f32⟩
  | .local _ .vmem, ⟨13, _⟩ => ⟨S1024x256, .bf16⟩
  | .local _ .vmem, ⟨14, _⟩ => ⟨S1024x256, .bf16⟩
  | .local _ .vmem, ⟨15, _⟩ => ⟨S2x128x128, .f32⟩
  | .local _ .vmem, ⟨16, _⟩ => ⟨S32x192x128, .bf16⟩
  | .local _ .vmem, ⟨17, _⟩ => ⟨S32x128x128, .f32⟩
  | .local _ .vmem, ⟨18, _⟩ => ⟨S32x64x128, .f32⟩
  | .local _ .vmem, ⟨19, _⟩ => ⟨S32x8x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 9], ![false, false]⟩

def k0_cond3 (i : grid0.Coords) : BitVec 1 :=
  let arg1 : BitVec 32 := BitVec.ofNat 32 (i 1).val
  let c8_i32_3 : BitVec 32 := 8#32
  let v8 : BitVec 1 := Scalar.cmpi .slt arg1 c8_i32_3
  let v9 : BitVec 32 := Scalar.extui v8
  let c0_i32_4 : BitVec 32 := 0#32
  let v10 : BitVec 1 := Scalar.cmpi .ne v9 c0_i32_4
  v10

def k0_off1 (i : grid0.Coords) (c0_i32_198 : BitVec 32) : Fin 2 → Nat :=
  let c32_i32_204 : BitVec 32 := 32#32
  let c2_i32_197 : BitVec 32 := 2#32
  let arg0 : BitVec 32 := BitVec.ofNat 32 (i 0).val
  let v692 : BitVec 32 := Scalar.muli c2_i32_197 arg0
  let v693 : BitVec 32 := Scalar.addi v692 c0_i32_198
  let v707 : BitVec 32 := Scalar.addi c32_i32_204 v693
  let v708 : Index := Scalar.indexCast v707
  let c0_205 : Index := 0#32
  ![v708.toNat, 0]
def k0_cond2 (i : grid0.Coords) : BitVec 1 :=
  let arg1 : BitVec 32 := BitVec.ofNat 32 (i 1).val
  let c8_i32 : BitVec 32 := 8#32
  let v5 : BitVec 1 := Scalar.cmpi .eq arg1 c8_i32
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c16_i32 : BitVec 32 := 16#32
  let v1 : BitVec 32 := Scalar.addi c16_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c16_i32 : BitVec 32 := 16#32
  let v1 : BitVec 32 := Scalar.addi c16_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x8192 : Shape := ⟨2, ![8192, 8192]⟩
abbrev S8192x4096 : Shape := ⟨2, ![8192, 4096]⟩
abbrev S8192x128 : Shape := ⟨2, ![8192, 128]⟩
abbrev S128 : Shape := ⟨1, ![128]⟩
abbrev S8192x2048 : Shape := ⟨2, ![8192, 2048]⟩
abbrev S8192x16x128 : Shape := ⟨3, ![8192, 16, 128]⟩
abbrev S8192x16x2x128 : Shape := ⟨4, ![8192, 16, 2, 128]⟩
abbrev S8192x32x128 : Shape := ⟨3, ![8192, 32, 128]⟩
abbrev S8192x32 : Shape := ⟨2, ![8192, 32]⟩
abbrev S128x64x32 : Shape := ⟨3, ![128, 64, 32]⟩
abbrev S128x1x32 : Shape := ⟨3, ![128, 1, 32]⟩
abbrev S128x63x32 : Shape := ⟨3, ![128, 63, 32]⟩
abbrev S_ : Shape := ⟨0, ![]⟩
abbrev S32x128x128 : Shape := ⟨3, ![32, 128, 128]⟩
abbrev S1x32x128 : Shape := ⟨3, ![1, 32, 128]⟩
abbrev S32x128 : Shape := ⟨2, ![32, 128]⟩
abbrev S1x32 : Shape := ⟨2, ![1, 32]⟩
abbrev S32 : Shape := ⟨1, ![32]⟩
abbrev S32x1x1 : Shape := ⟨3, ![32, 1, 1]⟩
abbrev S32x1 : Shape := ⟨2, ![32, 1]⟩
abbrev S32x128x1 : Shape := ⟨3, ![32, 128, 1]⟩
abbrev S32x1x128 : Shape := ⟨3, ![32, 1, 128]⟩
abbrev S8192x32x1 : Shape := ⟨3, ![8192, 32, 1]⟩
abbrev S1x1x128 : Shape := ⟨3, ![1, 1, 128]⟩

abbrev nBuf : Space → Nat
  | .hbm => 98
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x128, .f32⟩
  | .hbm, ⟨3, _⟩ => ⟨S128, .f32⟩
  | .hbm, ⟨4, _⟩ => ⟨S8192x2048, .f32⟩
  | .hbm, ⟨5, _⟩ => ⟨S8192x16x128, .f32⟩
  | .hbm, ⟨6, _⟩ => ⟨S8192x16x2x128, .f32⟩
  | .hbm, ⟨7, _⟩ => ⟨S8192x32x128, .f32⟩
  | .hbm, ⟨8, _⟩ => ⟨S8192x2048, .f32⟩
  | .hbm, ⟨9, _⟩ => ⟨S8192x16x128, .f32⟩
  | .hbm, ⟨10, _⟩ => ⟨S8192x16x2x128, .f32⟩
  | .hbm, ⟨11, _⟩ => ⟨S8192x32x128, .f32⟩
  | .hbm, ⟨12, _⟩ => ⟨S8192x4096, .f32⟩
  | .hbm, ⟨13, _⟩ => ⟨S8192x32x128, .f32⟩
  | .hbm, ⟨14, _⟩ => ⟨S8192x32, .f32⟩
  | .hbm, ⟨15, _⟩ => ⟨S8192x32, .f32⟩
  | .hbm, ⟨16, _⟩ => ⟨S128x64x32, .f32⟩
  | .hbm, ⟨17, _⟩ => ⟨S128x1x32, .f32⟩
  | .hbm, ⟨18, _⟩ => ⟨S128x63x32, .f32⟩
  | .hbm, ⟨19, _⟩ => ⟨S128x63x32, .f32⟩
  | .hbm, ⟨20, _⟩ => ⟨S128x63x32, .f32⟩
  | .hbm, ⟨21, _⟩ => ⟨S128x64x32, .f32⟩
  | .hbm, ⟨22, _⟩ => ⟨S8192x32, .f32⟩
  | .hbm, ⟨23, _⟩ => ⟨S_, .f32⟩
  | .hbm, ⟨24, _⟩ => ⟨S32x128x128, .f32⟩
  | .hbm, ⟨25, _⟩ => ⟨S_, .f32⟩
  | .hbm, ⟨26, _⟩ => ⟨S8192x32x128, .f32⟩
  | .hbm, ⟨27, _⟩ => ⟨S_, .i32⟩
  | .hbm, ⟨28, _⟩ => ⟨S8192x32x128, .f32⟩
  | .hbm, ⟨29, _⟩ => ⟨S8192x32x128, .f32⟩
  | .hbm, ⟨30, _⟩ => ⟨S8192x32x128, .f32⟩
  | .hbm, ⟨31, _⟩ => ⟨S8192x32, .f32⟩
  | .hbm, ⟨32, _⟩ => ⟨S8192x32, .f32⟩
  | .hbm, ⟨33, _⟩ => ⟨S_, .i32⟩
  | .hbm, ⟨34, _⟩ => ⟨S32x128x128, .f32⟩
  | .hbm, ⟨35, _⟩ => ⟨S8192x32x128, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S1x32x128, .f32⟩
  | .hbm, ⟨41, _⟩ => ⟨S32x128, .f32⟩
  | .hbm, ⟨42, _⟩ => ⟨S_, .i32⟩
  | .hbm, ⟨43, _⟩ => ⟨S_, .i32⟩
  | .hbm, ⟨44, _⟩ => ⟨S1x32x128, .f32⟩
  | .hbm, ⟨45, _⟩ => ⟨S32x128, .f32⟩
  | .hbm, ⟨46, _⟩ => ⟨S_, .i32⟩
  | .hbm, ⟨47, _⟩ => ⟨S_, .i32⟩
  | .hbm, ⟨48, _⟩ => ⟨S1x32x128, .f32⟩
  | .hbm, ⟨49, _⟩ => ⟨S32x128, .f32⟩
  | .hbm, ⟨50, _⟩ => ⟨S_, .i32⟩
  | .hbm, ⟨51, _⟩ => ⟨S1x32, .f32⟩
  | .hbm, ⟨52, _⟩ => ⟨S32, .f32⟩
  | .hbm, ⟨53, _⟩ => ⟨S_, .i32⟩
  | .hbm, ⟨54, _⟩ => ⟨S1x32, .f32⟩
  | .hbm, ⟨55, _⟩ => ⟨S32, .f32⟩
  | .hbm, ⟨56, _⟩ => ⟨S32, .f32⟩
  | .hbm, ⟨57, _⟩ => ⟨S32x1x1, .f32⟩
  | .hbm, ⟨58, _⟩ => ⟨S32x128x128, .f32⟩
  | .hbm, ⟨59, _⟩ => ⟨S32x128x128, .f32⟩
  | .hbm, ⟨60, _⟩ => ⟨S32x128, .f32⟩
  | .hbm, ⟨61, _⟩ => ⟨S32x128, .f32⟩
  | .hbm, ⟨62, _⟩ => ⟨S32x1, .f32⟩
  | .hbm, ⟨63, _⟩ => ⟨S32x128, .f32⟩
  | .hbm, ⟨64, _⟩ => ⟨S32x128, .f32⟩
  | .hbm, ⟨65, _⟩ => ⟨S32x128x1, .f32⟩
  | .hbm, ⟨66, _⟩ => ⟨S32x1x128, .f32⟩
  | .hbm, ⟨67, _⟩ => ⟨S32x128x128, .f32⟩
  | .hbm, ⟨68, _⟩ => ⟨S32x128x128, .f32⟩
  | .hbm, ⟨69, _⟩ => ⟨S32x128x128, .f32⟩
  | .hbm, ⟨70, _⟩ => ⟨S32x128x128, .f32⟩
  | .hbm, ⟨71, _⟩ => ⟨S32x128, .f32⟩
  | .hbm, ⟨72, _⟩ => ⟨S1x32x128, .f32⟩
  | .hbm, ⟨73, _⟩ => ⟨S_, .i32⟩
  | .hbm, ⟨74, _⟩ => ⟨S_, .i32⟩
  | .hbm, ⟨75, _⟩ => ⟨S8192x32x128, .f32⟩
  | .hbm, ⟨76, _⟩ => ⟨S_, .i32⟩
  | .hbm, ⟨77, _⟩ => ⟨S_, .i32⟩
  | .hbm, ⟨78, _⟩ => ⟨S8192x32x128, .f32⟩
  | .hbm, ⟨79, _⟩ => ⟨S_, .f32⟩
  | .hbm, ⟨80, _⟩ => ⟨S8192x32, .f32⟩
  | .hbm, ⟨81, _⟩ => ⟨S8192x32x1, .f32⟩
  | .hbm, ⟨82, _⟩ => ⟨S_, .f32⟩
  | .hbm, ⟨83, _⟩ => ⟨S8192x32x1, .f32⟩
  | .hbm, ⟨84, _⟩ => ⟨S8192x32x1, .f32⟩
  | .hbm, ⟨85, _⟩ => ⟨S_, .f32⟩
  | .hbm, ⟨86, _⟩ => ⟨S8192x32x1, .f32⟩
  | .hbm, ⟨87, _⟩ => ⟨S8192x32x1, .f32⟩
  | .hbm, ⟨88, _⟩ => ⟨S8192x32x1, .f32⟩
  | .hbm, ⟨89, _⟩ => ⟨S8192x32x128, .f32⟩
  | .hbm, ⟨90, _⟩ => ⟨S8192x32x128, .f32⟩
  | .hbm, ⟨91, _⟩ => ⟨S1x1x128, .f32⟩
  | .hbm, ⟨92, _⟩ => ⟨S8192x32x128, .f32⟩
  | .hbm, ⟨93, _⟩ => ⟨S8192x32x128, .f32⟩
  | .hbm, ⟨94, _⟩ => ⟨S8192x32x128, .f32⟩
  | .hbm, ⟨95, _⟩ => ⟨S8192x32x128, .f32⟩
  | .hbm, ⟨96, _⟩ => ⟨S8192x4096, .f32⟩
  | .hbm, ⟨97, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_c : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v21_3 : Ref sig .tc := ⟨.hbm, 31, rfl⟩
abbrev main_v21_4 : Ref sig .tc := ⟨.hbm, 32, rfl⟩
abbrev main_v21_5 : Ref sig .tc := ⟨.hbm, 33, rfl⟩
abbrev main_v21_6 : Ref sig .tc := ⟨.hbm, 34, rfl⟩
abbrev main_v21_7 : Ref sig .tc := ⟨.hbm, 35, rfl⟩
abbrev main_while0c_c_11 : Ref sig .tc := ⟨.hbm, 36, rfl⟩
abbrev main_while0c_v39 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_v0 : Ref sig .tc := ⟨.hbm, 40, rfl⟩
abbrev main_while0b_v39 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_v0 : Ref sig .tc := ⟨.hbm, 44, rfl⟩
abbrev main_while0b_v40 : Ref sig .tc := ⟨.hbm, 45, rfl⟩
abbrev main_while0b_call2_c : Ref sig .tc := ⟨.hbm, 46, rfl⟩
abbrev main_while0b_call2_c_0 : Ref sig .tc := ⟨.hbm, 47, rfl⟩
abbrev main_while0b_call2_v0 : Ref sig .tc := ⟨.hbm, 48, rfl⟩
abbrev main_while0b_v41 : Ref sig .tc := ⟨.hbm, 49, rfl⟩
abbrev main_while0b_call3_c : Ref sig .tc := ⟨.hbm, 50, rfl⟩
abbrev main_while0b_call3_v0 : Ref sig .tc := ⟨.hbm, 51, rfl⟩
abbrev main_while0b_v42 : Ref sig .tc := ⟨.hbm, 52, rfl⟩
abbrev main_while0b_call4_c : Ref sig .tc := ⟨.hbm, 53, rfl⟩
abbrev main_while0b_call4_v0 : Ref sig .tc := ⟨.hbm, 54, rfl⟩
abbrev main_while0b_v43 : Ref sig .tc := ⟨.hbm, 55, rfl⟩
abbrev main_while0b_v44 : Ref sig .tc := ⟨.hbm, 56, rfl⟩
abbrev main_while0b_v45 : Ref sig .tc := ⟨.hbm, 57, rfl⟩
abbrev main_while0b_v46 : Ref sig .tc := ⟨.hbm, 58, rfl⟩
abbrev main_while0b_v47 : Ref sig .tc := ⟨.hbm, 59, rfl⟩
abbrev main_while0b_v48 : Ref sig .tc := ⟨.hbm, 60, rfl⟩
abbrev main_while0b_v49 : Ref sig .tc := ⟨.hbm, 61, rfl⟩
abbrev main_while0b_v50 : Ref sig .tc := ⟨.hbm, 62, rfl⟩
abbrev main_while0b_v51 : Ref sig .tc := ⟨.hbm, 63, rfl⟩
abbrev main_while0b_v52 : Ref sig .tc := ⟨.hbm, 64, rfl⟩
abbrev main_while0b_v53 : Ref sig .tc := ⟨.hbm, 65, rfl⟩
abbrev main_while0b_v54 : Ref sig .tc := ⟨.hbm, 66, rfl⟩
abbrev main_while0b_v55 : Ref sig .tc := ⟨.hbm, 67, rfl⟩
abbrev main_while0b_v56 : Ref sig .tc := ⟨.hbm, 68, rfl⟩
abbrev main_while0b_v57 : Ref sig .tc := ⟨.hbm, 69, rfl⟩
abbrev main_while0b_v58 : Ref sig .tc := ⟨.hbm, 70, rfl⟩
abbrev main_while0b_v59 : Ref sig .tc := ⟨.hbm, 71, rfl⟩
abbrev main_while0b_call5_v0 : Ref sig .tc := ⟨.hbm, 72, rfl⟩
abbrev main_while0b_call5_c : Ref sig .tc := ⟨.hbm, 73, rfl⟩
abbrev main_while0b_call5_c_0 : Ref sig .tc := ⟨.hbm, 74, rfl⟩
abbrev main_while0b_v60 : Ref sig .tc := ⟨.hbm, 75, rfl⟩
abbrev main_while0b_c_11 : Ref sig .tc := ⟨.hbm, 76, rfl⟩
abbrev main_while0b_v61 : Ref sig .tc := ⟨.hbm, 77, rfl⟩
abbrev main_v22 : Ref sig .tc := ⟨.hbm, 78, rfl⟩
abbrev main_cst_1 : Ref sig .tc := ⟨.hbm, 79, rfl⟩
abbrev main_v23 : Ref sig .tc := ⟨.hbm, 80, rfl⟩
abbrev main_v24 : Ref sig .tc := ⟨.hbm, 81, rfl⟩
abbrev main_cst_2 : Ref sig .tc := ⟨.hbm, 82, rfl⟩
abbrev main_v25 : Ref sig .tc := ⟨.hbm, 83, rfl⟩
abbrev main_v26 : Ref sig .tc := ⟨.hbm, 84, rfl⟩
abbrev main_cst_3 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x8192, .f32⟩
  | .hbm, ⟨23, _⟩ => ⟨S2048x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S1x8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel3.lean ====
abbrev S8192x2048 : Shape := ⟨2, ![8192, 2048]⟩
abbrev S4x1x8192x256 : Shape := ⟨4, ![4, 1, 8192, 256]⟩
abbrev S4x2048 : Shape := ⟨2, ![4, 2048]⟩
abbrev S4x2048x2048 : Shape := ⟨3, ![4, 2048, 2048]⟩
abbrev S4x256x2048 : Shape := ⟨3, ![4, 256, 2048]⟩
abbrev S2048 : Shape := ⟨1, ![2048]⟩
abbrev S1x2048 : Shape := ⟨2, ![1, 2048]⟩
abbrev S512x2048 : Shape := ⟨2, ![512, 2048]⟩
abbrev S1x1x512x256 : Shape := ⟨4, ![1, 1, 512, 256]⟩
abbrev S1x2048x2048 : Shape := ⟨3, ![1, 2048, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩
abbrev S1x1x256x256 : Shape := ⟨4, ![1, 1, 256, 256]⟩
abbrev S256x256 : Shape := ⟨2, ![256, 256]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x1x8192x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S2048, .f32⟩
  | .hbm, ⟨6, _⟩ => ⟨S4x2048x2048, .bf16⟩
  | .hbm, ⟨7, _⟩ => ⟨S4x256x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x512x256, .f32⟩
  | .local _ .vmem, ⟨4, _⟩ => ⟨S1x1x512x256, .f32⟩
  | .local _ .vmem, ⟨5, _⟩ => ⟨S1x2048x2048, .bf16⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x2048 : Shape := ⟨2, ![8192, 2048]⟩
abbrev S4x1x8192x256 : Shape := ⟨4, ![4, 1, 8192, 256]⟩
abbrev S4x2048 : Shape := ⟨2, ![4, 2048]⟩
abbrev S4x2048x2048 : Shape := ⟨3, ![4, 2048, 2048]⟩
abbrev S4x256x2048 : Shape := ⟨3, ![4, 256, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩
abbrev S1x1x8192x256 : Shape := ⟨4, ![1, 1, 8192, 256]⟩
abbrev S8192x256 : Shape := ⟨2, ![8192, 256]⟩
abbrev S1x256x2048 : Shape := ⟨3, ![1, 256, 2048]⟩
abbrev S256x2048 : Shape := ⟨2, ![256, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x8192x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x2048x2048, .f32⟩
  | .hbm, ⟨25, _⟩ => ⟨S2048x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S1x1x8192x256, .f32⟩
  | .hbm, ⟨36, _⟩ => ⟨S8192x256, .f32⟩
  | .hbm, ⟨37, _⟩ => ⟨S1x256x2048, .f32⟩
  | .hbm, ⟨38, _⟩ => ⟨S256x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel4.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x8192, .f32⟩
  | .hbm, ⟨23, _⟩ => ⟨S2048x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S1x8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel5.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x8192, .f32⟩
  | .hbm, ⟨23, _⟩ => ⟨S2048x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S1x8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel6.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x8192, .f32⟩
  | .hbm, ⟨23, _⟩ => ⟨S2048x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S1x8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel7.lean ====
abbrev S8192x2048 : Shape := ⟨2, ![8192, 2048]⟩
abbrev S4x1x8192x256 : Shape := ⟨4, ![4, 1, 8192, 256]⟩
abbrev S4x2048 : Shape := ⟨2, ![4, 2048]⟩
abbrev S4x2048x2048 : Shape := ⟨3, ![4, 2048, 2048]⟩
abbrev S4x256x2048 : Shape := ⟨3, ![4, 256, 2048]⟩
abbrev S2048 : Shape := ⟨1, ![2048]⟩
abbrev S1x2048 : Shape := ⟨2, ![1, 2048]⟩
abbrev S512x2048 : Shape := ⟨2, ![512, 2048]⟩
abbrev S1x1x512x256 : Shape := ⟨4, ![1, 1, 512, 256]⟩
abbrev S1x2048x2048 : Shape := ⟨3, ![1, 2048, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩
abbrev S1x1x256x256 : Shape := ⟨4, ![1, 1, 256, 256]⟩
abbrev S256x256 : Shape := ⟨2, ![256, 256]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x1x8192x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S2048, .f32⟩
  | .hbm, ⟨6, _⟩ => ⟨S4x2048x2048, .bf16⟩
  | .hbm, ⟨7, _⟩ => ⟨S4x256x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x512x256, .f32⟩
  | .local _ .vmem, ⟨4, _⟩ => ⟨S1x1x512x256, .f32⟩
  | .local _ .vmem, ⟨5, _⟩ => ⟨S1x2048x2048, .bf16⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x2048 : Shape := ⟨2, ![8192, 2048]⟩
abbrev S4x1x8192x256 : Shape := ⟨4, ![4, 1, 8192, 256]⟩
abbrev S4x2048 : Shape := ⟨2, ![4, 2048]⟩
abbrev S4x2048x2048 : Shape := ⟨3, ![4, 2048, 2048]⟩
abbrev S4x256x2048 : Shape := ⟨3, ![4, 256, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩
abbrev S1x1x8192x256 : Shape := ⟨4, ![1, 1, 8192, 256]⟩
abbrev S8192x256 : Shape := ⟨2, ![8192, 256]⟩
abbrev S1x256x2048 : Shape := ⟨3, ![1, 256, 2048]⟩
abbrev S256x2048 : Shape := ⟨2, ![256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x8192x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x2048x2048, .f32⟩
  | .hbm, ⟨25, _⟩ => ⟨S2048x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S1x1x8192x256, .f32⟩
  | .hbm, ⟨36, _⟩ => ⟨S8192x256, .f32⟩
  | .hbm, ⟨37, _⟩ => ⟨S1x256x2048, .f32⟩
  | .hbm, ⟨38, _⟩ => ⟨S256x2048, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel8.lean ====
abbrev S8192x2048 : Shape := ⟨2, ![8192, 2048]⟩
abbrev S4x1x8192x256 : Shape := ⟨4, ![4, 1, 8192, 256]⟩
abbrev S4x2048 : Shape := ⟨2, ![4, 2048]⟩
abbrev S4x2048x2048 : Shape := ⟨3, ![4, 2048, 2048]⟩
abbrev S4x256x2048 : Shape := ⟨3, ![4, 256, 2048]⟩
abbrev S2048 : Shape := ⟨1, ![2048]⟩
abbrev S1x2048 : Shape := ⟨2, ![1, 2048]⟩
abbrev S512x2048 : Shape := ⟨2, ![512, 2048]⟩
abbrev S1x1x512x256 : Shape := ⟨4, ![1, 1, 512, 256]⟩
abbrev S1x2048x2048 : Shape := ⟨3, ![1, 2048, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩
abbrev S1x1x256x256 : Shape := ⟨4, ![1, 1, 256, 256]⟩
abbrev S256x256 : Shape := ⟨2, ![256, 256]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x1x8192x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S2048, .f32⟩
  | .hbm, ⟨6, _⟩ => ⟨S4x2048x2048, .bf16⟩
  | .hbm, ⟨7, _⟩ => ⟨S4x256x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x512x256, .f32⟩
  | .local _ .vmem, ⟨4, _⟩ => ⟨S1x1x512x256, .f32⟩
  | .local _ .vmem, ⟨5, _⟩ => ⟨S1x2048x2048, .bf16⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8192x2048 : Shape := ⟨2, ![8192, 2048]⟩
abbrev S4x1x8192x256 : Shape := ⟨4, ![4, 1, 8192, 256]⟩
abbrev S4x2048 : Shape := ⟨2, ![4, 2048]⟩
abbrev S4x2048x2048 : Shape := ⟨3, ![4, 2048, 2048]⟩
abbrev S4x256x2048 : Shape := ⟨3, ![4, 256, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩
abbrev S1x1x8192x256 : Shape := ⟨4, ![1, 1, 8192, 256]⟩
abbrev S8192x256 : Shape := ⟨2, ![8192, 256]⟩
abbrev S1x256x2048 : Shape := ⟨3, ![1, 256, 2048]⟩
abbrev S256x2048 : Shape := ⟨2, ![256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x8192x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x2048x2048, .f32⟩
  | .hbm, ⟨25, _⟩ => ⟨S2048x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S1x1x8192x256, .f32⟩
  | .hbm, ⟨36, _⟩ => ⟨S8192x256, .f32⟩
  | .hbm, ⟨37, _⟩ => ⟨S1x256x2048, .f32⟩
  | .hbm, ⟨38, _⟩ => ⟨S256x2048, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel9.lean ====
abbrev S8192x2048 : Shape := ⟨2, ![8192, 2048]⟩
abbrev S4x1x8192x256 : Shape := ⟨4, ![4, 1, 8192, 256]⟩
abbrev S4x2048 : Shape := ⟨2, ![4, 2048]⟩
abbrev S4x2048x2048 : Shape := ⟨3, ![4, 2048, 2048]⟩
abbrev S4x256x2048 : Shape := ⟨3, ![4, 256, 2048]⟩
abbrev S2048 : Shape := ⟨1, ![2048]⟩
abbrev S1x2048 : Shape := ⟨2, ![1, 2048]⟩
abbrev S512x2048 : Shape := ⟨2, ![512, 2048]⟩
abbrev S1x1x512x256 : Shape := ⟨4, ![1, 1, 512, 256]⟩
abbrev S1x2048x2048 : Shape := ⟨3, ![1, 2048, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩
abbrev S1x1x256x256 : Shape := ⟨4, ![1, 1, 256, 256]⟩
abbrev S256x256 : Shape := ⟨2, ![256, 256]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x1x8192x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S2048, .f32⟩
  | .hbm, ⟨6, _⟩ => ⟨S4x2048x2048, .bf16⟩
  | .hbm, ⟨7, _⟩ => ⟨S4x256x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x512x256, .f32⟩
  | .local _ .vmem, ⟨4, _⟩ => ⟨S1x1x512x256, .f32⟩
  | .local _ .vmem, ⟨5, _⟩ => ⟨S1x2048x2048, .bf16⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, arg0.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x2048 : Shape := ⟨2, ![8192, 2048]⟩
abbrev S4x1x8192x256 : Shape := ⟨4, ![4, 1, 8192, 256]⟩
abbrev S4x2048 : Shape := ⟨2, ![4, 2048]⟩
abbrev S4x2048x2048 : Shape := ⟨3, ![4, 2048, 2048]⟩
abbrev S4x256x2048 : Shape := ⟨3, ![4, 256, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩
abbrev S1x1x8192x256 : Shape := ⟨4, ![1, 1, 8192, 256]⟩
abbrev S8192x256 : Shape := ⟨2, ![8192, 256]⟩
abbrev S1x256x2048 : Shape := ⟨3, ![1, 256, 2048]⟩
abbrev S256x2048 : Shape := ⟨2, ![256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x8192x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x2048x2048, .f32⟩
  | .hbm, ⟨25, _⟩ => ⟨S2048x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S1x1x8192x256, .f32⟩
  | .hbm, ⟨36, _⟩ => ⟨S8192x256, .f32⟩
  | .hbm, ⟨37, _⟩ => ⟨S1x256x2048, .f32⟩
  | .hbm, ⟨38, _⟩ => ⟨S256x2048, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel10.lean ====
abbrev S8192x2048 : Shape := ⟨2, ![8192, 2048]⟩
abbrev S8192x4096 : Shape := ⟨2, ![8192, 4096]⟩
abbrev S2x4096x2048 : Shape := ⟨3, ![2, 4096, 2048]⟩
abbrev S1024x512 : Shape := ⟨2, ![1024, 512]⟩
abbrev S1024x4096 : Shape := ⟨2, ![1024, 4096]⟩
abbrev S1x4096x512 : Shape := ⟨3, ![1, 4096, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S2x4096x2048, .f32⟩
  | .hbm, ⟨3, _⟩ => ⟨S2x4096x2048, .bf16⟩
  | .hbm, ⟨4, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S1024x4096, .bf16⟩
  | .local _ .vmem, ⟨3, _⟩ => ⟨S1024x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .f32⟩
  | .local _ .vmem, ⟨7, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8192x2048 : Shape := ⟨2, ![8192, 2048]⟩
abbrev S8192x4096 : Shape := ⟨2, ![8192, 4096]⟩
abbrev S2x4096x2048 : Shape := ⟨3, ![2, 4096, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S2x4096x2048, .f32⟩
  | .hbm, ⟨3, _⟩ => ⟨S8192x4096, .f32⟩
  | .hbm, ⟨4, _⟩ => ⟨S1x4096x2048, .f32⟩
  | .hbm, ⟨5, _⟩ => ⟨S4096x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x2048 : Shape := ⟨2, ![8192, 2048]⟩
abbrev S8192x4096 : Shape := ⟨2, ![8192, 4096]⟩
abbrev S2x4096x2048 : Shape := ⟨3, ![2, 4096, 2048]⟩
abbrev S1024x512 : Shape := ⟨2, ![1024, 512]⟩
abbrev S1024x4096 : Shape := ⟨2, ![1024, 4096]⟩
abbrev S1x4096x512 : Shape := ⟨3, ![1, 4096, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S2x4096x2048, .f32⟩
  | .hbm, ⟨3, _⟩ => ⟨S2x4096x2048, .bf16⟩
  | .hbm, ⟨4, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S1024x4096, .bf16⟩
  | .local _ .vmem, ⟨3, _⟩ => ⟨S1024x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .f32⟩
  | .local _ .vmem, ⟨7, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x2048 : Shape := ⟨2, ![8192, 2048]⟩
abbrev S8192x4096 : Shape := ⟨2, ![8192, 4096]⟩
abbrev S2x4096x2048 : Shape := ⟨3, ![2, 4096, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S2x4096x2048, .f32⟩
  | .hbm, ⟨3, _⟩ => ⟨S8192x4096, .f32⟩
  | .hbm, ⟨4, _⟩ => ⟨S1x4096x2048, .f32⟩
  | .hbm, ⟨5, _⟩ => ⟨S4096x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x2048 : Shape := ⟨2, ![8192, 2048]⟩
abbrev S4x2048 : Shape := ⟨2, ![4, 2048]⟩
abbrev S2x2048x2048 : Shape := ⟨3, ![2, 2048, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2x2048x2048, .bf16⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x2048 : Shape := ⟨2, ![8192, 2048]⟩
abbrev S4x2048 : Shape := ⟨2, ![4, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x2048, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x2048, .f32⟩
  | .hbm, ⟨22, _⟩ => ⟨S2048x2048, .f32⟩
  | .hbm, ⟨23, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel13.lean ====
abbrev S8192x2048 : Shape := ⟨2, ![8192, 2048]⟩
abbrev S4x2048 : Shape := ⟨2, ![4, 2048]⟩
abbrev S2x2048x2048 : Shape := ⟨3, ![2, 2048, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2x2048x2048, .bf16⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8192x2048 : Shape := ⟨2, ![8192, 2048]⟩
abbrev S4x2048 : Shape := ⟨2, ![4, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x2048, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x2048, .f32⟩
  | .hbm, ⟨22, _⟩ => ⟨S2048x2048, .f32⟩
  | .hbm, ⟨23, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel14.lean ====
abbrev S8192x2048 : Shape := ⟨2, ![8192, 2048]⟩
abbrev S2x2048x4096 : Shape := ⟨3, ![2, 2048, 4096]⟩
abbrev S1024x512 : Shape := ⟨2, ![1024, 512]⟩
abbrev S1024x2048 : Shape := ⟨2, ![1024, 2048]⟩
abbrev S1x2048x512 : Shape := ⟨3, ![1, 2048, 512]⟩
abbrev S256x2048 : Shape := ⟨2, ![256, 2048]⟩
abbrev S256x512 : Shape := ⟨2, ![256, 512]⟩
abbrev S2048x512 : Shape := ⟨2, ![2048, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x2048x4096, .f32⟩
  | .hbm, ⟨3, _⟩ => ⟨S2x2048x4096, .bf16⟩
  | .hbm, ⟨4, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S1024x2048, .f32⟩
  | .local _ .vmem, ⟨3, _⟩ => ⟨S1024x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S8192x2048 : Shape := ⟨2, ![8192, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S8192x4096 : Shape := ⟨2, ![8192, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x2048x4096, .f32⟩
  | .hbm, ⟨3, _⟩ => ⟨S1x2048x4096, .f32⟩
  | .hbm, ⟨4, _⟩ => ⟨S2048x4096, .f32⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel15.lean ====
abbrev S8192x2048 : Shape := ⟨2, ![8192, 2048]⟩
abbrev S2x2048x4096 : Shape := ⟨3, ![2, 2048, 4096]⟩
abbrev S1024x512 : Shape := ⟨2, ![1024, 512]⟩
abbrev S1024x2048 : Shape := ⟨2, ![1024, 2048]⟩
abbrev S1x2048x512 : Shape := ⟨3, ![1, 2048, 512]⟩
abbrev S256x2048 : Shape := ⟨2, ![256, 2048]⟩
abbrev S256x512 : Shape := ⟨2, ![256, 512]⟩
abbrev S2048x512 : Shape := ⟨2, ![2048, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x2048x4096, .f32⟩
  | .hbm, ⟨3, _⟩ => ⟨S2x2048x4096, .bf16⟩
  | .hbm, ⟨4, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S1024x2048, .f32⟩
  | .local _ .vmem, ⟨3, _⟩ => ⟨S1024x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S8192x2048 : Shape := ⟨2, ![8192, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S8192x4096 : Shape := ⟨2, ![8192, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x2048x4096, .f32⟩
  | .hbm, ⟨3, _⟩ => ⟨S1x2048x4096, .f32⟩
  | .hbm, ⟨4, _⟩ => ⟨S2048x4096, .f32⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.GdnMath.lean ====
module

public import Mathlib.LinearAlgebra.Matrix.NonsingularInverse
public import Mathlib.Analysis.Complex.Exponential
public import Mathlib.Tactic.NoncommRing
public import Mathlib.Tactic.Linarith
public import Mathlib.Tactic.Ring

@[expose] public section

noncomputable section

namespace Cert.GdnMath

/-! ## The chunked delta rule against its token recurrence, over the reals -/

local notation "C64" => Matrix (Fin 64) (Fin 64) ℝ

/-- The entries joining the two halves of a block of `2 b`. -/
def join (b : ℕ) (A : C64) : C64 := fun i j => if i.val / (2 * b) = j.val / (2 * b) ∧ i.val / b ≠ j.val / b then A i j else 0

/-- The entries inside the blocks of `b`. -/
def inner (b : ℕ) (A : C64) : C64 := fun i j => if i.val / b = j.val / b then A i j else 0

/-- One merge of block inverses. -/
def merge (b : ℕ) (A T : C64) : C64 := T - T * join b A * T

/-- `T` is block diagonal and inverts the blocks of `1 + A`. -/
def Inverts (b : ℕ) (A T : C64) : Prop := (∀ i j : Fin 64, i.val / b ≠ j.val / b → T i j = 0) ∧ T * (1 + inner b A) = 1

theorem inner_double (b : ℕ) (A : C64) : inner (2 * b) A = inner b A + join b A := by
  ext i j
  simp only [inner, join, Matrix.add_apply]
  by_cases h : i.val / b = j.val / b
  · have h2 : i.val / (2 * b) = j.val / (2 * b) := by
      rw [Nat.mul_comm, ← Nat.div_div_eq_div_mul, ← Nat.div_div_eq_div_mul, h]
    simp [h, h2]
  · by_cases h2 : i.val / (2 * b) = j.val / (2 * b) <;> simp [h, h2]

theorem join_inner_zero (b : ℕ) (A T : C64) (hA : ∀ i j : Fin 64, i ≤ j → A i j = 0)
    (hT : ∀ i j : Fin 64, i.val / b ≠ j.val / b → T i j = 0) : join b A * T * join b A = 0 := by
  ext i j
  simp only [Matrix.mul_apply, Matrix.zero_apply, Finset.sum_mul]
  refine Finset.sum_eq_zero fun m _ => Finset.sum_eq_zero fun l _ => ?_
  by_cases h1 : l.val / b = m.val / b
  swap
  · rw [hT l m h1]; ring
  unfold join
  split_ifs with h2 h3 <;> try ring
  by_cases hil : i ≤ l
  · rw [hA i l hil]; ring
  by_cases hmj : m ≤ j
  · rw [hA m j hmj]; ring
  exfalso
  have e1 : l.val / b < i.val / b := lt_of_le_of_ne (Nat.div_le_div_right (by have := not_le.mp hil; exact le_of_lt this)) (Ne.symm h2.2)
  have e2 : j.val / b < m.val / b := lt_of_le_of_ne (Nat.div_le_div_right (by have := not_le.mp hmj; exact le_of_lt this)) (Ne.symm h3.2)
  have a1 := h2.1
  have a2 := h3.1
  rw [Nat.mul_comm, ← Nat.div_div_eq_div_mul, ← Nat.div_div_eq_div_mul] at a1 a2
  omega

theorem Inverts.step {b : ℕ} {A T : C64} (hA : ∀ i j : Fin 64, i ≤ j → A i j = 0) (h : Inverts b A T) : Inverts (2 * b) A (merge b A T) := by
  refine ⟨fun i j hij => ?_, ?_⟩
  · have key : ∀ l m : Fin 64, l.val / b = m.val / b → l.val / (2 * b) = m.val / (2 * b) := fun l m e => by
      rw [Nat.mul_comm, ← Nat.div_div_eq_div_mul, ← Nat.div_div_eq_div_mul, e]
    have hij' : i.val / b ≠ j.val / b := fun e => hij (key i j e)
    simp only [merge, Matrix.sub_apply, h.1 i j hij', Matrix.mul_apply, Finset.sum_mul]
    rw [zero_sub, neg_eq_zero]
    refine Finset.sum_eq_zero fun m _ => Finset.sum_eq_zero fun l _ => ?_
    by_cases h1 : i.val / b = l.val / b
    swap
    · rw [h.1 i l h1]; ring
    by_cases h2 : m.val / b = j.val / b
    swap
    · rw [h.1 m j h2]; ring
    unfold join
    rw [if_neg fun e => hij ((key i l h1).trans (e.1.trans (key m j h2)))]
    ring
  · have z := join_inner_zero b A T hA h.1
    have e := h.2
    rw [inner_double, merge]
    set J := join b A
    set I := inner b A
    have : (T - T * J * T) * (1 + (I + J)) = T * (1 + I) + T * J - T * J * (T * (1 + I)) - T * (J * T * J) := by noncomm_ring
    rw [this, e, z]
    noncomm_ring

/-- The inverse of `1 + A`, by doubling. -/
def Tinv (A : C64) : C64 := merge 32 A (merge 16 A (merge 8 A (merge 4 A (merge 2 A (1 - join 1 A)))))

theorem Tinv_mul {A : C64} (hA : ∀ i j : Fin 64, i ≤ j → A i j = 0) : Tinv A * (1 + A) = 1 := by
  have h1 : Inverts 1 A 1 := by
    refine ⟨fun i j h => Matrix.one_apply_ne fun e => h (by rw [e]), ?_⟩
    have : inner 1 A = 0 := by
      ext i j
      simp only [inner, Nat.div_one, Matrix.zero_apply]
      split_ifs with h
      · exact hA i j (le_of_eq (Fin.ext h))
      · rfl
    rw [this]; simp
  have h2 : Inverts 2 A (1 - join 1 A) := by
    have := h1.step hA
    simpa [merge] using this
  have h64 := ((((h2.step hA).step hA).step hA).step hA).step hA
  have := h64.2
  have e : inner (2 * (2 * (2 * (2 * (2 * 2))))) A = A := by
    ext i j
    have := i.isLt
    have := j.isLt
    simp only [inner]
    rw [if_pos (by omega)]
  rw [e] at this
  exact this

/-! ### A chunk -/

section Chunk
variable (q k v : Fin 64 → Fin 128 → ℝ) (β γ : Fin 64 → ℝ)

def cA : C64 := fun i j => if j < i then β i * (∑ d, k i d * k j d) * Real.exp (γ i - γ j) else 0
def cW (i : Fin 64) (c : Fin 128) : ℝ := ∑ l, Tinv (cA k β γ) i l * (k l c * (β l * Real.exp (γ l)))
def cU (i : Fin 64) (c : Fin 128) : ℝ := ∑ l, Tinv (cA k β γ) i l * (v l c * β l)
def cP (i j : Fin 64) : ℝ := if j ≤ i then (∑ d, q i d * k j d) * Real.exp (γ i - γ j) else 0
def cQW (i : Fin 64) (c : Fin 128) : ℝ := ∑ j, cP q k γ i j * cW k β γ j c
def cQU (i : Fin 64) (c : Fin 128) : ℝ := ∑ j, cP q k γ i j * cU k v β γ j c
def cKD (i : Fin 64) (a : Fin 128) : ℝ := k i a * Real.exp (γ 63 - γ i)
def cM (a b : Fin 128) : ℝ := ∑ i, cKD k γ i a * cW k β γ i b
def cN (a b : Fin 128) : ℝ := ∑ i, cKD k γ i a * cU k v β γ i b
def cQe (i : Fin 64) (c : Fin 128) : ℝ := q i c * Real.exp (γ i) - cQW q k β γ i c
def cS (S : Fin 128 → Fin 128 → ℝ) (a b : Fin 128) : ℝ := S a b * Real.exp (γ 63) - ∑ c, cM k β γ a c * S c b + cN k v β γ a b
def cO (S : Fin 128 → Fin 128 → ℝ) (i : Fin 64) (b : Fin 128) : ℝ := ∑ c, cQe q k β γ i c * S c b + cQU q k v β γ i b

/-- The solved updates of a chunk. -/
def cV (S : Fin 128 → Fin 128 → ℝ) (i : Fin 64) (b : Fin 128) : ℝ := cU k v β γ i b - ∑ c, cW k β γ i c * S c b

theorem solve (R : Fin 64 → ℝ) (i : Fin 64) :
    (∑ l, Tinv (cA k β γ) i l * R l) + ∑ j, cA k β γ i j * (∑ l, Tinv (cA k β γ) j l * R l) = R i := by
  have h := mul_eq_one_comm.mp (Tinv_mul (A := cA k β γ) fun i j hij => if_neg (not_lt.mpr hij))
  have h2 : ((1 + cA k β γ) * Tinv (cA k β γ)).mulVec R i = R i := by rw [h, Matrix.one_mulVec]
  rw [← Matrix.mulVec_mulVec, Matrix.add_mulVec, Matrix.one_mulVec] at h2
  exact h2

theorem cV_eq (S : Fin 128 → Fin 128 → ℝ) (i : Fin 64) (b : Fin 128) :
    cV k v β γ S i b = β i * (v i b - ∑ a, k i a * (Real.exp (γ i) * S a b + ∑ j, if j < i then Real.exp (γ i - γ j) * (k j a * cV k v β γ S j b) else 0)) := by
  have hU := solve k β γ (fun l => v l b * β l) i
  have hW : ∀ c, cW k β γ i c + ∑ j, cA k β γ i j * cW k β γ j c = k i c * (β i * Real.exp (γ i)) := fun c => solve k β γ (fun l => k l c * (β l * Real.exp (γ l))) i
  have hV : cV k v β γ S i b + ∑ j, cA k β γ i j * cV k v β γ S j b = v i b * β i - ∑ c, (k i c * (β i * Real.exp (γ i))) * S c b := by
    have e1 : ∑ j, cA k β γ i j * cV k v β γ S j b = (∑ j, cA k β γ i j * cU k v β γ j b) - ∑ c, (∑ j, cA k β γ i j * cW k β γ j c) * S c b := by
      simp only [cV, mul_sub, Finset.sum_sub_distrib, Finset.mul_sum, Finset.sum_mul]
      congr 1
      rw [Finset.sum_comm]
      refine Finset.sum_congr rfl fun c _ => Finset.sum_congr rfl fun j _ => by ring
    rw [e1]
    have hU' : cU k v β γ i b + ∑ j, cA k β γ i j * cU k v β γ j b = v i b * β i := hU
    rw [← hU']
    simp only [← hW, add_mul, Finset.sum_add_distrib]
    unfold cV
    ring
  have e2 : cV k v β γ S i b = v i b * β i - ∑ c, (k i c * (β i * Real.exp (γ i))) * S c b - ∑ j, cA k β γ i j * cV k v β γ S j b := by linarith
  refine e2.trans ?_
  have e3 : ∑ j, cA k β γ i j * cV k v β γ S j b = β i * ∑ a, k i a * ∑ j, (if j < i then Real.exp (γ i - γ j) * (k j a * cV k v β γ S j b) else 0) := by
    simp only [Finset.mul_sum]
    rw [Finset.sum_comm]
    refine Finset.sum_congr rfl fun j _ => ?_
    by_cases h : j < i
    · simp only [cA, if_pos h, Finset.mul_sum, Finset.sum_mul]
      refine Finset.sum_congr rfl fun a _ => by ring
    · simp [cA, if_neg h]
  rw [e3]
  simp only [mul_add, Finset.sum_add_distrib, mul_sub, Finset.mul_sum]
  have e4 : ∑ c, k i c * (β i * Real.exp (γ i)) * S c b = ∑ c, β i * (k i c * (Real.exp (γ i) * S c b)) := Finset.sum_congr rfl fun c _ => by ring
  rw [e4]
  ring
end Chunk

/-! ### The recurrence -/

section Rec
variable (q k v : ℕ → Fin 128 → ℝ) (β γ : ℕ → ℝ)

/-- The log decay of one token, out of the decays accumulated in its chunk. -/
def gam (t : ℕ) : ℝ := if t % 64 = 0 then γ t else γ t - γ (t - 1)
/-- One token's update of the state. -/
def upd (t : ℕ) (S : Fin 128 → Fin 128 → ℝ) (a b : Fin 128) : ℝ :=
  S a b * Real.exp (gam γ t) + β t * k t a * (v t b - ∑ c, S c b * Real.exp (gam γ t) * k t c)
/-- The state before token `t`. -/
def RS : ℕ → Fin 128 → Fin 128 → ℝ
  | 0 => fun _ _ => 0
  | t + 1 => upd k v β γ t (RS t)
/-- The output of token `t`. -/
def RO (t : ℕ) (b : Fin 128) : ℝ := ∑ c, RS k v β γ (t + 1) c b * q t c

/-- The values on chunk `C`. -/
def ch {α : Type} (C : ℕ) (f : ℕ → α) (i : Fin 64) : α := f (64 * C + i.val)

variable (C : ℕ)

theorem within (n : ℕ) (hn : n < 64) (a b : Fin 128) :
    RS k v β γ (64 * C + n + 1) a b = Real.exp (γ (64 * C + n)) * RS k v β γ (64 * C) a b
      + ∑ j : Fin 64, if j.val ≤ n then Real.exp (γ (64 * C + n) - γ (64 * C + j.val)) * (k (64 * C + j.val) a * cV (ch C k) (ch C v) (ch C β) (ch C γ) (RS k v β γ (64 * C)) j b) else 0 := by
  induction n generalizing a b with
  | zero =>
    have hd : ∀ a b, RS k v β γ (64 * C + 0) a b * Real.exp (gam γ (64 * C + 0)) = Real.exp (γ (64 * C + 0)) * RS k v β γ (64 * C) a b
        + ∑ j : Fin 64, if j.val < 0 then Real.exp (γ (64 * C + 0) - γ (64 * C + j.val)) * (k (64 * C + j.val) a * cV (ch C k) (ch C v) (ch C β) (ch C γ) (RS k v β γ (64 * C)) j b) else 0 := by
      intro a b
      have : gam γ (64 * C + 0) = γ (64 * C + 0) := if_pos (by omega)
      rw [this]
      simp [mul_comm]
    exact sub_step 0 hn hd a b
  | succ n ih =>
    have hd : ∀ a b, RS k v β γ (64 * C + (n + 1)) a b * Real.exp (gam γ (64 * C + (n + 1))) = Real.exp (γ (64 * C + (n + 1))) * RS k v β γ (64 * C) a b
        + ∑ j : Fin 64, if j.val < n + 1 then Real.exp (γ (64 * C + (n + 1)) - γ (64 * C + j.val)) * (k (64 * C + j.val) a * cV (ch C k) (ch C v) (ch C β) (ch C γ) (RS k v β γ (64 * C)) j b) else 0 := by
      intro a b
      have e : gam γ (64 * C + (n + 1)) = γ (64 * C + (n + 1)) - γ (64 * C + n) := if_neg (by omega)
      have ih' : RS k v β γ (64 * C + (n + 1)) a b = _ := ih (by omega) a b
      rw [e, ih', add_mul, Finset.sum_mul]
      congr 1
      · rw [mul_right_comm, ← Real.exp_add]; congr 2; ring
      · refine Finset.sum_congr rfl fun j _ => ?_
        by_cases h : j.val ≤ n
        · rw [if_pos h, if_pos (Nat.lt_succ_of_le h), mul_right_comm, ← Real.exp_add]; congr 2; ring
        · rw [if_neg h, if_neg (by omega), zero_mul]
    exact sub_step (n + 1) hn hd a b
where
  sub_step (n : ℕ) (hn : n < 64) (hd : ∀ a b, RS k v β γ (64 * C + n) a b * Real.exp (gam γ (64 * C + n)) = Real.exp (γ (64 * C + n)) * RS k v β γ (64 * C) a b
        + ∑ j : Fin 64, if j.val < n then Real.exp (γ (64 * C + n) - γ (64 * C + j.val)) * (k (64 * C + j.val) a * cV (ch C k) (ch C v) (ch C β) (ch C γ) (RS k v β γ (64 * C)) j b) else 0) (a b : Fin 128) :
      RS k v β γ (64 * C + n + 1) a b = Real.exp (γ (64 * C + n)) * RS k v β γ (64 * C) a b
        + ∑ j : Fin 64, if j.val ≤ n then Real.exp (γ (64 * C + n) - γ (64 * C + j.val)) * (k (64 * C + j.val) a * cV (ch C k) (ch C v) (ch C β) (ch C γ) (RS k v β γ (64 * C)) j b) else 0 := by
    have hs := cV_eq (ch C k) (ch C v) (ch C β) (ch C γ) (RS k v β γ (64 * C)) ⟨n, hn⟩ b
    show upd k v β γ (64 * C + n) (RS k v β γ (64 * C + n)) a b = _
    unfold upd
    simp only [hd]
    have e5 : β (64 * C + n) * k (64 * C + n) a * (v (64 * C + n) b - ∑ c, (Real.exp (γ (64 * C + n)) * RS k v β γ (64 * C) c b
        + ∑ j : Fin 64, if j.val < n then Real.exp (γ (64 * C + n) - γ (64 * C + j.val)) * (k (64 * C + j.val) c * cV (ch C k) (ch C v) (ch C β) (ch C γ) (RS k v β γ (64 * C)) j b) else 0) * k (64 * C + n) c)
        = k (64 * C + n) a * cV (ch C k) (ch C v) (ch C β) (ch C γ) (RS k v β γ (64 * C)) ⟨n, hn⟩ b := by
      rw [hs]
      simp only [Fin.lt_def, ch]
      rw [mul_comm (β (64 * C + n)), mul_assoc]
      congr 3
      refine Finset.sum_congr rfl fun c _ => mul_comm _ _
    rw [e5, add_assoc]
    congr 1
    have e6 : ∀ f : Fin 64 → ℝ, (∑ j : Fin 64, if j.val ≤ n then f j else 0) = (∑ j : Fin 64, if j.val < n then f j else 0) + f ⟨n, hn⟩ := by
      intro f
      have : ∀ j : Fin 64, (if j.val ≤ n then f j else 0) = (if j.val < n then f j else 0) + (if j = ⟨n, hn⟩ then f j else 0) := by
        intro j
        by_cases h : j.val < n
        · rw [if_pos h, if_pos (le_of_lt h), if_neg (fun e => by rw [e] at h; exact lt_irrefl _ h), add_zero]
        · by_cases h2 : j = ⟨n, hn⟩
          · subst h2; simp
          · have : ¬ j.val ≤ n := fun h3 => h2 (Fin.ext (by show j.val = n; omega))
            rw [if_neg h, if_neg this, if_neg h2, add_zero]
      rw [Finset.sum_congr rfl fun j _ => this j, Finset.sum_add_distrib, Finset.sum_ite_eq' Finset.univ]
      simp
    rw [e6]
    simp

/-- A chunk's operators carry the recurrence across it. -/
theorem chunk_state (a b : Fin 128) : cS (ch C k) (ch C v) (ch C β) (ch C γ) (RS k v β γ (64 * C)) a b = RS k v β γ (64 * (C + 1)) a b := by
  have h := within k v β γ C 63 (by decide) a b
  have e : 64 * C + 63 + 1 = 64 * (C + 1) := by ring
  rw [e] at h
  rw [h]
  have e1 : ∀ j : Fin 64, j.val ≤ 63 := fun j => by omega
  simp only [e1, if_true, cS, cM, cN, cKD, cV, ch, Finset.sum_mul]
  rw [Finset.sum_comm, sub_add, ← Finset.sum_sub_distrib, sub_eq_add_neg, ← Finset.sum_neg_distrib, mul_comm]
  congr 1
  refine Finset.sum_congr rfl fun j _ => ?_
  rw [neg_sub]
  simp only [mul_sub, Finset.mul_sum]
  congr 1
  · show k _ a * Real.exp (γ (64 * C + 63) - _) * _ = _
    ring
  · refine Finset.sum_congr rfl fun c _ => ?_
    show k _ a * Real.exp (γ (64 * C + 63) - _) * _ * _ = _
    ring

/-- A chunk's operators give its outputs. -/
theorem chunk_out (i : Fin 64) (b : Fin 128) : cO (ch C q) (ch C k) (ch C v) (ch C β) (ch C γ) (RS k v β γ (64 * C)) i b = RO q k v β γ (64 * C + i.val) b := by
  have h := fun c => within k v β γ C i.val i.isLt c b
  unfold RO
  simp only [h, cO, cQe, cQW, cQU, ch, sub_mul, Finset.sum_sub_distrib, add_mul, Finset.sum_add_distrib, Finset.sum_mul]
  rw [sub_add, sub_eq_add_neg]
  congr 1
  · refine Finset.sum_congr rfl fun c _ => by ring
  · rw [neg_sub, Finset.sum_comm, ← Finset.sum_sub_distrib]
    conv_rhs => rw [Finset.sum_comm]
    refine Finset.sum_congr rfl fun j _ => ?_
    by_cases hj : j ≤ i
    · have hj' : j.val ≤ i.val := hj
      simp only [cP, if_pos hj, if_pos hj', cV, ch, Finset.sum_mul, mul_sub, sub_mul, Finset.sum_sub_distrib, Finset.mul_sum]
      congr 1
      · refine Finset.sum_congr rfl fun c _ => by ring
      · rw [Finset.sum_comm]
        refine Finset.sum_congr rfl fun c _ => Finset.sum_congr rfl fun d _ => by ring
    · have hj' : ¬ j.val ≤ i.val := hj
      simp [cP, if_neg hj, if_neg hj']
end Rec

end Cert.GdnMath
end
-- ==== Proof.GdnArr.lean ====
module

public import proofs.«01_k».proof.Proof.GdnMath
public import proofs.«01_k».proof.Proof.Gen.Pre_tame
public import Idealize.ShloMosaic.Lib.Pipeline.ValueKit
public import Idealize.ShloMosaic.Lib.Pointwise

@[expose] public section

set_option maxRecDepth 16384

noncomputable section

namespace Cert.GdnArr
open Idealize.ShloMosaic Idealize.ShloMosaic.TcCoe Idealize.SL.Sem

/-! ## The arrays both programs read, as real token functions -/

/-- The tokens' queries, keys and values, and their gates. -/
abbrev Qkv := FVec Ideal (⟨2, ![8192, 8192]⟩ : Shape) .f32
abbrev Gates := FVec Ideal (⟨2, ![8192, 128]⟩ : Shape) .f32

/-- Finite entries where the recurrence reads, and decays that do not grow inside a chunk. -/
structure Tame (a0 : Qkv) (a2 : Gates) : Prop where
  h0 : ∀ t c, a0 (ix2 t c) = ((a0 (ix2 t c) : EReal).toReal : EReal)
  h2 : ∀ t (c : Fin 128), c.val < 64 → a2 (ix2 t c) = ((a2 (ix2 t c) : EReal).toReal : EReal)
  hm : ∀ (t : Fin 8192) (c : Fin 32), t.val % 64 ≠ 0 → (a2 (ix2 t ⟨32 + c.val, by omega⟩) : EReal) ≤ a2 (ix2 ⟨t.val - 1, by omega⟩ ⟨32 + c.val, by omega⟩)

variable (a0 : Qkv) (a2 : Gates) (H : Fin 32)

def qR (t : ℕ) (c : Fin 128) : ℝ := if h : t < 8192 then (a0 (ix2 ⟨t, h⟩ ⟨128 * (H.val / 2) + c.val, by omega⟩) : EReal).toReal else 0
def kR (t : ℕ) (c : Fin 128) : ℝ := if h : t < 8192 then (a0 (ix2 ⟨t, h⟩ ⟨2048 + 128 * (H.val / 2) + c.val, by omega⟩) : EReal).toReal else 0
def vR (t : ℕ) (c : Fin 128) : ℝ := if h : t < 8192 then (a0 (ix2 ⟨t, h⟩ ⟨4096 + 128 * H.val + c.val, by omega⟩) : EReal).toReal else 0
def bR (t : ℕ) : ℝ := if h : t < 8192 then (a2 (ix2 ⟨t, h⟩ ⟨H.val, by omega⟩) : EReal).toReal else 0
def gR (t : ℕ) : ℝ := if h : t < 8192 then (a2 (ix2 ⟨t, h⟩ ⟨32 + H.val, by omega⟩) : EReal).toReal else 0

variable {a0 a2}

section
variable (h : Tame a0 a2)
include h
theorem q_coe (t : Fin 8192) (c : Fin 128) : a0 (ix2 t ⟨128 * (H.val / 2) + c.val, by omega⟩) = ((qR a0 H t.val c : ℝ) : EReal) := by
  rw [h.h0]; unfold qR; rw [dif_pos t.isLt]
theorem k_coe (t : Fin 8192) (c : Fin 128) : a0 (ix2 t ⟨2048 + 128 * (H.val / 2) + c.val, by omega⟩) = ((kR a0 H t.val c : ℝ) : EReal) := by
  rw [h.h0]; unfold kR; rw [dif_pos t.isLt]
theorem v_coe (t : Fin 8192) (c : Fin 128) : a0 (ix2 t ⟨4096 + 128 * H.val + c.val, by omega⟩) = ((vR a0 H t.val c : ℝ) : EReal) := by
  rw [h.h0]; unfold vR; rw [dif_pos t.isLt]
theorem b_coe (t : Fin 8192) : a2 (ix2 t ⟨H.val, by omega⟩) = ((bR a2 H t.val : ℝ) : EReal) := by
  rw [h.h2 _ _ (by show H.val < 64; omega)]; unfold bR; rw [dif_pos t.isLt]
theorem g_coe (t : Fin 8192) : a2 (ix2 t ⟨32 + H.val, by omega⟩) = ((gR a2 H t.val : ℝ) : EReal) := by
  rw [h.h2 _ _ (by show 32 + H.val < 64; omega)]; unfold gR; rw [dif_pos t.isLt]

theorem g_step (t : ℕ) (ht : t < 8192) (h64 : t % 64 ≠ 0) : gR a2 H t ≤ gR a2 H (t - 1) := by
  have := h.hm ⟨t, ht⟩ H h64
  rw [g_coe H h ⟨t, ht⟩, g_coe H h ⟨t - 1, by omega⟩] at this
  exact EReal.coe_le_coe_iff.mp this

/-- Inside a chunk the decays do not grow. -/
theorem g_mono (C : ℕ) (hC : C < 128) (i j : Fin 64) (hij : j ≤ i) : Cert.GdnMath.ch C (gR a2 H) i ≤ Cert.GdnMath.ch C (gR a2 H) j := by
  unfold Cert.GdnMath.ch
  have key : ∀ d : ℕ, j.val + d < 64 → gR a2 H (64 * C + (j.val + d)) ≤ gR a2 H (64 * C + j.val) := by
    intro d
    induction d with
    | zero => intro _; exact le_refl _
    | succ d ih =>
      intro hd
      refine le_trans ?_ (ih (by omega))
      exact g_step H h (64 * C + (j.val + (d + 1))) (by omega) (by omega)
  have e := key (i.val - j.val) (by have := i.isLt; omega)
  have : j.val + (i.val - j.val) = i.val := by have : j.val ≤ i.val := hij; omega
  rwa [this] at e
end

/-! ### The precondition -/

section
variable (a1 : FVec Ideal (⟨2, ![8192, 4096]⟩ : Shape) .f32) (a3 : FVec Ideal (⟨1, ![128]⟩ : Shape) .f32)

theorem finite_of_lt {x y : EReal} (h : max x (-x) < y) : x = (x.toReal : EReal) := by
  have h1 : x < ⊤ := lt_of_le_of_lt (le_max_left _ _) (lt_top_of_lt h)
  have h2 : -x < ⊤ := lt_of_le_of_lt (le_max_right _ _) (lt_top_of_lt h)
  refine (EReal.coe_toReal (ne_of_lt h1) ?_).symm
  rintro rfl
  simp at h2

theorem of_bit {p : Prop} [Decidable p] (h : BitVec.ofBool (decide p) = 1#1) : p := by
  by_cases e : p
  · exact e
  · rw [decide_eq_false e] at h
    exact absurd h (by decide)

/-- An entry of the precondition's bits. -/
theorem fn_at (t : Fin 8192) (c : Fin 8288) :
    @Cert.Pre_tame.fn Cert.Pre_tame.Gen.facts Ideal _ a0 a1 a2 a3 (ix2 t c) =
      if h : c.val < 8192 then BitVec.ofBool (decide (max (a0 (ix2 t ⟨c.val, h⟩) : EReal) (-(a0 (ix2 t ⟨c.val, h⟩) : EReal)) < Ideal.ofBits .f32 2139095040#32))
      else if h' : c.val - 8192 < 64 then
        BitVec.ofBool (decide (max (a2 (ix2 t ⟨c.val - 8192, by omega⟩) : EReal) (-(a2 (ix2 t ⟨c.val - 8192, by omega⟩) : EReal)) < Ideal.ofBits .f32 2139095040#32))
      else if t.val % 64 < 1 then
        BitVec.ofBool (decide ((a2 (ix2 t ⟨32 + (c.val - 8192 - 64), by omega⟩) : EReal) ≤ a2 (ix2 t ⟨32 + (c.val - 8192 - 64), by omega⟩)))
      else BitVec.ofBool (decide ((a2 (ix2 ⟨t.val / 64 * 64 + (1 + (t.val % 64 - 1)), by omega⟩ ⟨32 + (c.val - 8192 - 64), by omega⟩) : EReal) ≤
          a2 (ix2 ⟨t.val / 64 * 64 + (t.val % 64 - 1), by omega⟩ ⟨32 + (c.val - 8192 - 64), by omega⟩))) := by
  pointwise [Cert.Pre_tame.fn]
  rfl

/-- The precondition says the arrays are tame. -/
theorem tame_of_fn (h : @Cert.Pre_tame.fn Cert.Pre_tame.Gen.facts Ideal _ a0 a1 a2 a3 = fun _ => 1#1) : Tame a0 a2 where
  h0 t c := by
    have e := (fn_at a1 a3 (a0 := a0) (a2 := a2) t ⟨c.val, by omega⟩).symm.trans (congrFun h _)
    rw [dif_pos (show c.val < 8192 from c.isLt)] at e
    exact finite_of_lt (of_bit e)
  h2 t c hc := by
    have e := (fn_at a1 a3 (a0 := a0) (a2 := a2) t ⟨8192 + c.val, by omega⟩).symm.trans (congrFun h _)
    rw [dif_neg (show ¬ 8192 + c.val < 8192 by omega), dif_pos (show 8192 + c.val - 8192 < 64 by omega)] at e
    have q := finite_of_lt (of_bit e)
    simpa only [Nat.add_sub_cancel_left] using q
  hm t c ht := by
    have e := (fn_at a1 a3 (a0 := a0) (a2 := a2) t ⟨8192 + (64 + c.val), by omega⟩).symm.trans (congrFun h _)
    rw [dif_neg (show ¬ 8192 + (64 + c.val) < 8192 by omega), dif_neg (show ¬ 8192 + (64 + c.val) - 8192 < 64 by omega), if_neg (show ¬ t.val % 64 < 1 by omega)] at e
    have q := of_bit e
    have e1 : t.val / 64 * 64 + (1 + (t.val % 64 - 1)) = t.val := by omega
    have e2 : t.val / 64 * 64 + (t.val % 64 - 1) = t.val - 1 := by omega
    simpa only [Nat.add_sub_cancel_left, e1, e2] using q
end
end Cert.GdnArr
end
-- ==== Proof.GdnStage.lean ====
module

public import proofs.«01_k».proof.Proof.Gen.KernelIdeal.Frame

@[expose] public section

set_option maxRecDepth 16384

noncomputable section
open Idealize.ShloMosaic Idealize.ShloMosaic.TcCoe Idealize.SL.Sem

namespace Cert.KernelIdeal.Gdn
open Cert.KernelIdeal Cert.KernelIdeal.Gen

variable {F : FTy → Type} [FloatOps F]

/-! ## The stages of one block of the delta-rule kernel, as functions of the vectors they read -/

/-- Floor division of every entry by a constant. -/
noncomputable def fdivI (x : IVec S64x256 32) (b : BitVec 32) : IVec S64x256 32 :=
  select (andi (cmpi .ne (subi (extui 32 (cmpi .sgt x (broadcast S64x256 0#32)) natLt_1_32) (extui 32 (cmpi .slt x (broadcast S64x256 0#32)) natLt_1_32))
      (broadcast S64x256 (Scalar.subi (Scalar.extui (Scalar.cmpi .sgt b 0#32)) (Scalar.extui (Scalar.cmpi .slt b 0#32)))))
    (cmpi .ne (remsi x (broadcast S64x256 b)) (broadcast S64x256 0#32)))
    (subi (divsi x (broadcast S64x256 b)) (broadcast S64x256 1#32)) (divsi x (broadcast S64x256 b))

/-- The row number of an entry of a packed slab. -/
noncomputable def pI : IVec S64x256 32 := iota .tc S64x256 32 [0] iota_S64x256_d0_w32

/-- The merge mask of size `b`: same pair of halves, different half. -/
noncomputable def mM (b2 b : BitVec 32) : IVec S64x256 1 :=
  andi (cmpi .eq (fdivI pI b2) (fdivI k0_pay156 b2)) (cmpi .ne (fdivI pI b) (fdivI k0_pay156 b))

noncomputable def mStrict : IVec S256x256 1 := kernelRun0_B.sl.r_2
noncomputable def mCausal : IVec S256x256 1 := kernelRun0_B.sl.r_1
noncomputable def bdm : FVec F S256x256 .bf16 := kernelRun0_B.sl.r_3

/-- One lane of the gates as a column. -/
noncomputable def laneCol (h : BitVec 32) (G : FVec F S1024x128 .f32) : FVec F S1024x1 .f32 :=
  shapeCast S1024x1 (multiReduction .add [1] S1024 (select (cmpi .eq kernelRun0_B.sl.v16 (broadcast S1024x128 h)) G
    (broadcast S1024x128 (Scalar.ofBits .f32 0x00000000#32))) 0x00000000#32 reduces_S1024x128_S1024 (.inl rfl) rfl) shapeCasts_S1024_S1024x1

noncomputable def bcol (a0 e : BitVec 32) (G : FVec F S1024x128 .f32) : FVec F S1024x1 .f32 := laneCol (Scalar.addi (Scalar.muli 2#32 a0) e) G
noncomputable def gcol (a0 e : BitVec 32) (G : FVec F S1024x128 .f32) : FVec F S1024x1 .f32 := laneCol (Scalar.addi 32#32 (Scalar.addi (Scalar.muli 2#32 a0) e)) G

/-- Group `g` of a column, and of a row. -/
noncomputable def cut (x : FVec F S1024x1 .f32) : Fin 4 → FVec F S256x1 .f32
  | 0 => extractStridedSlice S256x1 ![0, 0] x slices_S1024x1_o0_0_S256x1
  | 1 => extractStridedSlice S256x1 ![256, 0] x slices_S1024x1_o256_0_S256x1
  | 2 => extractStridedSlice S256x1 ![512, 0] x slices_S1024x1_o512_0_S256x1
  | 3 => extractStridedSlice S256x1 ![768, 0] x slices_S1024x1_o768_0_S256x1
noncomputable def cutR (x : FVec F S1x1024 .f32) : Fin 4 → FVec F S1x256 .f32
  | 0 => extractStridedSlice S1x256 ![0, 0] x slices_S1x1024_o0_0_S1x256
  | 1 => extractStridedSlice S1x256 ![0, 256] x slices_S1x1024_o0_256_S1x256
  | 2 => extractStridedSlice S1x256 ![0, 512] x slices_S1x1024_o0_512_S1x256
  | 3 => extractStridedSlice S1x256 ![0, 768] x slices_S1x1024_o0_768_S1x256

/-- Row-by-row products of two group blocks. -/
noncomputable def gram (a b : FVec F S256x128 .f32) : FVec F S256x256 .f32 :=
  matmul dot_S256x128_S256x128_S256x256_1_1_0_0_n_n none (truncf .bf16 a bitsLt_bf16_f32) (truncf .bf16 b bitsLt_bf16_f32) (constant S256x256 .f32 0x00000000#32)

/-- The clamped decay between two tokens. -/
noncomputable def dec (gc : FVec F S256x1 .f32) (gr : FVec F S1x256 .f32) : FVec F S256x256 .f32 :=
  exp (minimumf (subf (broadcastTo S256x256 gc broadcasts_S256x1_S256x256) (broadcastTo S256x256 gr broadcasts_S1x256_S256x256))
    (broadcast S256x256 (Scalar.ofBits .f32 0x00000000#32)))

noncomputable def anat (bc gc : FVec F S256x1 .f32) (gr : FVec F S1x256 .f32) (kk : FVec F S256x256 .f32) : FVec F S256x256 .f32 :=
  select mStrict (mulf (mulf (broadcastTo S256x256 bc broadcasts_S256x1_S256x256) kk) (dec gc gr)) (broadcast S256x256 (Scalar.ofBits .f32 0x00000000#32))

/-- The four row slabs added: the diagonal blocks side by side. -/
noncomputable def pack (a : FVec F S256x256 .f32) : FVec F S64x256 .f32 :=
  addf (addf (addf (extractStridedSlice S64x256 ![0, 0] a slices_S256x256_o0_0_S64x256) (extractStridedSlice S64x256 ![64, 0] a slices_S256x256_o64_0_S64x256))
    (extractStridedSlice S64x256 ![128, 0] a slices_S256x256_o128_0_S64x256)) (extractStridedSlice S64x256 ![192, 0] a slices_S256x256_o192_0_S64x256)

noncomputable def masked (M : IVec S64x256 1) (ap : FVec F S64x256 .f32) : FVec F S64x256 .f32 :=
  select M ap (broadcast S64x256 (Scalar.ofBits .f32 0x00000000#32))

/-- The blocks of a packed slab on the diagonal. -/
noncomputable def bd (p : FVec F S64x256 .f32) : FVec F S256x256 .bf16 :=
  mulf (concatenate S256x256 0 [⟨S64x256, truncf .bf16 p bitsLt_bf16_f32⟩, ⟨S64x256, truncf .bf16 p bitsLt_bf16_f32⟩, ⟨S64x256, truncf .bf16 p bitsLt_bf16_f32⟩, ⟨S64x256, truncf .bf16 p bitsLt_bf16_f32⟩] concatenates_S64x256_S64x256_S64x256_S64x256_S256x256_d0) bdm

noncomputable def t1 (ap : FVec F S64x256 .f32) : FVec F S64x256 .f32 := subf k0_pay157 (masked (mM 2#32 1#32) ap)

/-- The left product of a merge. -/
noncomputable def mL (b2 b : BitVec 32) (ap t : FVec F S64x256 .f32) : FVec F S64x256 .bf16 :=
  truncf .bf16 (matmul dot_S64x256_S256x256_S64x256_1_0_0_1_n_n none (truncf .bf16 t bitsLt_bf16_f32) (bd (masked (mM b2 b) ap)) (constant S64x256 .f32 0x00000000#32)) bitsLt_bf16_f32
/-- One merge of the block inverses. -/
noncomputable def mT (b2 b : BitVec 32) (ap t : FVec F S64x256 .f32) : FVec F S64x256 .f32 :=
  subf t (matmul dot_S64x256_S256x256_S64x256_1_0_0_1_n_n none (mL b2 b ap t) (bd t) (constant S64x256 .f32 0x00000000#32))

noncomputable def t2 (ap : FVec F S64x256 .f32) : FVec F S64x256 .f32 := mT 4#32 2#32 ap (t1 ap)
noncomputable def t4 (ap : FVec F S64x256 .f32) : FVec F S64x256 .f32 := mT 8#32 4#32 ap (t2 ap)
noncomputable def t8 (ap : FVec F S64x256 .f32) : FVec F S64x256 .f32 := mT 16#32 8#32 ap (t4 ap)
noncomputable def t16 (ap : FVec F S64x256 .f32) : FVec F S64x256 .f32 := mT 32#32 16#32 ap (t8 ap)
noncomputable def t32 (ap : FVec F S64x256 .f32) : FVec F S64x256 .f32 := mT 64#32 32#32 ap (t16 ap)

/-- The solved right-hand sides. -/
noncomputable def wu (bc gc : FVec F S256x1 .f32) (k v : FVec F S256x128 .f32) (t : FVec F S64x256 .f32) : FVec F S256x256 .bf16 :=
  truncf .bf16 (matmul dot_S256x256_S256x256_S256x256_1_0_0_1_n_n none (bd t)
    (truncf .bf16 (concatenate S256x256 1 [⟨S256x128, mulf k (broadcastTo S256x128 (mulf bc (exp gc)) broadcasts_S256x1_S256x128)⟩,
      ⟨S256x128, mulf v (broadcastTo S256x128 bc broadcasts_S256x1_S256x128)⟩] concatenates_S256x128_S256x128_S256x256_d1) bitsLt_bf16_f32)
    (constant S256x256 .f32 0x00000000#32)) bitsLt_bf16_f32

/-- The masked attention against the solved right-hand sides. -/
noncomputable def qw (gc : FVec F S256x1 .f32) (gr : FVec F S1x256 .f32) (qk : FVec F S256x256 .f32) (W : FVec F S256x256 .bf16) : FVec F S256x256 .f32 :=
  matmul dot_S256x256_S256x256_S256x256_1_0_0_1_n_n none
    (truncf .bf16 (select mCausal (mulf qk (dec gc gr)) (broadcast S256x256 (Scalar.ofBits .f32 0x00000000#32))) bitsLt_bf16_f32) W (constant S256x256 .f32 0x00000000#32)

noncomputable def rows128 (x : FVec F S256x128 .f32) : Fin 4 → FVec F S64x128 .f32
  | 0 => extractStridedSlice S64x128 ![0, 0] x slices_S256x128_o0_0_S64x128
  | 1 => extractStridedSlice S64x128 ![64, 0] x slices_S256x128_o64_0_S64x128
  | 2 => extractStridedSlice S64x128 ![128, 0] x slices_S256x128_o128_0_S64x128
  | 3 => extractStridedSlice S64x128 ![192, 0] x slices_S256x128_o192_0_S64x128
noncomputable def rows1 (x : FVec F S256x1 .f32) : Fin 4 → FVec F S64x1 .f32
  | 0 => extractStridedSlice S64x1 ![0, 0] x slices_S256x1_o0_0_S64x1
  | 1 => extractStridedSlice S64x1 ![64, 0] x slices_S256x1_o64_0_S64x1
  | 2 => extractStridedSlice S64x1 ![128, 0] x slices_S256x1_o128_0_S64x1
  | 3 => extractStridedSlice S64x1 ![192, 0] x slices_S256x1_o192_0_S64x1
noncomputable def last1 (x : FVec F S256x1 .f32) : Fin 4 → FVec F S1x1 .f32
  | 0 => extractStridedSlice S1x1 ![63, 0] x slices_S256x1_o63_0_S1x1
  | 1 => extractStridedSlice S1x1 ![127, 0] x slices_S256x1_o127_0_S1x1
  | 2 => extractStridedSlice S1x1 ![191, 0] x slices_S256x1_o191_0_S1x1
  | 3 => extractStridedSlice S1x1 ![255, 0] x slices_S256x1_o255_0_S1x1
noncomputable def rows256 (x : FVec F S256x256 .bf16) : Fin 4 → FVec F S64x256 .bf16
  | 0 => extractStridedSlice S64x256 ![0, 0] x slices_S256x256_o0_0_S64x256
  | 1 => extractStridedSlice S64x256 ![64, 0] x slices_S256x256_o64_0_S64x256
  | 2 => extractStridedSlice S64x256 ![128, 0] x slices_S256x256_o128_0_S64x256
  | 3 => extractStridedSlice S64x256 ![192, 0] x slices_S256x256_o192_0_S64x256
noncomputable def rowsW (x : FVec F S256x256 .f32) : Fin 4 → FVec F S64x128 .f32
  | 0 => extractStridedSlice S64x128 ![0, 0] x slices_S256x256_o0_0_S64x128
  | 1 => extractStridedSlice S64x128 ![64, 0] x slices_S256x256_o64_0_S64x128
  | 2 => extractStridedSlice S64x128 ![128, 0] x slices_S256x256_o128_0_S64x128
  | 3 => extractStridedSlice S64x128 ![192, 0] x slices_S256x256_o192_0_S64x128
noncomputable def rowsU (x : FVec F S256x256 .f32) : Fin 4 → FVec F S64x128 .f32
  | 0 => extractStridedSlice S64x128 ![0, 128] x slices_S256x256_o0_128_S64x128
  | 1 => extractStridedSlice S64x128 ![64, 128] x slices_S256x256_o64_128_S64x128
  | 2 => extractStridedSlice S64x128 ![128, 128] x slices_S256x256_o128_128_S64x128
  | 3 => extractStridedSlice S64x128 ![192, 128] x slices_S256x256_o192_128_S64x128

/-- The keys decayed to the chunk's end against the solved right-hand sides. -/
noncomputable def mn (gc : FVec F S256x1 .f32) (k : FVec F S256x128 .f32) (W : FVec F S256x256 .bf16) (m : Fin 4) : FVec F S128x256 .f32 :=
  matmul dot_S64x128_S64x256_S128x256_0_0_1_1_n_n none
    (truncf .bf16 (mulf (rows128 k m) (broadcastTo S64x128 (exp (subf (broadcastTo S64x1 (last1 gc m) broadcasts_S1x1_S64x1) (rows1 gc m))) broadcasts_S64x1_S64x128)) bitsLt_bf16_f32)
    (rows256 W m) (constant S128x256 .f32 0x00000000#32)

/-- The four operators of chunk `m` of a group. -/
noncomputable def opMQ (gc : FVec F S256x1 .f32) (k q : FVec F S256x128 .f32) (W : FVec F S256x256 .bf16) (w : FVec F S256x256 .f32) (m : Fin 4) : FVec F S1x192x128 .bf16 :=
  shapeCast S1x192x128 (concatenate S192x128 0 [⟨S128x128, truncf .bf16 (extractStridedSlice S128x128 ![0, 0] (mn gc k W m) slices_S128x256_o0_0_S128x128) bitsLt_bf16_f32⟩,
    ⟨S64x128, truncf .bf16 (subf (mulf (rows128 q m) (broadcastTo S64x128 (rows1 (exp gc) m) broadcasts_S64x1_S64x128)) (rowsW w m)) bitsLt_bf16_f32⟩] concatenates_S128x128_S64x128_S192x128_d0) shapeCasts_S192x128_S1x192x128
noncomputable def opN (gc : FVec F S256x1 .f32) (k : FVec F S256x128 .f32) (W : FVec F S256x256 .bf16) (m : Fin 4) : FVec F S1x128x128 .f32 :=
  shapeCast S1x128x128 (extractStridedSlice S128x128 ![0, 128] (mn gc k W m) slices_S128x256_o0_128_S128x128) shapeCasts_S128x128_S1x128x128
noncomputable def opO (w : FVec F S256x256 .f32) (m : Fin 4) : FVec F S1x64x128 .f32 := shapeCast S1x64x128 (rowsU w m) shapeCasts_S64x128_S1x64x128
noncomputable def opD (gc : FVec F S256x1 .f32) (m : Fin 4) : FVec F S1x8x128 .f32 :=
  shapeCast S1x8x128 (broadcastTo S8x128 (shapeCast S1x1 (exp (last1 gc m)) shapeCasts_S1x1_S1x1) broadcasts_S1x1_S8x128) shapeCasts_S8x128_S1x8x128

/-- One recurrence step: the operator product, the state after, the written rows. -/
noncomputable def rr (mq : FVec F S1x192x128 .bf16) (S : FVec F S128x128 .f32) : FVec F S192x128 .f32 :=
  matmul dot_S192x128_S128x128_S192x128_1_0_0_1_n_n none (shapeCast S192x128 mq shapeCasts_S1x192x128_S192x128) (truncf .bf16 S bitsLt_bf16_f32) (constant S192x128 .f32 0x00000000#32)
noncomputable def stS (mq : FVec F S1x192x128 .bf16) (dl : FVec F S1x8x128 .f32) (nn : FVec F S1x128x128 .f32) (S : FVec F S128x128 .f32) : FVec F S128x128 .f32 :=
  addf (subf (mulf S (broadcastTo S128x128 (extractStridedSlice S1x128 ![0, 0] (shapeCast S8x128 dl shapeCasts_S1x8x128_S8x128) slices_S8x128_o0_0_S1x128) broadcasts_S1x128_S128x128))
    (extractStridedSlice S128x128 ![0, 0] (rr mq S) slices_S192x128_o0_0_S128x128)) (shapeCast S128x128 nn shapeCasts_S1x128x128_S128x128)
noncomputable def ot (mq : FVec F S1x192x128 .bf16) (oi : FVec F S1x64x128 .f32) (S : FVec F S128x128 .f32) : FVec F S64x128 .f32 :=
  addf (extractStridedSlice S64x128 ![128, 0] (rr mq S) slices_S192x128_o128_0_S64x128) (shapeCast S64x128 oi shapeCasts_S1x64x128_S64x128)
noncomputable def wr (on : FVec F S1x128 .f32) (o z : FVec F S64x128 .f32) : FVec F S64x128 .bf16 :=
  truncf .bf16 (mulf (mulf (mulf o (broadcastTo S64x128 (rsqrt (addf (divf (shapeCast S64x1 (multiReduction .add [1] S64 (mulf o o) 0x00000000#32 reduces_S64x128_S64 (.inl rfl) rfl) shapeCasts_S64_S64x1)
    (broadcast S64x1 (Scalar.ofBits .f32 0x43000000#32))) (broadcast S64x1 (Scalar.ofBits .f32 0x358637BD#32)))) broadcasts_S64x1_S64x128))
    (broadcastTo S64x128 (shapeCast S1x128 on shapeCasts_S1x128_S1x128) broadcasts_S1x128_S64x128)) z) bitsLt_bf16_f32

end Cert.KernelIdeal.Gdn
end
-- ==== Proof.GdnBlock.lean ====
module

public import proofs.«01_k».proof.Proof.GdnStage
public import Idealize.ShloMosaic.Lib.Pipeline.ValueKit
public import Idealize.ShloMosaic.Lib.Pipeline.ReadBack

@[expose] public section

set_option maxRecDepth 16384

noncomputable section
open Idealize.ShloMosaic Idealize.ShloMosaic.TcCoe Idealize.SL.Sem

namespace Cert.KernelIdeal.Gdn
open Cert.KernelIdeal Cert.KernelIdeal.Gen

variable {F : FTy → Type} [FloatOps F]

/-! ## The loads of one grid point -/

theorem inb256 (g : Fin 4) : ∀ a : Fin 2, ![256 * g.val, 0] a + S256x128.size a ≤ S1024x128.size a := by revert g; decide
theorem inb256v (g : Fin 4) (e : Fin 2) : ∀ a : Fin 2, ![256 * g.val, 128 * e.val] a + S256x128.size a ≤ S1024x256.size a := by revert g e; decide
theorem inbZ (n : Fin 16) (e : Fin 2) : ∀ a : Fin 2, ![64 * n.val, 128 * e.val] a + S64x128.size a ≤ S1024x256.size a := by revert n e; decide
theorem inbS (e : Fin 2) : ∀ a : Fin 3, ![e.val, 0, 0] a + S1x128x128.size a ≤ S2x128x128.size a := by revert e; decide
theorem inbM (j : Fin 32) : ∀ a : Fin 3, ![j.val, 0, 0] a + S1x192x128.size a ≤ S32x192x128.size a := by revert j; decide
theorem inbN (j : Fin 32) : ∀ a : Fin 3, ![j.val, 0, 0] a + S1x128x128.size a ≤ S32x128x128.size a := by revert j; decide
theorem inbO (j : Fin 32) : ∀ a : Fin 3, ![j.val, 0, 0] a + S1x64x128.size a ≤ S32x64x128.size a := by revert j; decide
theorem inbD (j : Fin 32) : ∀ a : Fin 3, ![j.val, 0, 0] a + S1x8x128.size a ≤ S32x8x128.size a := by revert j; decide

section Loads
variable (r : Memref sig .tc .vmem S1024x128 .f32) (hr : r.IsWhole) (r2 : Memref sig .tc .vmem S1024x256 .f32) (hr2 : r2.IsWhole)
variable (r7 : Memref sig .tc .vmem S128x1024 .f32) (hr7 : r7.IsWhole) (r8 : Memref sig .tc .vmem S1x128 .f32) (hr8 : r8.IsWhole)
variable (w0 : Memref sig .tc .vmem S2x128x128 .f32) (hw0 : w0.IsWhole) (w1 : Memref sig .tc .vmem S32x192x128 .bf16) (hw1 : w1.IsWhole)
variable (w2 : Memref sig .tc .vmem S32x128x128 .f32) (hw2 : w2.IsWhole) (w3 : Memref sig .tc .vmem S32x64x128 .f32) (hw3 : w3.IsWhole)
variable (w4 : Memref sig .tc .vmem S32x8x128 .f32) (hw4 : w4.IsWhole)

def LG (x : Vec F S1024x128 .f32) : FVec F S1024x128 .f32 := View.readAt (Elt F) r.view (Rect.unit (s := S1024x128) ![0, 0] S1024x128.size inb_S1024x128_S1024x128_0_0).toLoadRect (hr.unread x)
def LK (x : Vec F S1024x128 .f32) (g : Fin 4) : FVec F S256x128 .f32 := View.readAt (Elt F) r.view (Rect.unit (s := S1024x128) ![256 * g.val, 0] S256x128.size (inb256 g)).toLoadRect (hr.unread x)
def LV (x : Vec F S1024x256 .f32) (e : Fin 2) (g : Fin 4) : FVec F S256x128 .f32 := View.readAt (Elt F) r2.view (Rect.unit (s := S1024x256) ![256 * g.val, 128 * e.val] S256x128.size (inb256v g e)).toLoadRect (hr2.unread x)
def LZ (x : Vec F S1024x256 .f32) (e : Fin 2) (n : Fin 16) : FVec F S64x128 .f32 := View.readAt (Elt F) r2.view (Rect.unit (s := S1024x256) ![64 * n.val, 128 * e.val] S64x128.size (inbZ n e)).toLoadRect (hr2.unread x)
def LR (i : grid0.Coords) (h : cond0_2 i) (x : Vec F S128x1024 .f32) (e : Fin 2) : FVec F S1x1024 .f32 := shapeCast S1x1024 (View.readAt (Elt F) r7.view (Rect.unit (s := S128x1024) (k0_off1 i (BitVec.ofNat 32 e.val)) S1x1024.size (k0_off1_inb i h e)).toLoadRect (hr7.unread x)) shapeCasts_S1x1024_S1x1024
def LN (x : Vec F S1x128 .f32) : FVec F S1x128 .f32 := View.readAt (Elt F) r8.view (Rect.unit (s := S1x128) ![0, 0] ![1, 128] inb_S1x128_S1x128_0_0).toLoadRect (hr8.unread x)
def LS (x : Vec F S2x128x128 .f32) (e : Fin 2) : FVec F S128x128 .f32 := shapeCast S128x128 (View.readAt (Elt F) w0.view (Rect.unit (s := S2x128x128) ![e.val, 0, 0] S1x128x128.size (inbS e)).toLoadRect (hw0.unread x)) shapeCasts_S1x128x128_S128x128
def L1 (x : Vec F S32x192x128 .bf16) (j : Fin 32) : FVec F S1x192x128 .bf16 := View.readAt (Elt F) w1.view (Rect.unit (s := S32x192x128) ![j.val, 0, 0] S1x192x128.size (inbM j)).toLoadRect (hw1.unread x)
def L2 (x : Vec F S32x128x128 .f32) (j : Fin 32) : FVec F S1x128x128 .f32 := View.readAt (Elt F) w2.view (Rect.unit (s := S32x128x128) ![j.val, 0, 0] S1x128x128.size (inbN j)).toLoadRect (hw2.unread x)
def L3 (x : Vec F S32x64x128 .f32) (j : Fin 32) : FVec F S1x64x128 .f32 := View.readAt (Elt F) w3.view (Rect.unit (s := S32x64x128) ![j.val, 0, 0] S1x64x128.size (inbO j)).toLoadRect (hw3.unread x)
def L4 (x : Vec F S32x8x128 .f32) (j : Fin 32) : FVec F S1x8x128 .f32 := View.readAt (Elt F) w4.view (Rect.unit (s := S32x8x128) ![j.val, 0, 0] S1x8x128.size (inbD j)).toLoadRect (hw4.unread x)
end Loads

/-! ## A block: its operators out of the staged inputs, and the recurrence over operators -/

/-- Chunk `n` of head `e` among the operators. -/
def jj (e : Fin 2) (n : ℕ) : Fin 32 := Fin.ofNat 32 (16 * e.val + n)

def hB (a0 : BitVec 32) (G : FVec F S1024x128 .f32) (e : Fin 2) (g : Fin 4) : FVec F S256x1 .f32 := cut (bcol a0 (BitVec.ofNat 32 e.val) G) g
def hG (a0 : BitVec 32) (G : FVec F S1024x128 .f32) (e : Fin 2) (g : Fin 4) : FVec F S256x1 .f32 := cut (gcol a0 (BitVec.ofNat 32 e.val) G) g

section Block
variable (a0 : BitVec 32) (Q K : Fin 4 → FVec F S256x128 .f32) (V : Fin 2 → Fin 4 → FVec F S256x128 .f32) (G : FVec F S1024x128 .f32) (R : Fin 2 → FVec F S1x1024 .f32)

def hW (e : Fin 2) (g : Fin 4) : FVec F S256x256 .bf16 :=
  wu (hB a0 G e g) (hG a0 G e g) (K g) (V e g) (t32 (pack (anat (hB a0 G e g) (hG a0 G e g) (cutR (R e) g) (gram (K g) (K g)))))
def hQ (e : Fin 2) (g : Fin 4) : FVec F S256x256 .f32 := qw (hG a0 G e g) (cutR (R e) g) (gram (Q g) (K g)) (hW a0 K V G R e g)
def bMQ (e : Fin 2) (g m : Fin 4) : FVec F S1x192x128 .bf16 := opMQ (hG a0 G e g) (K g) (Q g) (hW a0 K V G R e g) (hQ a0 Q K V G R e g) m
def bN (e : Fin 2) (g m : Fin 4) : FVec F S1x128x128 .f32 := opN (hG a0 G e g) (K g) (hW a0 K V G R e g) m
def bO (e : Fin 2) (g m : Fin 4) : FVec F S1x64x128 .f32 := opO (hQ a0 Q K V G R e g) m
def bD (e : Fin 2) (g m : Fin 4) : FVec F S1x8x128 .f32 := opD (hG a0 G e g) m
end Block

section Rec
variable (M : Fin 32 → FVec F S1x192x128 .bf16) (D : Fin 32 → FVec F S1x8x128 .f32) (N : Fin 32 → FVec F S1x128x128 .f32) (O : Fin 32 → FVec F S1x64x128 .f32)
  (Z : Fin 2 → Fin 16 → FVec F S64x128 .f32) (on : FVec F S1x128 .f32)

/-- The state of head `e` after `n` chunks. -/
def sN (e : Fin 2) (S : FVec F S128x128 .f32) : ℕ → FVec F S128x128 .f32
  | 0 => S
  | n + 1 => stS (M (jj e n)) (D (jj e n)) (N (jj e n)) (sN e S n)
/-- The written rows of chunk `n` of head `e`. -/
def oN (e : Fin 2) (S : FVec F S128x128 .f32) (n : Fin 16) : FVec F S64x128 .bf16 :=
  wr on (ot (M (jj e n.val)) (O (jj e n.val)) (sN M D N e S n.val)) (Z e n)
end Rec

/-! ## Reading a store of pieces back at an index -/

def eOf (j : Fin 32) : Fin 2 := Fin.ofNat 2 (j.val / 16)
def gOf (j : Fin 32) : Fin 4 := Fin.ofNat 4 (j.val / 4)
def mOf (j : Fin 32) : Fin 4 := Fin.ofNat 4 j.val
def eCol (j : ℕ) : Fin 2 := Fin.ofNat 2 (j / 128)
def nRow (j : ℕ) : Fin 16 := Fin.ofNat 16 (j / 64)

theorem pieceOut {P : FVec F S64x128 .bf16} (T : Fin 2 → Fin 16 → FVec F S64x128 .bf16) {k l : ℕ} (y : S1024x256.Idx) (x : S64x128.Idx)
    (h0 : (y 0).val = k + (x 0).val) (h1 : (y 1).val = l + (x 1).val) (hk : k % 64 = 0) (hl : l % 128 = 0) (hP : P = T (eCol l) (nRow k)) :
    P x = T (eCol (y 1).val) (nRow (y 0).val) (ix2 (n0 := 64) (n1 := 128) ⟨(y 0).val % 64, Nat.mod_lt _ (by decide)⟩ ⟨(y 1).val % 128, Nat.mod_lt _ (by decide)⟩) := by
  have l0 : (x 0).val < 64 := (x 0).isLt
  have l1 : (x 1).val < 128 := (x 1).isLt
  have e0 : nRow (y 0).val = nRow k := by unfold nRow; rw [show (y 0).val / 64 = k / 64 by omega]
  have e1 : eCol (y 1).val = eCol l := by unfold eCol; rw [show (y 1).val / 128 = l / 128 by omega]
  rw [e0, e1, hP]
  congr 1
  funext a
  fin_cases a <;> apply Fin.ext
  · show (x 0).val = (y 0).val % 64
    omega
  · show (x 1).val = (y 1).val % 128
    omega

theorem pieceMQ {P : FVec F S1x192x128 .bf16} (T : Fin 32 → FVec F S1x192x128 .bf16) {k : ℕ} (y : S32x192x128.Idx) (x : S1x192x128.Idx)
    (h0 : (y 0).val = k + (x 0).val) (h1 : (y 1).val = (x 1).val) (h2 : (y 2).val = (x 2).val) (hk : k < 32) (hP : P = T ⟨k, hk⟩) :
    P x = T (y 0) (ix3 (n0 := 1) (n1 := 192) (n2 := 128) 0 (y 1) (y 2)) := by
  have l0 : (x 0).val < 1 := (x 0).isLt
  have e0 : y 0 = (⟨k, hk⟩ : Fin 32) := Fin.ext (by show (y 0).val = k; omega)
  rw [e0, hP]
  congr 1
  funext a
  fin_cases a <;> apply Fin.ext
  · show (x 0).val = 0
    omega
  · exact h1.symm
  · exact h2.symm

theorem pieceN {P : FVec F S1x128x128 .f32} (T : Fin 32 → FVec F S1x128x128 .f32) {k : ℕ} (y : S32x128x128.Idx) (x : S1x128x128.Idx)
    (h0 : (y 0).val = k + (x 0).val) (h1 : (y 1).val = (x 1).val) (h2 : (y 2).val = (x 2).val) (hk : k < 32) (hP : P = T ⟨k, hk⟩) :
    P x = T (y 0) (ix3 (n0 := 1) (n1 := 128) (n2 := 128) 0 (y 1) (y 2)) := by
  have l0 : (x 0).val < 1 := (x 0).isLt
  have e0 : y 0 = (⟨k, hk⟩ : Fin 32) := Fin.ext (by show (y 0).val = k; omega)
  rw [e0, hP]
  congr 1
  funext a
  fin_cases a <;> apply Fin.ext
  · show (x 0).val = 0
    omega
  · exact h1.symm
  · exact h2.symm

theorem pieceO {P : FVec F S1x64x128 .f32} (T : Fin 32 → FVec F S1x64x128 .f32) {k : ℕ} (y : S32x64x128.Idx) (x : S1x64x128.Idx)
    (h0 : (y 0).val = k + (x 0).val) (h1 : (y 1).val = (x 1).val) (h2 : (y 2).val = (x 2).val) (hk : k < 32) (hP : P = T ⟨k, hk⟩) :
    P x = T (y 0) (ix3 (n0 := 1) (n1 := 64) (n2 := 128) 0 (y 1) (y 2)) := by
  have l0 : (x 0).val < 1 := (x 0).isLt
  have e0 : y 0 = (⟨k, hk⟩ : Fin 32) := Fin.ext (by show (y 0).val = k; omega)
  rw [e0, hP]
  congr 1
  funext a
  fin_cases a <;> apply Fin.ext
  · show (x 0).val = 0
    omega
  · exact h1.symm
  · exact h2.symm

theorem pieceD {P : FVec F S1x8x128 .f32} (T : Fin 32 → FVec F S1x8x128 .f32) {k : ℕ} (y : S32x8x128.Idx) (x : S1x8x128.Idx)
    (h0 : (y 0).val = k + (x 0).val) (h1 : (y 1).val = (x 1).val) (h2 : (y 2).val = (x 2).val) (hk : k < 32) (hP : P = T ⟨k, hk⟩) :
    P x = T (y 0) (ix3 (n0 := 1) (n1 := 8) (n2 := 128) 0 (y 1) (y 2)) := by
  have l0 : (x 0).val < 1 := (x 0).isLt
  have e0 : y 0 = (⟨k, hk⟩ : Fin 32) := Fin.ext (by show (y 0).val = k; omega)
  rw [e0, hP]
  congr 1
  funext a
  fin_cases a <;> apply Fin.ext
  · show (x 0).val = 0
    omega
  · exact h1.symm
  · exact h2.symm

theorem pieceS {P : FVec F S1x128x128 .f32} (T : Fin 2 → FVec F S1x128x128 .f32) {k : ℕ} (y : S2x128x128.Idx) (x : S1x128x128.Idx)
    (h0 : (y 0).val = k + (x 0).val) (h1 : (y 1).val = (x 1).val) (h2 : (y 2).val = (x 2).val) (hk : k < 2) (hP : P = T ⟨k, hk⟩) :
    P x = T (y 0) (ix3 (n0 := 1) (n1 := 128) (n2 := 128) 0 (y 1) (y 2)) := by
  have l0 : (x 0).val < 1 := (x 0).isLt
  have e0 : y 0 = (⟨k, hk⟩ : Fin 2) := Fin.ext (by show (y 0).val = k; omega)
  rw [e0, hP]
  congr 1
  funext a
  fin_cases a <;> apply Fin.ext
  · show (x 0).val = 0
    omega
  · exact h1.symm
  · exact h2.symm

theorem pieceEMQ {P : FVec F S1x192x128 .bf16} (T : Fin 32 → FVec F S1x192x128 .bf16) (k : ℕ) (hk : k < 32)
    (inb : ∀ a : Fin 3, ![k, 0, 0] a + S1x192x128.size a ≤ S32x192x128.size a) (hP : P = T ⟨k, hk⟩) (x : S1x192x128.Idx) :
    P x = (fun y : S32x192x128.Idx => T (y 0) (ix3 (n0 := 1) (n1 := 192) (n2 := 128) 0 (y 1) (y 2))) ((Rect.unit (s := S32x192x128) ![k, 0, 0] S1x192x128.size inb).emb x) :=
  pieceMQ T (k := k) ((Rect.unit (s := S32x192x128) ![k, 0, 0] S1x192x128.size inb).emb x) x (ValueKit.rect_emb_unit_val (s := S32x192x128) _ _ inb x 0)
    ((ValueKit.rect_emb_unit_val (s := S32x192x128) _ _ inb x 1).trans (Nat.zero_add _)) ((ValueKit.rect_emb_unit_val (s := S32x192x128) _ _ inb x 2).trans (Nat.zero_add _)) hk hP

theorem pieceEN {P : FVec F S1x128x128 .f32} (T : Fin 32 → FVec F S1x128x128 .f32) (k : ℕ) (hk : k < 32)
    (inb : ∀ a : Fin 3, ![k, 0, 0] a + S1x128x128.size a ≤ S32x128x128.size a) (hP : P = T ⟨k, hk⟩) (x : S1x128x128.Idx) :
    P x = (fun y : S32x128x128.Idx => T (y 0) (ix3 (n0 := 1) (n1 := 128) (n2 := 128) 0 (y 1) (y 2))) ((Rect.unit (s := S32x128x128) ![k, 0, 0] S1x128x128.size inb).emb x) :=
  pieceN T (k := k) ((Rect.unit (s := S32x128x128) ![k, 0, 0] S1x128x128.size inb).emb x) x (ValueKit.rect_emb_unit_val (s := S32x128x128) _ _ inb x 0)
    ((ValueKit.rect_emb_unit_val (s := S32x128x128) _ _ inb x 1).trans (Nat.zero_add _)) ((ValueKit.rect_emb_unit_val (s := S32x128x128) _ _ inb x 2).trans (Nat.zero_add _)) hk hP

theorem pieceEO {P : FVec F S1x64x128 .f32} (T : Fin 32 → FVec F S1x64x128 .f32) (k : ℕ) (hk : k < 32)
    (inb : ∀ a : Fin 3, ![k, 0, 0] a + S1x64x128.size a ≤ S32x64x128.size a) (hP : P = T ⟨k, hk⟩) (x : S1x64x128.Idx) :
    P x = (fun y : S32x64x128.Idx => T (y 0) (ix3 (n0 := 1) (n1 := 64) (n2 := 128) 0 (y 1) (y 2))) ((Rect.unit (s := S32x64x128) ![k, 0, 0] S1x64x128.size inb).emb x) :=
  pieceO T (k := k) ((Rect.unit (s := S32x64x128) ![k, 0, 0] S1x64x128.size inb).emb x) x (ValueKit.rect_emb_unit_val (s := S32x64x128) _ _ inb x 0)
    ((ValueKit.rect_emb_unit_val (s := S32x64x128) _ _ inb x 1).trans (Nat.zero_add _)) ((ValueKit.rect_emb_unit_val (s := S32x64x128) _ _ inb x 2).trans (Nat.zero_add _)) hk hP

theorem pieceED {P : FVec F S1x8x128 .f32} (T : Fin 32 → FVec F S1x8x128 .f32) (k : ℕ) (hk : k < 32)
    (inb : ∀ a : Fin 3, ![k, 0, 0] a + S1x8x128.size a ≤ S32x8x128.size a) (hP : P = T ⟨k, hk⟩) (x : S1x8x128.Idx) :
    P x = (fun y : S32x8x128.Idx => T (y 0) (ix3 (n0 := 1) (n1 := 8) (n2 := 128) 0 (y 1) (y 2))) ((Rect.unit (s := S32x8x128) ![k, 0, 0] S1x8x128.size inb).emb x) :=
  pieceD T (k := k) ((Rect.unit (s := S32x8x128) ![k, 0, 0] S1x8x128.size inb).emb x) x (ValueKit.rect_emb_unit_val (s := S32x8x128) _ _ inb x 0)
    ((ValueKit.rect_emb_unit_val (s := S32x8x128) _ _ inb x 1).trans (Nat.zero_add _)) ((ValueKit.rect_emb_unit_val (s := S32x8x128) _ _ inb x 2).trans (Nat.zero_add _)) hk hP

end Cert.KernelIdeal.Gdn
end
-- ==== Proof.GdnRead.lean ====
module

public import proofs.«01_k».proof.Proof.GdnBlock
public import proofs.«01_k».proof.Proof.GdnMath
public import Idealize.ShloMosaic.Lib.Pipeline.ValueKit
public import Idealize.ShloMosaic.Lib.Pointwise
public import Idealize.ShloMosaic.Lib.WholeRead

@[expose] public section

set_option maxRecDepth 16384

noncomputable section
open Idealize.ShloMosaic Idealize.ShloMosaic.TcCoe Idealize.SL.Sem

namespace Cert.KernelIdeal.Gdn
open Cert.KernelIdeal Cert.KernelIdeal.Gen Cert.GdnMath

/-! ## The stages read at an index, over the ideal values -/

/-- Floor division of one word. -/
def fd (x b : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt b 0#32)) (Scalar.extui (Scalar.cmpi .slt b 0#32))))
    (Scalar.cmpi .ne (Scalar.remsi x b) 0#32))
    (Scalar.subi (Scalar.divsi x b) 1#32) (Scalar.divsi x b)

theorem fdivI_at (x : IVec S64x256 32) (b : BitVec 32) (y : S64x256.Idx) : fdivI x b y = fd (x y) b := rfl

theorem fd64 (i : Fin 64) : fd (BitVec.ofNat 32 i.val) 1#32 = BitVec.ofNat 32 (i.val / 1) ∧ fd (BitVec.ofNat 32 i.val) 2#32 = BitVec.ofNat 32 (i.val / 2)
    ∧ fd (BitVec.ofNat 32 i.val) 4#32 = BitVec.ofNat 32 (i.val / 4) ∧ fd (BitVec.ofNat 32 i.val) 8#32 = BitVec.ofNat 32 (i.val / 8)
    ∧ fd (BitVec.ofNat 32 i.val) 16#32 = BitVec.ofNat 32 (i.val / 16) ∧ fd (BitVec.ofNat 32 i.val) 32#32 = BitVec.ofNat 32 (i.val / 32)
    ∧ fd (BitVec.ofNat 32 i.val) 64#32 = BitVec.ofNat 32 (i.val / 64) := by
  revert i; decide +kernel

theorem fd256 (i : Fin 256) : fd (BitVec.ofNat 32 i.val) 64#32 = BitVec.ofNat 32 (i.val / 64) := by
  revert i; decide +kernel

theorem pI_at (i : Fin 64) (c : Fin 256) : pI (ix2 i c) = BitVec.ofNat 32 i.val := by
  pointwise [pI]

/-- The remainder word of the packed column number. -/
def rd (x : BitVec 32) : BitVec 32 :=
  Scalar.select (Scalar.andi (Scalar.xori (Scalar.cmpi .slt (Scalar.remsi x 64#32) 0#32) (Scalar.cmpi .slt 64#32 0#32)) (Scalar.cmpi .ne (Scalar.remsi x 64#32) 0#32))
    (Scalar.addi (Scalar.remsi x 64#32) 64#32) (Scalar.remsi x 64#32)
theorem rd256 (c : Fin 256) : rd (BitVec.ofNat 32 c.val) = BitVec.ofNat 32 (c.val % 64) := by
  revert c; decide +kernel
theorem pJ_at (i : Fin 64) (c : Fin 256) : k0_pay156 (ix2 i c) = BitVec.ofNat 32 (c.val % 64) := by
  rw [← rd256];
  pointwise [k0_pay156]
  rfl

theorem eqw (a b : ℕ) (ha : a < 256) (hb : b < 256) : (Scalar.cmpi .eq (BitVec.ofNat 32 a) (BitVec.ofNat 32 b) = 1#1) ↔ a = b := by
  have h : BitVec.ofNat 32 a = BitVec.ofNat 32 b ↔ a = b := by
    rw [← BitVec.toNat_inj, BitVec.toNat_ofNat, BitVec.toNat_ofNat, Nat.mod_eq_of_lt (by omega), Nat.mod_eq_of_lt (by omega)]
  rw [← h]
  by_cases e : BitVec.ofNat 32 a = BitVec.ofNat 32 b
  · simp [Scalar.cmpi, IntOp.cmpi, e]
  · have e' : (BitVec.ofNat 32 a == BitVec.ofNat 32 b) = false := beq_false_of_ne e
    simp [Scalar.cmpi, IntOp.cmpi, e, e', bne]
theorem new (a b : ℕ) (ha : a < 256) (hb : b < 256) : (Scalar.cmpi .ne (BitVec.ofNat 32 a) (BitVec.ofNat 32 b) = 1#1) ↔ a ≠ b := by
  have h : BitVec.ofNat 32 a = BitVec.ofNat 32 b ↔ a = b := by
    rw [← BitVec.toNat_inj, BitVec.toNat_ofNat, BitVec.toNat_ofNat, Nat.mod_eq_of_lt (by omega), Nat.mod_eq_of_lt (by omega)]
  rw [ne_eq, ← h]
  by_cases e : BitVec.ofNat 32 a = BitVec.ofNat 32 b
  · simp [Scalar.cmpi, IntOp.cmpi, e]
  · have e' : (BitVec.ofNat 32 a == BitVec.ofNat 32 b) = false := beq_false_of_ne e
    simp [Scalar.cmpi, IntOp.cmpi, e, e', bne]
theorem toIntw (a : Fin 256) : (BitVec.ofNat 32 a.val).toInt = (a.val : ℤ) := by
  revert a; decide +kernel
theorem sgtw (a b : Fin 256) : (Scalar.cmpi .sgt (BitVec.ofNat 32 a.val) (BitVec.ofNat 32 b.val) = 1#1) ↔ b < a := by
  by_cases h : b < a
  · have : ((b.val : ℤ) < (a.val : ℤ)) := by exact_mod_cast h
    simp [Scalar.cmpi, IntOp.cmpi, BitVec.slt, toIntw, h, this]
  · have : ¬ ((b.val : ℤ) < (a.val : ℤ)) := by exact_mod_cast h
    simp [Scalar.cmpi, IntOp.cmpi, BitVec.slt, toIntw, h, this]
theorem sgew (a b : Fin 256) : (Scalar.cmpi .sge (BitVec.ofNat 32 a.val) (BitVec.ofNat 32 b.val) = 1#1) ↔ b ≤ a := by
  by_cases h : b ≤ a
  · have : ((b.val : ℤ) ≤ (a.val : ℤ)) := by exact_mod_cast h
    simp [Scalar.cmpi, IntOp.cmpi, BitVec.sle, toIntw, h, this]
  · have : ¬ ((b.val : ℤ) ≤ (a.val : ℤ)) := by exact_mod_cast h
    simp [Scalar.cmpi, IntOp.cmpi, BitVec.sle, toIntw, h, this]
theorem andw (a b : BitVec 1) : Scalar.andi a b = 1#1 ↔ a = 1#1 ∧ b = 1#1 := by revert a b; decide

/-- Column `c` of a packed slab is column `c % 64` of its block. -/
def col (c : Fin 256) : Fin 64 := ⟨c.val % 64, Nat.mod_lt _ (by decide)⟩
/-- The block of a packed column, the chunk of a group's row. -/
def blk (c : Fin 256) : Fin 4 := ⟨c.val / 64, by omega⟩
/-- A token of a group, by chunk and offset. -/
def tok (m : Fin 4) (i : Fin 64) : Fin 256 := ⟨64 * m.val + i.val, by omega⟩
theorem blk_tok (m : Fin 4) (i : Fin 64) : blk (tok m i) = m := Fin.ext (by show (64 * m.val + i.val) / 64 = m.val; omega)
theorem col_tok (m : Fin 4) (i : Fin 64) : col (tok m i) = i := Fin.ext (by show (64 * m.val + i.val) % 64 = i.val; omega)
theorem tok_blk (c : Fin 256) : tok (blk c) (col c) = c := Fin.ext (by show 64 * (c.val / 64) + c.val % 64 = c.val; omega)

theorem vr_at (r c : Fin 256) : kernelRun0_B.sl.v17 (ix2 r c) = BitVec.ofNat 32 r.val := by
  pointwise [kernelRun0_B.sl.v17]
theorem vc_at (r c : Fin 256) : kernelRun0_B.sl.v18 (ix2 r c) = BitVec.ofNat 32 c.val := by
  pointwise [kernelRun0_B.sl.v18]
theorem same_at (r c : Fin 256) : (k0_pay152 kernelRun0_B.sl.v18 kernelRun0_B.sl.v42 (64#32) (divsi kernelRun0_B.sl.v18 kernelRun0_B.sl.v19)
        (subi kernelRun0_B.sl.v47 kernelRun0_B.sl.v50) (0#32) (ix2 r c) = 1#1) ↔ blk r = blk c := by
  have e : k0_pay152 kernelRun0_B.sl.v18 kernelRun0_B.sl.v42 (64#32) (divsi kernelRun0_B.sl.v18 kernelRun0_B.sl.v19)
        (subi kernelRun0_B.sl.v47 kernelRun0_B.sl.v50) (0#32) (ix2 r c) = Scalar.cmpi .eq (fd (kernelRun0_B.sl.v17 (ix2 r c)) 64#32) (fd (kernelRun0_B.sl.v18 (ix2 r c)) 64#32) := rfl
  rw [e, vr_at, vc_at, fd256, fd256, eqw _ _ (by omega) (by omega), Fin.ext_iff]
  rfl

theorem mS_at (r c : Fin 256) : (mStrict (ix2 r c) = 1#1) ↔ blk r = blk c ∧ col c < col r := by
  have e : mStrict (ix2 r c) = Scalar.andi (k0_pay152 kernelRun0_B.sl.v18 kernelRun0_B.sl.v42 (64#32) (divsi kernelRun0_B.sl.v18 kernelRun0_B.sl.v19)
        (subi kernelRun0_B.sl.v47 kernelRun0_B.sl.v50) (0#32) (ix2 r c)) (Scalar.cmpi .sgt (kernelRun0_B.sl.v17 (ix2 r c)) (kernelRun0_B.sl.v18 (ix2 r c))) := rfl
  rw [e, vr_at, vc_at, andw, same_at, sgtw]
  simp only [blk, col, Fin.ext_iff, Fin.lt_def]
  omega
theorem mC_at (r c : Fin 256) : (mCausal (ix2 r c) = 1#1) ↔ blk r = blk c ∧ col c ≤ col r := by
  have e : mCausal (ix2 r c) = Scalar.andi (k0_pay152 kernelRun0_B.sl.v18 kernelRun0_B.sl.v42 (64#32) (divsi kernelRun0_B.sl.v18 kernelRun0_B.sl.v19)
        (subi kernelRun0_B.sl.v47 kernelRun0_B.sl.v50) (0#32) (ix2 r c)) (Scalar.cmpi .sge (kernelRun0_B.sl.v17 (ix2 r c)) (kernelRun0_B.sl.v18 (ix2 r c))) := rfl
  rw [e, vr_at, vc_at, andw, same_at, sgew]
  simp only [blk, col, Fin.ext_iff, Fin.le_def]
  omega
theorem mM_at (b2 b : BitVec 32) (n2 n : ℕ) (h2 : ∀ i : Fin 64, fd (BitVec.ofNat 32 i.val) b2 = BitVec.ofNat 32 (i.val / n2)) (h : ∀ i : Fin 64, fd (BitVec.ofNat 32 i.val) b = BitVec.ofNat 32 (i.val / n))
    (i : Fin 64) (c : Fin 256) : (mM b2 b (ix2 i c) = 1#1) ↔ i.val / n2 = (col c).val / n2 ∧ i.val / n ≠ (col c).val / n := by
  have e : mM b2 b (ix2 i c) = Scalar.andi (Scalar.cmpi .eq (fd (pI (ix2 i c)) b2) (fd (k0_pay156 (ix2 i c)) b2)) (Scalar.cmpi .ne (fd (pI (ix2 i c)) b) (fd (k0_pay156 (ix2 i c)) b)) := rfl
  have ej : k0_pay156 (ix2 i c) = BitVec.ofNat 32 (col c).val := pJ_at i c
  rw [e, andw, pI_at, ej, h2, h, h2, h, eqw, new]
  all_goals exact lt_of_le_of_lt (Nat.div_le_self _ _) (by omega)

theorem sel_at {α : Type} (m : BitVec 1) (p : Prop) [Decidable p] (h : m = 1#1 ↔ p) (a b : α) : Scalar.select m a b = if p then a else b := by
  by_cases hp : p
  · rw [if_pos hp, h.mpr hp]; rfl
  · rw [if_neg hp]
    have : m = 0#1 := by
      have hm : ¬ m = 1#1 := fun e => hp (h.mp e)
      clear h hp
      revert m; decide
    rw [this]; rfl

theorem bdm_at (r c : Fin 256) : (bdm : FVec Ideal _ _) (ix2 r c) = if blk r = blk c then 1 else 0 := by
  pointwise [bdm, kernelRun0_B.sl.r_3, k0_pay155]
  exact sel_at _ _ (same_at r c) _ _

theorem gram_at (a b : FVec Ideal S256x128 .f32) (i j : Fin 256) : gram a b (ix2 i j) = ∑ d : Fin 128, a (ix2 i d) * b (ix2 j d) := by
  pointwise [gram]
theorem dec_at (gc : FVec Ideal S256x1 .f32) (gr : FVec Ideal S1x256 .f32) (i j : Fin 256) : dec gc gr (ix2 i j) = Ideal.exp (min (gc (ix2 i 0) - gr (ix2 0 j)) 0) := by
  pointwise [dec]
theorem anat_at (bc gc : FVec Ideal S256x1 .f32) (gr : FVec Ideal S1x256 .f32) (kk : FVec Ideal S256x256 .f32) (i j : Fin 256) :
   anat bc gc gr kk (ix2 i j) = if blk i = blk j ∧ col j < col i then bc (ix2 i 0) * kk (ix2 i j) * dec gc gr (ix2 i j) else 0 := by
  rw [← sel_at _ _ (mS_at i j)]
  pointwise [anat]
theorem pack_at (a : FVec Ideal S256x256 .f32) (i : Fin 64) (c : Fin 256) :
   pack a (ix2 i c) = a (ix2 (tok 0 i) c) + a (ix2 (tok 1 i) c) + a (ix2 (tok 2 i) c) + a (ix2 (tok 3 i) c) := by
  pointwise [pack]
  have e0 : tok 0 i = ⟨i.val, by omega⟩ := Fin.ext (by show 64 * 0 + i.val = i.val; omega)
  rw [e0]
  rfl
theorem masked_at (M : IVec S64x256 1) (ap : FVec Ideal S64x256 .f32) (i : Fin 64) (c : Fin 256) :
   masked M ap (ix2 i c) = Scalar.select (M (ix2 i c)) (ap (ix2 i c)) 0 := by
  pointwise [masked]
theorem bd_at (p : FVec Ideal S64x256 .f32) (r c : Fin 256) : bd p (ix2 r c) = if blk r = blk c then p (ix2 (col r) c) else 0 := by
  pointwise [bd]
  rw [bdm_at]
  by_cases h : blk r = blk c
  swap
  · rw [if_neg h, if_neg h, mul_zero]
  rw [if_pos h, if_pos h, mul_one]
  split_ifs with h1 h2 h3 <;> refine congrArg p (congrArg (fun z => ix2 z c) (Fin.ext ?_)) <;> (show _ = r.val % 64) <;> (try simp only []) <;> omega
theorem mul_at (a : FVec Ideal S64x256 .bf16) (b : FVec Ideal S256x256 .bf16) (i : Fin 64) (c : Fin 256) :
   matmul dot_S64x256_S256x256_S64x256_1_0_0_1_n_n none a b (constant S64x256 .f32 0x00000000#32) (ix2 i c) = ∑ r : Fin 256, a (ix2 i r) * b (ix2 r c) := by
  pointwise []
theorem eye_at (i : Fin 64) (c : Fin 256) : (k0_pay157 : FVec Ideal _ _) (ix2 i c) = if i = col c then 1 else 0 := by
  have h : (Scalar.cmpi .eq (BitVec.ofNat 32 i.val) (k0_pay156 (ix2 i c)) = 1#1) ↔ i = col c := by
    rw [pJ_at, eqw _ _ (by omega) (by omega), Fin.ext_iff]; rfl
  rw [← sel_at _ _ h]
  pointwise [k0_pay157]
  rfl
theorem t1_at (ap : FVec Ideal S64x256 .f32) (i : Fin 64) (c : Fin 256) : t1 ap (ix2 i c) = k0_pay157 (F := Ideal) (ix2 i c) - masked (mM 2#32 1#32) ap (ix2 i c) := by
  pointwise [t1]
theorem mT_at (b2 b : BitVec 32) (ap t : FVec Ideal S64x256 .f32) (i : Fin 64) (c : Fin 256) :
    mT b2 b ap t (ix2 i c) = t (ix2 i c) - ∑ r : Fin 256, (∑ s : Fin 256, t (ix2 i s) * bd (masked (mM b2 b) ap) (ix2 s r)) * bd t (ix2 r c) := by
  pointwise [mT, mL]
theorem wuW_at (bc gc : FVec Ideal S256x1 .f32) (k v : FVec Ideal S256x128 .f32) (t : FVec Ideal S64x256 .f32) (r : Fin 256) (c : Fin 128) (h : c.val < 256) :
    wu bc gc k v t (ix2 r ⟨c.val, h⟩) = ∑ s : Fin 256, bd t (ix2 r s) * (k (ix2 s c) * (bc (ix2 s 0) * Ideal.exp (gc (ix2 s 0)))) := by
  pointwise [wu]
theorem wuU_at (bc gc : FVec Ideal S256x1 .f32) (k v : FVec Ideal S256x128 .f32) (t : FVec Ideal S64x256 .f32) (r : Fin 256) (c : Fin 128) (h : 128 + c.val < 256) :
    wu bc gc k v t (ix2 r ⟨128 + c.val, h⟩) = ∑ s : Fin 256, bd t (ix2 r s) * (v (ix2 s c) * bc (ix2 s 0)) := by
  pointwise [wu]
theorem qw_at (gc : FVec Ideal S256x1 .f32) (gr : FVec Ideal S1x256 .f32) (qk : FVec Ideal S256x256 .f32) (W : FVec Ideal S256x256 .bf16) (r c : Fin 256) :
    qw gc gr qk W (ix2 r c) = ∑ s : Fin 256, (if blk r = blk s ∧ col s ≤ col r then qk (ix2 r s) * dec gc gr (ix2 r s) else 0) * W (ix2 s c) := by
  simp only [← sel_at _ _ (mC_at r _)]
  pointwise [qw]
theorem rows128_at (x : FVec Ideal S256x128 .f32) (m : Fin 4) (i : Fin 64) (c : Fin 128) : rows128 x m (ix2 i c) = x (ix2 (tok m i) c) := by
  have e0 : ∀ i : Fin 64, (⟨i.val, by omega⟩ : Fin 256) = tok 0 i := fun i => Fin.ext (by show i.val = 64 * 0 + i.val; omega)
  fin_cases m <;> pointwise [rows128]
  all_goals first | rfl | rw [e0]
theorem rows1_at (x : FVec Ideal S256x1 .f32) (m : Fin 4) (i : Fin 64) : rows1 x m (ix2 i 0) = x (ix2 (tok m i) 0) := by
  have e0 : ∀ i : Fin 64, (⟨i.val, by omega⟩ : Fin 256) = tok 0 i := fun i => Fin.ext (by show i.val = 64 * 0 + i.val; omega)
  fin_cases m <;> pointwise [rows1]
  all_goals first | rfl | rw [e0]
theorem last1_at (x : FVec Ideal S256x1 .f32) (m : Fin 4) : last1 x m (ix2 0 0) = x (ix2 (tok m 63) 0) := by
  fin_cases m <;> pointwise [last1] <;> rfl
theorem rows256_at (x : FVec Ideal S256x256 .bf16) (m : Fin 4) (i : Fin 64) (c : Fin 256) : rows256 x m (ix2 i c) = x (ix2 (tok m i) c) := by
  have e0 : ∀ i : Fin 64, (⟨i.val, by omega⟩ : Fin 256) = tok 0 i := fun i => Fin.ext (by show i.val = 64 * 0 + i.val; omega)
  fin_cases m <;> pointwise [rows256]
  all_goals first | rfl | rw [e0]
theorem rowsW_at (x : FVec Ideal S256x256 .f32) (m : Fin 4) (i : Fin 64) (c : Fin 128) : rowsW x m (ix2 i c) = x (ix2 (tok m i) ⟨c.val, by omega⟩) := by
  have e0 : ∀ i : Fin 64, (⟨i.val, by omega⟩ : Fin 256) = tok 0 i := fun i => Fin.ext (by show i.val = 64 * 0 + i.val; omega)
  fin_cases m <;> pointwise [rowsW]
  all_goals first | rfl | rw [e0]
theorem rowsU_at (x : FVec Ideal S256x256 .f32) (m : Fin 4) (i : Fin 64) (c : Fin 128) : rowsU x m (ix2 i c) = x (ix2 (tok m i) ⟨128 + c.val, by omega⟩) := by
  have e0 : ∀ i : Fin 64, (⟨i.val, by omega⟩ : Fin 256) = tok 0 i := fun i => Fin.ext (by show i.val = 64 * 0 + i.val; omega)
  fin_cases m <;> pointwise [rowsU]
  all_goals first | rfl | rw [e0]
theorem mn_at (gc : FVec Ideal S256x1 .f32) (k : FVec Ideal S256x128 .f32) (W : FVec Ideal S256x256 .bf16) (m : Fin 4) (a : Fin 128) (b : Fin 256) :
    mn gc k W m (ix2 a b) = ∑ i : Fin 64, rows128 k m (ix2 i a) * Ideal.exp (last1 gc m (ix2 0 0) - rows1 gc m (ix2 i 0)) * rows256 W m (ix2 i b) := by
  pointwise [mn]
theorem opM_at (gc : FVec Ideal S256x1 .f32) (k q : FVec Ideal S256x128 .f32) (W : FVec Ideal S256x256 .bf16) (w : FVec Ideal S256x256 .f32) (m : Fin 4) (a b : Fin 128) (h : a.val < 192) :
    opMQ gc k q W w m (ix3 0 ⟨a.val, h⟩ b) = mn gc k W m (ix2 a ⟨b.val, by omega⟩) := by
  pointwise [opMQ]
theorem opQ_at (gc : FVec Ideal S256x1 .f32) (k q : FVec Ideal S256x128 .f32) (W : FVec Ideal S256x256 .bf16) (w : FVec Ideal S256x256 .f32) (m : Fin 4) (i : Fin 64) (b : Fin 128) (h : 128 + i.val < 192) :
    opMQ gc k q W w m (ix3 0 ⟨128 + i.val, h⟩ b) = rows128 q m (ix2 i b) * rows1 (exp gc) m (ix2 i 0) - rowsW w m (ix2 i b) := by
  pointwise [opMQ]
theorem opN_at (gc : FVec Ideal S256x1 .f32) (k : FVec Ideal S256x128 .f32) (W : FVec Ideal S256x256 .bf16) (m : Fin 4) (a b : Fin 128) :
    opN gc k W m (ix3 0 a b) = mn gc k W m (ix2 a ⟨128 + b.val, by omega⟩) := by
  pointwise [opN]
theorem opO_at (w : FVec Ideal S256x256 .f32) (m : Fin 4) (i : Fin 64) (b : Fin 128) : opO w m (ix3 0 i b) = rowsU w m (ix2 i b) := by
  pointwise [opO]
theorem opD_at (gc : FVec Ideal S256x1 .f32) (m : Fin 4) (i : Fin 8) (b : Fin 128) : opD gc m (ix3 0 i b) = Ideal.exp (last1 gc m (ix2 0 0)) := by
  pointwise [opD]
theorem stS_at (mq : FVec Ideal S1x192x128 .bf16) (dl : FVec Ideal S1x8x128 .f32) (nn : FVec Ideal S1x128x128 .f32) (S : FVec Ideal S128x128 .f32) (a b : Fin 128) :
    stS mq dl nn S (ix2 a b) = S (ix2 a b) * dl (ix3 0 0 b) - ∑ c : Fin 128, mq (ix3 0 ⟨a.val, by omega⟩ c) * S (ix2 c b) + nn (ix3 0 a b) := by
  pointwise [stS, rr]
theorem ot_at (mq : FVec Ideal S1x192x128 .bf16) (oi : FVec Ideal S1x64x128 .f32) (S : FVec Ideal S128x128 .f32) (i : Fin 64) (b : Fin 128) :
    ot mq oi S (ix2 i b) = ∑ c : Fin 128, mq (ix3 0 ⟨128 + i.val, by omega⟩ c) * S (ix2 c b) + oi (ix3 0 i b) := by
  pointwise [ot, rr]
theorem wr_at (on : FVec Ideal S1x128 .f32) (o z : FVec Ideal S64x128 .f32) (i : Fin 64) (b : Fin 128) :
    wr on o z (ix2 i b) = o (ix2 i b) * Ideal.rsqrt (Ideal.div (∑ c : Fin 128, o (ix2 i c) * o (ix2 i c)) (Ideal.ofBits .f32 0x43000000#32) + Ideal.ofBits .f32 0x358637BD#32) * on (ix2 0 b) * z (ix2 i b) := by
  pointwise [wr]
theorem lane_at (h : BitVec 32) (G : FVec Ideal S1024x128 .f32) (i : Fin 1024) :
    laneCol h G (ix2 i 0) = ∑ c : Fin 128, Scalar.select (Scalar.cmpi .eq (BitVec.ofNat 32 c.val) h) (G (ix2 i c)) 0 := by
  pointwise [laneCol, kernelRun0_B.sl.v16]
  rfl
theorem cut_at (x : FVec Ideal S1024x1 .f32) (g : Fin 4) (r : Fin 256) : cut x g (ix2 r 0) = x (ix2 ⟨256 * g.val + r.val, by omega⟩ 0) := by
  fin_cases g <;> pointwise [cut]
theorem cutR_at (x : FVec Ideal S1x1024 .f32) (g : Fin 4) (r : Fin 256) : cutR x g (ix2 0 r) = x (ix2 0 ⟨256 * g.val + r.val, by omega⟩) := by
  fin_cases g <;> pointwise [cutR]
end Cert.KernelIdeal.Gdn
end
-- ==== Proof.GdnReal.lean ====
module

public import proofs.«01_k».proof.Proof.GdnRead

@[expose] public section

set_option maxRecDepth 16384

noncomputable section
open Idealize.ShloMosaic Idealize.ShloMosaic.TcCoe Idealize.SL.Sem

namespace Cert.KernelIdeal.Gdn
open Cert.KernelIdeal Cert.KernelIdeal.Gen Cert.GdnMath

/-! ## The stages over real inputs -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A group's sum with only chunk `m` in it. -/
theorem sum_blk (m : Fin 4) (f : Fin 256 → EReal) (h : ∀ r, blk r ≠ m → f r = 0) : ∑ r, f r = ∑ l : Fin 64, f (tok m l) := by
  symm
  refine Finset.sum_of_injOn (tok m) ?_ ?_ ?_ ?_
  · intro a _ b _ e
    have := congrArg col e
    rwa [col_tok, col_tok] at this
  · intro a _; exact Finset.mem_coe.mpr (Finset.mem_univ _)
  · intro r _ hr
    refine h r fun e => hr ⟨col r, Finset.mem_coe.mpr (Finset.mem_univ _), ?_⟩
    rw [← e, tok_blk]
  · intro a _; rfl

local notation "C64" => Matrix (Fin 64) (Fin 64) ℝ

/-- A packed slab holding one real block per chunk. -/
def Slab (x : FVec Ideal S64x256 .f32) (T : Fin 4 → C64) : Prop := ∀ i c, x (ix2 i c) = ((T (blk c) i (col c) : ℝ) : EReal)

theorem Slab.bd {x : FVec Ideal S64x256 .f32} {T : Fin 4 → C64} (h : Slab x T) (r c : Fin 256) :
    bd x (ix2 r c) = if blk r = blk c then ((T (blk c) (col r) (col c) : ℝ) : EReal) else 0 := by
  rw [bd_at, h]

theorem Slab.masked {x : FVec Ideal S64x256 .f32} {A : Fin 4 → C64} (h : Slab x A) (b2 b : BitVec 32) (n : ℕ)
    (h2 : ∀ i : Fin 64, fd (BitVec.ofNat 32 i.val) b2 = BitVec.ofNat 32 (i.val / (2 * n))) (h1 : ∀ i : Fin 64, fd (BitVec.ofNat 32 i.val) b = BitVec.ofNat 32 (i.val / n)) :
    Slab (masked (mM b2 b) x) fun m => join n (A m) := by
  intro i c
  rw [masked_at, sel_at _ _ (mM_at b2 b (2 * n) n h2 h1 i c), h]
  show _ = ((join n (A (blk c)) i (col c) : ℝ) : EReal)
  unfold join
  by_cases e : i.val / (2 * n) = (col c).val / (2 * n) ∧ i.val / n ≠ (col c).val / n
  · rw [if_pos e, if_pos e]
  · rw [if_neg e, if_neg e, EReal.coe_zero]

theorem merge_at (n : ℕ) (A T : C64) (i j : Fin 64) : GdnMath.merge n A T i j = T i j - ∑ l, (T * join n A) i l * T l j := by
  unfold GdnMath.merge
  rw [Matrix.sub_apply, Matrix.mul_apply]

theorem Slab.merge {x t : FVec Ideal S64x256 .f32} {A T : Fin 4 → C64} (h : Slab x A) (ht : Slab t T) (b2 b : BitVec 32) (n : ℕ)
    (h2 : ∀ i : Fin 64, fd (BitVec.ofNat 32 i.val) b2 = BitVec.ofNat 32 (i.val / (2 * n))) (h1 : ∀ i : Fin 64, fd (BitVec.ofNat 32 i.val) b = BitVec.ofNat 32 (i.val / n)) :
    Slab (mT b2 b x t) fun m => merge n (A m) (T m) := by
  intro i c
  have hm := h.masked b2 b n h2 h1
  have e1 : ∀ r : Fin 256, ∑ s : Fin 256, t (ix2 i s) * Gdn.bd (Gdn.masked (mM b2 b) x) (ix2 s r) = (((T (blk r) * join n (A (blk r))) i (col r) : ℝ) : EReal) := by
    intro r
    rw [sum_blk (blk r) _ fun s hs => by rw [hm.bd, if_neg hs, mul_zero], Matrix.mul_apply, coe_sum]
    refine Finset.sum_congr rfl fun l _ => ?_
    rw [hm.bd, ht, blk_tok, col_tok, if_pos rfl, EReal.coe_mul]
  rw [mT_at, ht, sum_blk (blk c) _ fun s hs => by rw [ht.bd, if_neg hs, mul_zero]]
  show _ = ((GdnMath.merge n (A (blk c)) (T (blk c)) i (col c) : ℝ) : EReal)
  rw [merge_at, EReal.coe_sub, coe_sum]
  refine congrArg _ (Finset.sum_congr rfl fun l _ => ?_)
  rw [e1, ht.bd, blk_tok, col_tok, if_pos rfl, EReal.coe_mul]

theorem Slab.t1 {x : FVec Ideal S64x256 .f32} {A : Fin 4 → C64} (h : Slab x A) : Slab (t1 x) fun m => 1 - join 1 (A m) := by
  intro i c
  rw [t1_at, eye_at, h.masked 2#32 1#32 1 (fun i => (fd64 i).2.1) (fun i => (fd64 i).1)]
  show _ - ((join 1 (A (blk c)) i (col c) : ℝ) : EReal) = (((1 - join 1 (A (blk c)) : C64) i (col c) : ℝ) : EReal)
  rw [Matrix.sub_apply, EReal.coe_sub, Matrix.one_apply]
  congr 1
  split_ifs <;> simp

theorem Slab.t32 {x : FVec Ideal S64x256 .f32} {A : Fin 4 → C64} (h : Slab x A) : Slab (t32 x) fun m => Tinv (A m) := by
  have s2 := h.merge h.t1 4#32 2#32 2 (fun i => (fd64 i).2.2.1) (fun i => (fd64 i).2.1)
  have s4 := h.merge s2 8#32 4#32 4 (fun i => (fd64 i).2.2.2.1) (fun i => (fd64 i).2.2.1)
  have s8 := h.merge s4 16#32 8#32 8 (fun i => (fd64 i).2.2.2.2.1) (fun i => (fd64 i).2.2.2.1)
  have s16 := h.merge s8 32#32 16#32 16 (fun i => (fd64 i).2.2.2.2.2.1) (fun i => (fd64 i).2.2.2.2.1)
  exact h.merge s16 64#32 32#32 32 (fun i => (fd64 i).2.2.2.2.2.2) (fun i => (fd64 i).2.2.2.2.2.1)

section Group
variable {q k v : Fin 4 → Fin 64 → Fin 128 → ℝ} {β γ : Fin 4 → Fin 64 → ℝ}
variable {Q K V : FVec Ideal S256x128 .f32} {bc gc : FVec Ideal S256x1 .f32} {gr : FVec Ideal S1x256 .f32}

/-- A group block of real rows. -/
def IsRows (X : FVec Ideal S256x128 .f32) (x : Fin 4 → Fin 64 → Fin 128 → ℝ) : Prop := ∀ r c, X (ix2 r c) = ((x (blk r) (col r) c : ℝ) : EReal)
/-- A group column of reals. -/
def IsCol (X : FVec Ideal S256x1 .f32) (x : Fin 4 → Fin 64 → ℝ) : Prop := ∀ r, X (ix2 r 0) = ((x (blk r) (col r) : ℝ) : EReal)
/-- A group row of reals. -/
def IsRow (X : FVec Ideal S1x256 .f32) (x : Fin 4 → Fin 64 → ℝ) : Prop := ∀ r, X (ix2 0 r) = ((x (blk r) (col r) : ℝ) : EReal)

theorem gram_real {x y : Fin 4 → Fin 64 → Fin 128 → ℝ} {X Y : FVec Ideal S256x128 .f32} (hX : IsRows X x) (hY : IsRows Y y) (r c : Fin 256) :
    gram X Y (ix2 r c) = ((∑ d, x (blk r) (col r) d * y (blk c) (col c) d : ℝ) : EReal) := by
  rw [gram_at, coe_sum]
  refine Finset.sum_congr rfl fun d _ => ?_
  rw [hX, hY, EReal.coe_mul]

variable (hmono : ∀ m (i j : Fin 64), j ≤ i → γ m i ≤ γ m j)
include hmono

theorem dec_real (hgc : IsCol gc γ) (hgr : IsRow gr γ) (r c : Fin 256) (hb : blk r = blk c) (hj : col c ≤ col r) :
    dec gc gr (ix2 r c) = ((Real.exp (γ (blk r) (col r) - γ (blk r) (col c)) : ℝ) : EReal) := by
  rw [dec_at, hgc, hgr, ← hb, ← EReal.coe_sub, min_eq_left, Ideal.exp_coe]
  have := hmono (blk r) _ _ hj
  rw [← EReal.coe_zero, EReal.coe_le_coe_iff]
  linarith

theorem anat_real (hK : IsRows K k) (hbc : IsCol bc β) (hgc : IsCol gc γ) (hgr : IsRow gr γ) (r c : Fin 256) :
    anat bc gc gr (gram K K) (ix2 r c) = if blk r = blk c then ((cA (k (blk c)) (β (blk c)) (γ (blk c)) (col r) (col c) : ℝ) : EReal) else 0 := by
  rw [anat_at]
  by_cases hb : blk r = blk c
  swap
  · rw [if_neg hb, if_neg fun e => hb e.1]
  rw [if_pos hb]
  unfold cA
  by_cases hj : col c < col r
  · rw [if_pos ⟨hb, hj⟩, if_pos hj, hbc, gram_real hK hK, dec_real hmono hgc hgr r c hb (le_of_lt hj), hb, EReal.coe_mul, EReal.coe_mul]
  · rw [if_neg fun e => hj e.2, if_neg hj, EReal.coe_zero]

theorem pack_real (hK : IsRows K k) (hbc : IsCol bc β) (hgc : IsCol gc γ) (hgr : IsRow gr γ) :
    Slab (pack (anat bc gc gr (gram K K))) fun m => cA (k m) (β m) (γ m) := by
  intro i c
  rw [pack_at]
  simp only [anat_real hmono hK hbc hgc hgr, blk_tok, col_tok]
  generalize blk c = b
  fin_cases b <;> simp

theorem wuW_real (hK : IsRows K k) (hbc : IsCol bc β) (hgc : IsCol gc γ) (hgr : IsRow gr γ) (r : Fin 256) (c : Fin 128) :
    wu bc gc K V (t32 (pack (anat bc gc gr (gram K K)))) (ix2 r ⟨c.val, by omega⟩) = ((cW (k (blk r)) (β (blk r)) (γ (blk r)) (col r) c : ℝ) : EReal) := by
  have hT := (pack_real hmono hK hbc hgc hgr).t32
  rw [wuW_at, sum_blk (blk r) _ fun s hs => by rw [hT.bd, if_neg (Ne.symm hs), zero_mul]]
  unfold cW
  rw [coe_sum]
  refine Finset.sum_congr rfl fun l _ => ?_
  rw [hT.bd, blk_tok, col_tok, if_pos rfl, hK, hbc, hgc, blk_tok, col_tok, Ideal.exp_coe, EReal.coe_mul, EReal.coe_mul, EReal.coe_mul]

theorem wuU_real (hK : IsRows K k) (hV : IsRows V v) (hbc : IsCol bc β) (hgc : IsCol gc γ) (hgr : IsRow gr γ) (r : Fin 256) (c : Fin 128) :
    wu bc gc K V (t32 (pack (anat bc gc gr (gram K K)))) (ix2 r ⟨128 + c.val, by omega⟩) = ((cU (k (blk r)) (v (blk r)) (β (blk r)) (γ (blk r)) (col r) c : ℝ) : EReal) := by
  have hT := (pack_real hmono hK hbc hgc hgr).t32
  rw [wuU_at, sum_blk (blk r) _ fun s hs => by rw [hT.bd, if_neg (Ne.symm hs), zero_mul]]
  unfold cU
  rw [coe_sum]
  refine Finset.sum_congr rfl fun l _ => ?_
  rw [hT.bd, blk_tok, col_tok, if_pos rfl, hV, hbc, blk_tok, col_tok, EReal.coe_mul, EReal.coe_mul]

theorem qw_real (hQ : IsRows Q q) (hK : IsRows K k) (hgc : IsCol gc γ) (hgr : IsRow gr γ) (W : FVec Ideal S256x256 .bf16) (c : Fin 256) (w : Fin 4 → Fin 64 → ℝ)
    (hW : ∀ r, W (ix2 r c) = ((w (blk r) (col r) : ℝ) : EReal)) (r : Fin 256) :
    qw gc gr (gram Q K) W (ix2 r c) = ((∑ j, cP (q (blk r)) (k (blk r)) (γ (blk r)) (col r) j * w (blk r) j : ℝ) : EReal) := by
  rw [qw_at, sum_blk (blk r) _ fun s hs => by rw [if_neg fun e => hs e.1.symm, zero_mul], coe_sum]
  refine Finset.sum_congr rfl fun l _ => ?_
  rw [blk_tok, col_tok, hW, blk_tok, col_tok, EReal.coe_mul]
  congr 1
  unfold cP
  by_cases hj : l ≤ col r
  · rw [if_pos ⟨rfl, hj⟩, if_pos hj, gram_real hQ hK, dec_real hmono hgc hgr r _ (blk_tok _ _).symm (by rw [col_tok]; exact hj), blk_tok, col_tok, EReal.coe_mul]
  · rw [if_neg fun e => hj e.2, if_neg hj, EReal.coe_zero]

omit hmono in
theorem mn_real (hK : IsRows K k) (hgc : IsCol gc γ) (W : FVec Ideal S256x256 .bf16) (c : Fin 256) (w : Fin 4 → Fin 64 → ℝ)
    (hW : ∀ r, W (ix2 r c) = ((w (blk r) (col r) : ℝ) : EReal)) (m : Fin 4) (a : Fin 128) :
    mn gc K W m (ix2 a c) = ((∑ i, cKD (k m) (γ m) i a * w m i : ℝ) : EReal) := by
  rw [mn_at, coe_sum]
  refine Finset.sum_congr rfl fun i _ => ?_
  rw [rows128_at, last1_at, rows1_at, rows256_at, hK, hgc, hgc, hW, blk_tok, blk_tok, col_tok, col_tok, ← EReal.coe_sub, Ideal.exp_coe, ← EReal.coe_mul, ← EReal.coe_mul]
  rfl
end Group

/-- The real operators of a chunk, as a stack of vectors holds them. -/
structure IsChunk (q k v : Fin 64 → Fin 128 → ℝ) (β γ : Fin 64 → ℝ) (mq : FVec Ideal S1x192x128 .bf16) (dl : FVec Ideal S1x8x128 .f32)
    (nn : FVec Ideal S1x128x128 .f32) (oi : FVec Ideal S1x64x128 .f32) : Prop where
  hM : ∀ a b : Fin 128, mq (ix3 0 ⟨a.val, by omega⟩ b) = ((cM k β γ a b : ℝ) : EReal)
  hQ : ∀ (i : Fin 64) (b : Fin 128), mq (ix3 0 ⟨128 + i.val, by omega⟩ b) = ((cQe q k β γ i b : ℝ) : EReal)
  hD : ∀ b : Fin 128, dl (ix3 0 0 b) = ((Real.exp (γ 63) : ℝ) : EReal)
  hN : ∀ a b : Fin 128, nn (ix3 0 a b) = ((cN k v β γ a b : ℝ) : EReal)
  hO : ∀ (i : Fin 64) (b : Fin 128), oi (ix3 0 i b) = ((cQU q k v β γ i b : ℝ) : EReal)

theorem block_real (a0 : BitVec 32) (Q K : Fin 4 → FVec Ideal S256x128 .f32) (V : Fin 2 → Fin 4 → FVec Ideal S256x128 .f32) (G : FVec Ideal S1024x128 .f32) (R : Fin 2 → FVec Ideal S1x1024 .f32)
    (e : Fin 2) (g : Fin 4) {q k v : Fin 4 → Fin 64 → Fin 128 → ℝ} {β γ : Fin 4 → Fin 64 → ℝ}
    (hmono : ∀ m (i j : Fin 64), j ≤ i → γ m i ≤ γ m j) (hQ : IsRows (Q g) q) (hK : IsRows (K g) k) (hV : IsRows (V e g) v) (hbc : IsCol (hB a0 G e g) β) (hgc : IsCol (hG a0 G e g) γ)
    (hgr : IsRow (cutR (R e) g) γ) (m : Fin 4) :
    IsChunk (q m) (k m) (v m) (β m) (γ m) (bMQ a0 Q K V G R e g m) (bD a0 G e g m) (bN a0 K V G R e g m) (bO a0 Q K V G R e g m) := by
  have eW := fun (r : Fin 256) (c : Fin 128) => wuW_real (V := V e g) hmono hK hbc hgc hgr r c
  have eU := fun (r : Fin 256) (c : Fin 128) => wuU_real hmono hK hV hbc hgc hgr r c
  constructor
  · intro a b
    unfold bMQ
    rw [opM_at]
    exact mn_real hK hgc _ _ (fun m i => cW (k m) (β m) (γ m) i b) (fun r => eW r b) m a
  · intro i b
    unfold bMQ
    rw [opQ_at, rows128_at, rows1_at, rowsW_at, hQ]
    have h1 : exp (hG a0 G e g) (ix2 (tok m i) 0) = ((Real.exp (γ m i) : ℝ) : EReal) := by
      show Ideal.exp (hG a0 G e g (ix2 (tok m i) 0)) = _
      rw [hgc, blk_tok, col_tok, Ideal.exp_coe]
    have h2 := qw_real hmono hQ hK hgc hgr _ _ (fun m i => cW (k m) (β m) (γ m) i b) (fun r => eW r b) (tok m i)
    unfold Gdn.hQ hW
    rw [h1, h2, blk_tok, col_tok, ← EReal.coe_mul, ← EReal.coe_sub]
    rfl
  · intro b
    unfold bD
    rw [opD_at, last1_at, hgc, blk_tok, col_tok, Ideal.exp_coe]
  · intro a b
    unfold bN
    rw [opN_at]
    exact mn_real hK hgc _ _ (fun m i => cU (k m) (v m) (β m) (γ m) i b) (fun r => eU r b) m a
  · intro i b
    unfold bO
    rw [opO_at, rowsU_at]
    have h2 := qw_real hmono hQ hK hgc hgr _ _ (fun m i => cU (k m) (v m) (β m) (γ m) i b) (fun r => eU r b) (tok m i)
    unfold Gdn.hQ hW
    rw [h2, blk_tok, col_tok]
    rfl

/-- The state of one head as reals. -/
def IsState (S : FVec Ideal S128x128 .f32) (s : Fin 128 → Fin 128 → ℝ) : Prop := ∀ a b, S (ix2 a b) = ((s a b : ℝ) : EReal)

theorem IsChunk.state {q k v : Fin 64 → Fin 128 → ℝ} {β γ : Fin 64 → ℝ} {mq : FVec Ideal S1x192x128 .bf16} {dl : FVec Ideal S1x8x128 .f32}
    {nn : FVec Ideal S1x128x128 .f32} {oi : FVec Ideal S1x64x128 .f32} (h : IsChunk q k v β γ mq dl nn oi) {S : FVec Ideal S128x128 .f32} {s : Fin 128 → Fin 128 → ℝ} (hS : IsState S s) :
    IsState (stS mq dl nn S) (cS k v β γ s) := by
  intro a b
  rw [stS_at, hS, h.hD, h.hN]
  unfold cS
  rw [EReal.coe_add, EReal.coe_sub, EReal.coe_mul, coe_sum]
  simp only [EReal.coe_mul, h.hM, hS _ _]

theorem IsChunk.out {q k v : Fin 64 → Fin 128 → ℝ} {β γ : Fin 64 → ℝ} {mq : FVec Ideal S1x192x128 .bf16} {dl : FVec Ideal S1x8x128 .f32}
    {nn : FVec Ideal S1x128x128 .f32} {oi : FVec Ideal S1x64x128 .f32} (h : IsChunk q k v β γ mq dl nn oi) {S : FVec Ideal S128x128 .f32} {s : Fin 128 → Fin 128 → ℝ} (hS : IsState S s) (i : Fin 64) (b : Fin 128) :
    ot mq oi S (ix2 i b) = ((cO q k v β γ s i b : ℝ) : EReal) := by
  rw [ot_at, h.hO]
  unfold cO
  rw [EReal.coe_add, coe_sum]
  simp only [EReal.coe_mul, h.hQ, hS _ _]

end Cert.KernelIdeal.Gdn
end
-- ==== Proof.GdnLoad.lean ====
module

public import proofs.«01_k».proof.Proof.GdnBlock
public import proofs.«01_k».proof.Proof.GdnReal
public import Idealize.ShloMosaic.Lib.WholeRead

@[expose] public section

set_option maxRecDepth 16384

noncomputable section

namespace Cert.KernelIdeal.Gdn
open Idealize.ShloMosaic Idealize.ShloMosaic.TcCoe Idealize.SL.Sem
open Cert.KernelIdeal Cert.KernelIdeal.Gen

variable {F : FTy → Type} [FloatOps F]

/-! ## The loads of a grid point at an index -/

section Loads
variable (r : Memref sig .tc .vmem S1024x128 .f32) (hr : r.IsWhole) (r2 : Memref sig .tc .vmem S1024x256 .f32) (hr2 : r2.IsWhole)
variable (r7 : Memref sig .tc .vmem S128x1024 .f32) (hr7 : r7.IsWhole) (r8 : Memref sig .tc .vmem S1x128 .f32) (hr8 : r8.IsWhole)
variable (w0 : Memref sig .tc .vmem S2x128x128 .f32) (hw0 : w0.IsWhole) (w1 : Memref sig .tc .vmem S32x192x128 .bf16) (hw1 : w1.IsWhole)
variable (w2 : Memref sig .tc .vmem S32x128x128 .f32) (hw2 : w2.IsWhole) (w3 : Memref sig .tc .vmem S32x64x128 .f32) (hw3 : w3.IsWhole)
variable (w4 : Memref sig .tc .vmem S32x8x128 .f32) (hw4 : w4.IsWhole)

theorem LG_at (x : Vec F S1024x128 .f32) (i : Fin 1024) (c : Fin 128) : LG r hr x (ix2 i c) = x (ix2 i c) := by
  unfold LG
  rw [Memref.IsWhole.readAt_unread hr x]
  refine congrArg x (funext fun a => ?_)
  fin_cases a <;> refine Fin.ext ?_
  · show 0 + 1 * i.val = i.val
    omega
  · show 0 + 1 * c.val = c.val
    omega
theorem LK_at (x : Vec F S1024x128 .f32) (g : Fin 4) (i : Fin 256) (c : Fin 128) : LK r hr x g (ix2 i c) = x (ix2 ⟨256 * g.val + i.val, by omega⟩ c) := by
  unfold LK
  rw [Memref.IsWhole.readAt_unread hr x]
  refine congrArg x (funext fun a => ?_)
  fin_cases a <;> refine Fin.ext ?_
  · show 256 * g.val + 1 * i.val = 256 * g.val + i.val
    omega
  · show 0 + 1 * c.val = c.val
    omega
theorem LV_at (x : Vec F S1024x256 .f32) (e : Fin 2) (g : Fin 4) (i : Fin 256) (c : Fin 128) :
    LV r2 hr2 x e g (ix2 i c) = x (ix2 ⟨256 * g.val + i.val, by omega⟩ ⟨128 * e.val + c.val, by omega⟩) := by
  unfold LV
  rw [Memref.IsWhole.readAt_unread hr2 x]
  refine congrArg x (funext fun a => ?_)
  fin_cases a <;> refine Fin.ext ?_
  · show 256 * g.val + 1 * i.val = 256 * g.val + i.val
    omega
  · show 128 * e.val + 1 * c.val = 128 * e.val + c.val
    omega
theorem LZ_at (x : Vec F S1024x256 .f32) (e : Fin 2) (n : Fin 16) (i : Fin 64) (c : Fin 128) :
    LZ r2 hr2 x e n (ix2 i c) = x (ix2 ⟨64 * n.val + i.val, by omega⟩ ⟨128 * e.val + c.val, by omega⟩) := by
  unfold LZ
  rw [Memref.IsWhole.readAt_unread hr2 x]
  refine congrArg x (funext fun a => ?_)
  fin_cases a <;> refine Fin.ext ?_
  · show 64 * n.val + 1 * i.val = 64 * n.val + i.val
    omega
  · show 128 * e.val + 1 * c.val = 128 * e.val + c.val
    omega
theorem LN_at (x : Vec F S1x128 .f32) (c : Fin 128) : LN r8 hr8 x (ix2 0 c) = x (ix2 0 c) := by
  unfold LN
  rw [Memref.IsWhole.readAt_unread hr8 x]
  refine congrArg x (funext fun a => ?_)
  fin_cases a <;> refine Fin.ext ?_
  · rfl
  · show 0 + 1 * c.val = c.val
    omega
theorem cast_row (x : FVec F S1x1024 .f32) (h : S1x1024.ShapeCasts S1x1024) (c : Fin 1024) : shapeCast S1x1024 x h (ix2 0 c) = x (ix2 0 c) := by
  pointwise []
theorem LR_at (i : grid0.Coords) (h : cond0_2 i) (x : Vec F S128x1024 .f32) (e : Fin 2) (c : Fin 1024) :
    LR r7 hr7 i h x e (ix2 0 c) = x (ix2 ⟨2 * (i 0).val + e.val + 32, by have : (i 0).val < 16 := (i 0).isLt; omega⟩ c) := by
  unfold LR
  rw [cast_row, Memref.IsWhole.readAt_unread hr7 x]
  refine congrArg x (funext fun a => ?_)
  have k := k0_off1_eq i e
  fin_cases a <;> refine Fin.ext ?_
  · show k0_off1 i (BitVec.ofNat 32 e.val) 0 + 1 * 0 = 2 * (i 0).val + e.val + 32
    rw [k]; rfl
  · show k0_off1 i (BitVec.ofNat 32 e.val) 1 + 1 * c.val = c.val
    rw [k]; show 0 + 1 * c.val = c.val; omega
theorem cast_slab (x : FVec F S1x128x128 .f32) (h : S1x128x128.ShapeCasts S128x128) (a b : Fin 128) : shapeCast S128x128 x h (ix2 a b) = x (ix3 0 a b) := by
  pointwise []
theorem LS_at (x : Vec F S2x128x128 .f32) (e : Fin 2) (a b : Fin 128) : LS w0 hw0 x e (ix2 a b) = x (ix3 e a b) := by
  unfold LS
  rw [cast_slab, Memref.IsWhole.readAt_unread hw0 x]
  refine congrArg x (funext fun d => ?_)
  fin_cases d <;> refine Fin.ext ?_
  · show e.val + 1 * 0 = e.val
    omega
  · show 0 + 1 * a.val = a.val
    omega
  · show 0 + 1 * b.val = b.val
    omega
theorem L1_at (x : Vec F S32x192x128 .bf16) (j : Fin 32) (a : Fin 192) (b : Fin 128) : L1 w1 hw1 x j (ix3 0 a b) = x (ix3 j a b) := by
  unfold L1
  rw [Memref.IsWhole.readAt_unread hw1 x]
  refine congrArg x (funext fun d => ?_)
  fin_cases d <;> refine Fin.ext ?_
  · show j.val + 1 * 0 = j.val
    omega
  · show 0 + 1 * a.val = a.val
    omega
  · show 0 + 1 * b.val = b.val
    omega
theorem L2_at (x : Vec F S32x128x128 .f32) (j : Fin 32) (a b : Fin 128) : L2 w2 hw2 x j (ix3 0 a b) = x (ix3 j a b) := by
  unfold L2
  rw [Memref.IsWhole.readAt_unread hw2 x]
  refine congrArg x (funext fun d => ?_)
  fin_cases d <;> refine Fin.ext ?_
  · show j.val + 1 * 0 = j.val
    omega
  · show 0 + 1 * a.val = a.val
    omega
  · show 0 + 1 * b.val = b.val
    omega
theorem L3_at (x : Vec F S32x64x128 .f32) (j : Fin 32) (a : Fin 64) (b : Fin 128) : L3 w3 hw3 x j (ix3 0 a b) = x (ix3 j a b) := by
  unfold L3
  rw [Memref.IsWhole.readAt_unread hw3 x]
  refine congrArg x (funext fun d => ?_)
  fin_cases d <;> refine Fin.ext ?_
  · show j.val + 1 * 0 = j.val
    omega
  · show 0 + 1 * a.val = a.val
    omega
  · show 0 + 1 * b.val = b.val
    omega
theorem L4_at (x : Vec F S32x8x128 .f32) (j : Fin 32) (a : Fin 8) (b : Fin 128) : L4 w4 hw4 x j (ix3 0 a b) = x (ix3 j a b) := by
  unfold L4
  rw [Memref.IsWhole.readAt_unread hw4 x]
  refine congrArg x (funext fun d => ?_)
  fin_cases d <;> refine Fin.ext ?_
  · show j.val + 1 * 0 = j.val
    omega
  · show 0 + 1 * a.val = a.val
    omega
  · show 0 + 1 * b.val = b.val
    omega
end Loads

/-! ### The head's gates: a lane picked by comparing its number -/

theorem pick (h : BitVec 32) (L : Fin 128) (hh : h = BitVec.ofNat 32 L.val) (G : FVec Ideal S1024x128 .f32) (i : Fin 1024) : laneCol h G (ix2 i 0) = G (ix2 i L) := by
  rw [lane_at, Finset.sum_eq_single L]
  · rw [hh]; unfold Scalar.select Scalar.cmpi IntOp.cmpi; simp
  · intro b _ hb
    have : ¬ BitVec.ofNat 32 b.val = h := by
      rw [hh]
      intro q
      apply hb
      have := congrArg BitVec.toNat q
      simp only [BitVec.toNat_ofNat] at this
      have := b.isLt
      have := L.isLt
      exact Fin.ext (by omega)
    unfold Scalar.select Scalar.cmpi IntOp.cmpi
    have e : (BitVec.ofNat 32 b.val == h) = false := beq_eq_false_iff_ne.mpr this
    simp only [e]
    rfl
  · intro q; exact absurd (Finset.mem_univ _) q

theorem hB_at (k : Fin 16) (G : FVec Ideal S1024x128 .f32) (e : Fin 2) (g : Fin 4) (r : Fin 256) :
    hB (BitVec.ofNat 32 k.val) G e g (ix2 r 0) = G (ix2 ⟨256 * g.val + r.val, by omega⟩ ⟨2 * k.val + e.val, by omega⟩) := by
  unfold hB bcol
  rw [cut_at]
  exact pick _ ⟨2 * k.val + e.val, by omega⟩ (by revert k e; decide) G _
theorem hG_at (k : Fin 16) (G : FVec Ideal S1024x128 .f32) (e : Fin 2) (g : Fin 4) (r : Fin 256) :
    hG (BitVec.ofNat 32 k.val) G e g (ix2 r 0) = G (ix2 ⟨256 * g.val + r.val, by omega⟩ ⟨32 + (2 * k.val + e.val), by omega⟩) := by
  unfold hG gcol
  rw [cut_at]
  exact pick _ ⟨32 + (2 * k.val + e.val), by omega⟩ (by revert k e; decide) G _
end Cert.KernelIdeal.Gdn
end
-- ==== Proof.GdnBlk.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Gdn
open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-! ## The blocks a grid point stages, as entries of the argument arrays -/

theorem idx : ∀ t : Fin cfg0.N, win0_0.index t = ![min (t.val % 9) 7, t.val / 9] ∧ win0_1.index t = ![min (t.val % 9) 7, 16 + t.val / 9] ∧ win0_2.index t = ![min (t.val % 9) 7, 16 + t.val / 9]
    ∧ win0_3.index t = ![t.val % 9 - 1, t.val / 9] ∧ win0_4.index t = ![min (t.val % 9) 7, 0] ∧ win0_5.index t = ![0, min (t.val % 9) 7] ∧ win0_6.index t = ![0, 0]
    ∧ win0_7.index t = ![t.val % 9 - 1, t.val / 9] ∧ t.val < 144 :=
  (by decide +kernel : ∀ t : Fin grid0.N, _)
theorem coord0 : ∀ t : Fin cfg0.N, ((grid0.coords t) 0).val = t.val / 9 := (by decide +kernel : ∀ t : Fin grid0.N, _)

/-- The argument arrays. -/
abbrev Aq (c : Dev nD) : FVec Ideal S8192x8192 .f32 := m ((c : Thread nD τ).loc main_arg0)
abbrev Az (c : Dev nD) : FVec Ideal S8192x4096 .f32 := m ((c : Thread nD τ).loc main_arg1)
abbrev Ag (c : Dev nD) : FVec Ideal S8192x128 .f32 := m ((c : Thread nD τ).loc main_arg2)
abbrev An (c : Dev nD) : FVec Ideal S128 .f32 := m ((c : Thread nD τ).loc main_arg3)

theorem blk0_at (c : Dev nD) (t : Fin cfg0.N) (i : Fin 1024) (j : Fin 128) (h0 : min (t.val % 9) 7 * 1024 + i.val < 8192) (h1 : t.val / 9 * 128 + j.val < 8192) :
    (iblk m c 0 t : FVec Ideal S1024x128 .f32) (ix2 i j) = Aq m c (ix2 ⟨min (t.val % 9) 7 * 1024 + i.val, h0⟩ ⟨t.val / 9 * 128 + j.val, h1⟩) := by
  blk_point [iblk, V, idx t]
theorem blk1_at (c : Dev nD) (t : Fin cfg0.N) (i : Fin 1024) (j : Fin 128) (h0 : min (t.val % 9) 7 * 1024 + i.val < 8192) (h1 : (16 + t.val / 9) * 128 + j.val < 8192) :
    (iblk m c 1 t : FVec Ideal S1024x128 .f32) (ix2 i j) = Aq m c (ix2 ⟨min (t.val % 9) 7 * 1024 + i.val, h0⟩ ⟨(16 + t.val / 9) * 128 + j.val, h1⟩) := by
  blk_point [iblk, V, idx t]
theorem blk2_at (c : Dev nD) (t : Fin cfg0.N) (i : Fin 1024) (j : Fin 256) (h0 : min (t.val % 9) 7 * 1024 + i.val < 8192) (h1 : (16 + t.val / 9) * 256 + j.val < 8192) :
    (iblk m c 2 t : FVec Ideal S1024x256 .f32) (ix2 i j) = Aq m c (ix2 ⟨min (t.val % 9) 7 * 1024 + i.val, h0⟩ ⟨(16 + t.val / 9) * 256 + j.val, h1⟩) := by
  blk_point [iblk, V, idx t]
theorem blk3_at (c : Dev nD) (t : Fin cfg0.N) (i : Fin 1024) (j : Fin 256) (h0 : (t.val % 9 - 1) * 1024 + i.val < 8192) (h1 : t.val / 9 * 256 + j.val < 4096) :
    (iblk m c 3 t : FVec Ideal S1024x256 .f32) (ix2 i j) = Az m c (ix2 ⟨(t.val % 9 - 1) * 1024 + i.val, h0⟩ ⟨t.val / 9 * 256 + j.val, h1⟩) := by
  blk_point [iblk, V, idx t]
theorem blk4_at (c : Dev nD) (t : Fin cfg0.N) (i : Fin 1024) (j : Fin 128) (h0 : min (t.val % 9) 7 * 1024 + i.val < 8192) :
    (iblk m c 4 t : FVec Ideal S1024x128 .f32) (ix2 i j) = Ag m c (ix2 ⟨min (t.val % 9) 7 * 1024 + i.val, h0⟩ j) := by
  blk_point [iblk, V, idx t]
theorem blk5_at (c : Dev nD) (t : Fin cfg0.N) (i : Fin 128) (j : Fin 1024) (h0 : min (t.val % 9) 7 * 1024 + j.val < 8192) :
    (iblk m c 5 t : FVec Ideal S128x1024 .f32) (ix2 i j) = Ag m c (ix2 ⟨min (t.val % 9) 7 * 1024 + j.val, h0⟩ i) := by
  blk_point [iblk, V, idx t]
theorem blk6_at (c : Dev nD) (t : Fin cfg0.N) (j : Fin 128) :
    (iblk m c 6 t : FVec Ideal S1x128 .f32) (ix2 0 j) = An m c (ix1 j) := by
  blk_point [iblk, V, idx t]
end Cert.KernelIdeal.Gdn
end
-- ==== Proof.GdnZero.lean ====
module

public import proofs.«01_k».proof.Proof.GdnBlock
public import proofs.«01_k».proof.Proof.GdnRead
public import Idealize.ShloMosaic.Lib.Pipeline.ReadBack

@[expose] public section

set_option maxRecDepth 16384

noncomputable section
open Idealize.ShloMosaic Idealize.ShloMosaic.TcCoe Idealize.SL.Sem

namespace Cert.KernelIdeal.Gdn
open Cert.KernelIdeal Cert.KernelIdeal.Gen

variable {F : FTy → Type} [FloatOps F]
variable (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (arg7 : Memref sig .tc .vmem S128x1024 .f32) (harg7 : arg7.IsWhole) (arg8 : Memref sig .tc .vmem S1x128 .f32) (harg8 : arg8.IsWhole) (arg9 : Memref sig .tc .vmem S1024x256 .bf16) (harg9 : arg9.IsWhole) (arg10 : Memref sig .tc .vmem S2x128x128 .f32) (harg10 : arg10.IsWhole) (arg11 : Memref sig .tc .vmem S32x192x128 .bf16) (harg11 : arg11.IsWhole) (arg12 : Memref sig .tc .vmem S32x128x128 .f32) (harg12 : arg12.IsWhole) (arg13 : Memref sig .tc .vmem S32x64x128 .f32) (harg13 : arg13.IsWhole) (arg14 : Memref sig .tc .vmem S32x8x128 .f32) (harg14 : arg14.IsWhole) (hc0 : cond0_0 i) (hc1 : ¬cond0_1 i) (hc2 : cond0_2 i)
    (x0 : Vec F S1024x128 .f32) (x1 : Vec F S1024x128 .f32) (x2 : Vec F S1024x256 .f32) (x3 : Vec F S1024x256 .f32) (x4 : Vec F S1024x128 .f32) (x5 : Vec F S128x1024 .f32) (x6 : Vec F S1x128 .f32)

/-! ## The first point of a head pair: what it reads of the cleared buffers, and the state it leaves -/

section Cleared
def C0 (e : Fin 2) : FVec F S128x128 .f32 := shapeCast S128x128 (View.readCov (Val := Elt F) arg10.view (kernelRun0_A.sl.HS0_1 (F := F)) (Rect.unit (s := S2x128x128) ![e.val, 0, 0] S1x128x128.size (inbS e)).toLoadRect) shapeCasts_S1x128x128_S128x128
def C1 (j : Fin 32) : FVec F S1x192x128 .bf16 := View.readCov (Val := Elt F) arg11.view (kernelRun0_A.sl.HS1_1 (F := F)) (Rect.unit (s := S32x192x128) ![j.val, 0, 0] S1x192x128.size (inbM j)).toLoadRect
def C2 (j : Fin 32) : FVec F S1x128x128 .f32 := View.readCov (Val := Elt F) arg12.view (kernelRun0_A.sl.HS2_1 (F := F)) (Rect.unit (s := S32x128x128) ![j.val, 0, 0] S1x128x128.size (inbN j)).toLoadRect
def C4 (j : Fin 32) : FVec F S1x8x128 .f32 := View.readCov (Val := Elt F) arg14.view (kernelRun0_A.sl.HS4_1 (F := F)) (Rect.unit (s := S32x8x128) ![j.val, 0, 0] S1x8x128.size (inbD j)).toLoadRect
end Cleared

theorem pieceES {P : FVec F S1x128x128 .f32} (T : Fin 2 → FVec F S1x128x128 .f32) (k : ℕ) (hk : k < 2)
    (inb : ∀ a : Fin 3, ![k, 0, 0] a + S1x128x128.size a ≤ S2x128x128.size a) (hP : P = T ⟨k, hk⟩) (x : S1x128x128.Idx) :
    P x = (fun y : S2x128x128.Idx => T (y 0) (ix3 (n0 := 1) (n1 := 128) (n2 := 128) 0 (y 1) (y 2))) ((Rect.unit (s := S2x128x128) ![k, 0, 0] S1x128x128.size inb).emb x) :=
  pieceS T (k := k) ((Rect.unit (s := S2x128x128) ![k, 0, 0] S1x128x128.size inb).emb x) x (ValueKit.rect_emb_unit_val (s := S2x128x128) _ _ inb x 0)
    ((ValueKit.rect_emb_unit_val (s := S2x128x128) _ _ inb x 1).trans (Nat.zero_add _)) ((ValueKit.rect_emb_unit_val (s := S2x128x128) _ _ inb x 2).trans (Nat.zero_add _)) hk hP

set_option maxHeartbeats 4000000 in
theorem soutA_0 (y : S2x128x128.Idx) : sout0_A_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 y = (fun e => shapeCast S1x128x128 (sN (C1 arg11) (C4 arg14) (C2 arg12) e (C0 arg10 e) 16) shapeCasts_S128x128_S1x128x128) (y 0) (ix3 (n0 := 1) (n1 := 128) (n2 := 128) 0 (y 1) (y 2)) := by
  unfold sout0_A_0
  rw [View.read_writes_junk_eq_canon]
  unfold kernelRun0_A
  dsimp only
  refine View.canon_append_of_piecesOf (Val := Elt F) (e := .f32) (fun y : S2x128x128.Idx => (fun e => shapeCast S1x128x128 (sN (C1 arg11) (C4 arg14) (C2 arg12) e (C0 arg10 e) 16) shapeCasts_S128x128_S1x128x128) (y 0) (ix3 (n0 := 1) (n1 := 128) (n2 := 128) 0 (y 1) (y 2))) [_] [_, _] ⟨?_, ?_, trivial⟩ y ?_
  · refine pieceES (fun e => shapeCast S1x128x128 (sN (C1 arg11) (C4 arg14) (C2 arg12) e (C0 arg10 e) 16) shapeCasts_S128x128_S1x128x128) 1 (by decide) (inbS 1) ?_
    rfl
  · refine pieceES (fun e => shapeCast S1x128x128 (sN (C1 arg11) (C4 arg14) (C2 arg12) e (C0 arg10 e) 16) shapeCasts_S128x128_S1x128x128) 0 (by decide) (inbS 0) ?_
    rfl
  · exact View.cover_of_tiledL (s := S2x128x128) _ S1x128x128.size (by sl_kernel_rfl) y

end Cert.KernelIdeal.Gdn

namespace Cert.KernelIdeal.Gdn
open Cert.KernelIdeal Cert.KernelIdeal.Gen

theorem C1_at (w : Memref sig .tc .vmem S32x192x128 .bf16) (j : Fin 32) (x : S1x192x128.Idx) : C1 (F := Ideal) w j x = 0 := by
  unfold C1 kernelRun0_A.sl.HS1_1
  erw [View.readCov_fill _ _ _ _ _ (by decide)]
  exact Ideal.ofBits_zero .bf16
theorem C2_at (w : Memref sig .tc .vmem S32x128x128 .f32) (j : Fin 32) (x : S1x128x128.Idx) : C2 (F := Ideal) w j x = 0 := by
  unfold C2 kernelRun0_A.sl.HS2_1
  erw [View.readCov_fill _ _ _ _ _ (by decide)]
  exact Ideal.ofBits_zero_f32
theorem C4_at (w : Memref sig .tc .vmem S32x8x128 .f32) (j : Fin 32) (x : S1x8x128.Idx) : C4 (F := Ideal) w j x = 0 := by
  unfold C4 kernelRun0_A.sl.HS4_1
  erw [View.readCov_fill _ _ _ _ _ (by decide)]
  exact Ideal.ofBits_zero_f32
theorem C0_at (w : Memref sig .tc .vmem S2x128x128 .f32) (e : Fin 2) (x : S128x128.Idx) : C0 (F := Ideal) w e x = 0 := by
  unfold C0 kernelRun0_A.sl.HS0_1
  erw [View.readCov_fill _ _ _ _ _ (by decide)]
  exact Ideal.ofBits_zero_f32

/-- A state of zeros stays so under operators of zeros. -/
theorem sN_zero {M : Fin 32 → FVec Ideal S1x192x128 .bf16} {D : Fin 32 → FVec Ideal S1x8x128 .f32} {N : Fin 32 → FVec Ideal S1x128x128 .f32} {e : Fin 2} {S : FVec Ideal S128x128 .f32}
    (hM : ∀ j x, M j x = 0) (hD : ∀ j x, D j x = 0) (hN : ∀ j x, N j x = 0) (hS : ∀ x, S x = 0) : ∀ n a b, sN M D N e S n (ix2 a b) = 0
  | 0, a, b => hS _
  | n + 1, a, b => by
    refine (stS_at _ _ _ _ a b).trans ?_
    rw [hN, hD, mul_zero, Finset.sum_eq_zero, sub_zero, add_zero]
    intro x _
    rw [hM, zero_mul]
end Cert.KernelIdeal.Gdn
end
-- ==== Proof.GdnBodyA.lean ====
module

public import proofs.«01_k».proof.Proof.GdnBlock

@[expose] public section

set_option maxRecDepth 16384
set_option maxHeartbeats 20000000

noncomputable section
open Idealize.ShloMosaic Idealize.ShloMosaic.TcCoe Idealize.SL.Sem

namespace Cert.KernelIdeal.Gdn
open Cert.KernelIdeal Cert.KernelIdeal.Gen

variable {F : FTy → Type} [FloatOps F]
variable (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (arg7 : Memref sig .tc .vmem S128x1024 .f32) (harg7 : arg7.IsWhole) (arg8 : Memref sig .tc .vmem S1x128 .f32) (harg8 : arg8.IsWhole) (arg9 : Memref sig .tc .vmem S1024x256 .bf16) (harg9 : arg9.IsWhole) (arg10 : Memref sig .tc .vmem S2x128x128 .f32) (harg10 : arg10.IsWhole) (arg11 : Memref sig .tc .vmem S32x192x128 .bf16) (harg11 : arg11.IsWhole) (arg12 : Memref sig .tc .vmem S32x128x128 .f32) (harg12 : arg12.IsWhole) (arg13 : Memref sig .tc .vmem S32x64x128 .f32) (harg13 : arg13.IsWhole) (arg14 : Memref sig .tc .vmem S32x8x128 .f32) (harg14 : arg14.IsWhole) (hc0 : cond0_0 i) (hc1 : ¬cond0_1 i) (hc2 : cond0_2 i)
    (x0 : Vec F S1024x128 .f32) (x1 : Vec F S1024x128 .f32) (x2 : Vec F S1024x256 .f32) (x3 : Vec F S1024x256 .f32) (x4 : Vec F S1024x128 .f32) (x5 : Vec F S128x1024 .f32) (x6 : Vec F S1x128 .f32)

/-! ## What a grid point of case A leaves, stage by stage -/

theorem soutA_1 (y : S32x192x128.Idx) : sout0_A_1 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 y = (fun j => bMQ (BitVec.ofNat 32 (i 0).val) (LK arg2 harg2 x0) (LK arg3 harg3 x1) (LV arg4 harg4 x2) (LG arg6 harg6 x4) (LR arg7 harg7 i hc2 x5) (eOf j) (gOf j) (mOf j)) (y 0) (ix3 (n0 := 1) (n1 := 192) (n2 := 128) 0 (y 1) (y 2)) := by
  unfold sout0_A_1
  rw [View.read_writes_junk_eq_canon]
  unfold kernelRun0_A
  dsimp only
  unfold kernelRun0_A.sl.HS1_31 kernelRun0_A.sl.HS1_30 kernelRun0_A.sl.HS1_29 kernelRun0_A.sl.HS1_28 kernelRun0_A.sl.HS1_27 kernelRun0_A.sl.HS1_26 kernelRun0_A.sl.HS1_25 kernelRun0_A.sl.HS1_24 kernelRun0_A.sl.HS1_23 kernelRun0_A.sl.HS1_22 kernelRun0_A.sl.HS1_21 kernelRun0_A.sl.HS1_20 kernelRun0_A.sl.HS1_19 kernelRun0_A.sl.HS1_18 kernelRun0_A.sl.HS1_17 kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1
  refine View.canon_append_of_piecesOf (Val := Elt F) (e := .bf16) (fun y : S32x192x128.Idx => (fun j => bMQ (BitVec.ofNat 32 (i 0).val) (LK arg2 harg2 x0) (LK arg3 harg3 x1) (LV arg4 harg4 x2) (LG arg6 harg6 x4) (LR arg7 harg7 i hc2 x5) (eOf j) (gOf j) (mOf j)) (y 0) (ix3 (n0 := 1) (n1 := 192) (n2 := 128) 0 (y 1) (y 2))) [_] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y ?_
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 31 (by decide) (inbM 31) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 15 (by decide) (inbM 15) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 30 (by decide) (inbM 30) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 14 (by decide) (inbM 14) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 29 (by decide) (inbM 29) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 13 (by decide) (inbM 13) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 28 (by decide) (inbM 28) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 12 (by decide) (inbM 12) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 27 (by decide) (inbM 27) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 11 (by decide) (inbM 11) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 26 (by decide) (inbM 26) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 10 (by decide) (inbM 10) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 25 (by decide) (inbM 25) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 9 (by decide) (inbM 9) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 24 (by decide) (inbM 24) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 8 (by decide) (inbM 8) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 23 (by decide) (inbM 23) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 7 (by decide) (inbM 7) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 22 (by decide) (inbM 22) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 6 (by decide) (inbM 6) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 21 (by decide) (inbM 21) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 5 (by decide) (inbM 5) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 20 (by decide) (inbM 20) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 4 (by decide) (inbM 4) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 19 (by decide) (inbM 19) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 3 (by decide) (inbM 3) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 18 (by decide) (inbM 18) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 2 (by decide) (inbM 2) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 17 (by decide) (inbM 17) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 1 (by decide) (inbM 1) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 16 (by decide) (inbM 16) ?_
    rfl
  · refine pieceEMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) 0 (by decide) (inbM 0) ?_
    rfl
  · exact View.cover_of_tiledL (s := S32x192x128) _ S1x192x128.size (by sl_kernel_rfl) y

theorem soutA_2 (y : S32x128x128.Idx) : sout0_A_2 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 y = (fun j => bN (BitVec.ofNat 32 (i 0).val) (LK arg3 harg3 x1) (LV arg4 harg4 x2) (LG arg6 harg6 x4) (LR arg7 harg7 i hc2 x5) (eOf j) (gOf j) (mOf j)) (y 0) (ix3 (n0 := 1) (n1 := 128) (n2 := 128) 0 (y 1) (y 2)) := by
  unfold sout0_A_2
  rw [View.read_writes_junk_eq_canon]
  unfold kernelRun0_A
  dsimp only
  unfold kernelRun0_A.sl.HS2_30 kernelRun0_A.sl.HS2_29 kernelRun0_A.sl.HS2_28 kernelRun0_A.sl.HS2_27 kernelRun0_A.sl.HS2_26 kernelRun0_A.sl.HS2_25 kernelRun0_A.sl.HS2_24 kernelRun0_A.sl.HS2_23 kernelRun0_A.sl.HS2_22 kernelRun0_A.sl.HS2_21 kernelRun0_A.sl.HS2_20 kernelRun0_A.sl.HS2_19 kernelRun0_A.sl.HS2_18 kernelRun0_A.sl.HS2_17 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine View.canon_append_of_piecesOf (Val := Elt F) (e := .f32) (fun y : S32x128x128.Idx => (fun j => bN (BitVec.ofNat 32 (i 0).val) (LK arg3 harg3 x1) (LV arg4 harg4 x2) (LG arg6 harg6 x4) (LR arg7 harg7 i hc2 x5) (eOf j) (gOf j) (mOf j)) (y 0) (ix3 (n0 := 1) (n1 := 128) (n2 := 128) 0 (y 1) (y 2))) [_] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y ?_
  · refine pieceEN (fun j => bN (BitVec.ofNat 32 (i 0).val) (LK arg3 harg3 x1) (LV arg4 harg4 x2) (LG arg6 harg6 x4) (LR arg7 harg7 i hc2 x5) (eOf j) (gOf j) (mOf j)) 31 (by decide) (inbN 31) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 15 (by decide) (inbN 15) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 30 (by decide) (inbN 30) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 14 (by decide) (inbN 14) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 29 (by decide) (inbN 29) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 13 (by decide) (inbN 13) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 28 (by decide) (inbN 28) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 12 (by decide) (inbN 12) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 27 (by decide) (inbN 27) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 11 (by decide) (inbN 11) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 26 (by decide) (inbN 26) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 10 (by decide) (inbN 10) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 25 (by decide) (inbN 25) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 9 (by decide) (inbN 9) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 24 (by decide) (inbN 24) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 8 (by decide) (inbN 8) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 23 (by decide) (inbN 23) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 7 (by decide) (inbN 7) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 22 (by decide) (inbN 22) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 6 (by decide) (inbN 6) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 21 (by decide) (inbN 21) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 5 (by decide) (inbN 5) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 20 (by decide) (inbN 20) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 4 (by decide) (inbN 4) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 19 (by decide) (inbN 19) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 3 (by decide) (inbN 3) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 18 (by decide) (inbN 18) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 2 (by decide) (inbN 2) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 17 (by decide) (inbN 17) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 1 (by decide) (inbN 1) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 16 (by decide) (inbN 16) ?_
    rfl
  · refine pieceEN (fun j => bN (BitVec.ofNat 32 (i 0).val) (LK arg3 harg3 x1) (LV arg4 harg4 x2) (LG arg6 harg6 x4) (LR arg7 harg7 i hc2 x5) (eOf j) (gOf j) (mOf j)) 0 (by decide) (inbN 0) ?_
    rfl
  · exact View.cover_of_tiledL (s := S32x128x128) _ S1x128x128.size (by sl_kernel_rfl) y

theorem soutA_3 (y : S32x64x128.Idx) : sout0_A_3 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 y = (fun j => bO (BitVec.ofNat 32 (i 0).val) (LK arg2 harg2 x0) (LK arg3 harg3 x1) (LV arg4 harg4 x2) (LG arg6 harg6 x4) (LR arg7 harg7 i hc2 x5) (eOf j) (gOf j) (mOf j)) (y 0) (ix3 (n0 := 1) (n1 := 64) (n2 := 128) 0 (y 1) (y 2)) := by
  unfold sout0_A_3
  rw [View.read_writes_junk_eq_canon]
  unfold kernelRun0_A
  dsimp only
  unfold kernelRun0_A.sl.HS3_30 kernelRun0_A.sl.HS3_29 kernelRun0_A.sl.HS3_28 kernelRun0_A.sl.HS3_27 kernelRun0_A.sl.HS3_26 kernelRun0_A.sl.HS3_25 kernelRun0_A.sl.HS3_24 kernelRun0_A.sl.HS3_23 kernelRun0_A.sl.HS3_22 kernelRun0_A.sl.HS3_21 kernelRun0_A.sl.HS3_20 kernelRun0_A.sl.HS3_19 kernelRun0_A.sl.HS3_18 kernelRun0_A.sl.HS3_17 kernelRun0_A.sl.HS3_16 kernelRun0_A.sl.HS3_15 kernelRun0_A.sl.HS3_14 kernelRun0_A.sl.HS3_13 kernelRun0_A.sl.HS3_12 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  refine View.canon_append_of_piecesOf (Val := Elt F) (e := .f32) (fun y : S32x64x128.Idx => (fun j => bO (BitVec.ofNat 32 (i 0).val) (LK arg2 harg2 x0) (LK arg3 harg3 x1) (LV arg4 harg4 x2) (LG arg6 harg6 x4) (LR arg7 harg7 i hc2 x5) (eOf j) (gOf j) (mOf j)) (y 0) (ix3 (n0 := 1) (n1 := 64) (n2 := 128) 0 (y 1) (y 2))) [_] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y ?_
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 31 (by decide) (inbO 31) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 15 (by decide) (inbO 15) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 30 (by decide) (inbO 30) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 14 (by decide) (inbO 14) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 29 (by decide) (inbO 29) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 13 (by decide) (inbO 13) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 28 (by decide) (inbO 28) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 12 (by decide) (inbO 12) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 27 (by decide) (inbO 27) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 11 (by decide) (inbO 11) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 26 (by decide) (inbO 26) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 10 (by decide) (inbO 10) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 25 (by decide) (inbO 25) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 9 (by decide) (inbO 9) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 24 (by decide) (inbO 24) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 8 (by decide) (inbO 8) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 23 (by decide) (inbO 23) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 7 (by decide) (inbO 7) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 22 (by decide) (inbO 22) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 6 (by decide) (inbO 6) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 21 (by decide) (inbO 21) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 5 (by decide) (inbO 5) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 20 (by decide) (inbO 20) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 4 (by decide) (inbO 4) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 19 (by decide) (inbO 19) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 3 (by decide) (inbO 3) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 18 (by decide) (inbO 18) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 2 (by decide) (inbO 2) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 17 (by decide) (inbO 17) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 1 (by decide) (inbO 1) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 16 (by decide) (inbO 16) ?_
    rfl
  · refine pieceEO (fun j => bO (BitVec.ofNat 32 (i 0).val) (LK arg2 harg2 x0) (LK arg3 harg3 x1) (LV arg4 harg4 x2) (LG arg6 harg6 x4) (LR arg7 harg7 i hc2 x5) (eOf j) (gOf j) (mOf j)) 0 (by decide) (inbO 0) ?_
    rfl
  · exact View.cover_of_tiledL (s := S32x64x128) _ S1x64x128.size (by sl_kernel_rfl) y

theorem soutA_4 (y : S32x8x128.Idx) : sout0_A_4 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 y = (fun j => bD (BitVec.ofNat 32 (i 0).val) (LG arg6 harg6 x4) (eOf j) (gOf j) (mOf j)) (y 0) (ix3 (n0 := 1) (n1 := 8) (n2 := 128) 0 (y 1) (y 2)) := by
  unfold sout0_A_4
  rw [View.read_writes_junk_eq_canon]
  unfold kernelRun0_A
  dsimp only
  unfold kernelRun0_A.sl.HS4_30 kernelRun0_A.sl.HS4_29 kernelRun0_A.sl.HS4_28 kernelRun0_A.sl.HS4_27 kernelRun0_A.sl.HS4_26 kernelRun0_A.sl.HS4_25 kernelRun0_A.sl.HS4_24 kernelRun0_A.sl.HS4_23 kernelRun0_A.sl.HS4_22 kernelRun0_A.sl.HS4_21 kernelRun0_A.sl.HS4_20 kernelRun0_A.sl.HS4_19 kernelRun0_A.sl.HS4_18 kernelRun0_A.sl.HS4_17 kernelRun0_A.sl.HS4_16 kernelRun0_A.sl.HS4_15 kernelRun0_A.sl.HS4_14 kernelRun0_A.sl.HS4_13 kernelRun0_A.sl.HS4_12 kernelRun0_A.sl.HS4_11 kernelRun0_A.sl.HS4_10 kernelRun0_A.sl.HS4_9 kernelRun0_A.sl.HS4_8 kernelRun0_A.sl.HS4_7 kernelRun0_A.sl.HS4_6 kernelRun0_A.sl.HS4_5 kernelRun0_A.sl.HS4_4 kernelRun0_A.sl.HS4_3 kernelRun0_A.sl.HS4_2 kernelRun0_A.sl.HS4_1
  refine View.canon_append_of_piecesOf (Val := Elt F) (e := .f32) (fun y : S32x8x128.Idx => (fun j => bD (BitVec.ofNat 32 (i 0).val) (LG arg6 harg6 x4) (eOf j) (gOf j) (mOf j)) (y 0) (ix3 (n0 := 1) (n1 := 8) (n2 := 128) 0 (y 1) (y 2))) [_] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y ?_
  · refine pieceED (fun j => bD (BitVec.ofNat 32 (i 0).val) (LG arg6 harg6 x4) (eOf j) (gOf j) (mOf j)) 31 (by decide) (inbD 31) ?_
    rfl
  · refine pieceED (fun j => bD (BitVec.ofNat 32 (i 0).val) (LG arg6 harg6 x4) (eOf j) (gOf j) (mOf j)) 15 (by decide) (inbD 15) ?_
    rfl
  · refine pieceED (fun j => bD (BitVec.ofNat 32 (i 0).val) (LG arg6 harg6 x4) (eOf j) (gOf j) (mOf j)) 30 (by decide) (inbD 30) ?_
    rfl
  · refine pieceED (fun j => bD (BitVec.ofNat 32 (i 0).val) (LG arg6 harg6 x4) (eOf j) (gOf j) (mOf j)) 14 (by decide) (inbD 14) ?_
    rfl
  · refine pieceED (fun j => bD (BitVec.ofNat 32 (i 0).val) (LG arg6 harg6 x4) (eOf j) (gOf j) (mOf j)) 29 (by decide) (inbD 29) ?_
    rfl
  · refine pieceED (fun j => bD (BitVec.ofNat 32 (i 0).val) (LG arg6 harg6 x4) (eOf j) (gOf j) (mOf j)) 13 (by decide) (inbD 13) ?_
    rfl
  · refine pieceED (fun j => bD (BitVec.ofNat 32 (i 0).val) (LG arg6 harg6 x4) (eOf j) (gOf j) (mOf j)) 28 (by decide) (inbD 28) ?_
    rfl
  · refine pieceED (fun j => bD (BitVec.ofNat 32 (i 0).val) (LG arg6 harg6 x4) (eOf j) (gOf j) (mOf j)) 12 (by decide) (inbD 12) ?_
    rfl
  · refine pieceED (fun j => bD (BitVec.ofNat 32 (i 0).val) (LG arg6 harg6 x4) (eOf j) (gOf j) (mOf j)) 27 (by decide) (inbD 27) ?_
    rfl
  · refine pieceED (fun j => bD (BitVec.ofNat 32 (i 0).val) (LG arg6 harg6 x4) (eOf j) (gOf j) (mOf j)) 11 (by decide) (inbD 11) ?_
    rfl
  · refine pieceED (fun j => bD (BitVec.ofNat 32 (i 0).val) (LG arg6 harg6 x4) (eOf j) (gOf j) (mOf j)) 26 (by decide) (inbD 26) ?_
    rfl
  · refine pieceED (fun j => bD (BitVec.ofNat 32 (i 0).val) (LG arg6 harg6 x4) (eOf j) (gOf j) (mOf j)) 10 (by decide) (inbD 10) ?_
    rfl
  · refine pieceED (fun j => bD (BitVec.ofNat 32 (i 0).val) (LG arg6 harg6 x4) (eOf j) (gOf j) (mOf j)) 25 (by decide) (inbD 25) ?_
    rfl
  · refine pieceED (fun j => bD (BitVec.ofNat 32 (i 0).val) (LG arg6 harg6 x4) (eOf j) (gOf j) (mOf j)) 9 (by decide) (inbD 9) ?_
    rfl
  · refine pieceED (fun j => bD (BitVec.ofNat 32 (i 0).val) (LG arg6 harg6 x4) (eOf j) (gOf j) (mOf j)) 24 (by decide) (inbD 24) ?_
    rfl
  · refine pieceED (fun j => bD (BitVec.ofNat 32 (i 0).val) (LG arg6 harg6 x4) (eOf j) (gOf j) (mOf j)) 8 (by decide) (inbD 8) ?_
    rfl
  · refine pieceED (fun j => bD (BitVec.ofNat 32 (i 0).val) (LG arg6 harg6 x4) (eOf j) (gOf j) (mOf j)) 23 (by decide) (inbD 23) ?_
    rfl
  · refine pieceED (fun j => bD (BitVec.ofNat 32 (i 0).val) (LG arg6 harg6 x4) (eOf j) (gOf j) (mOf j)) 7 (by decide) (inbD 7) ?_
    rfl
  · refine pieceED (fun j => bD (BitVec.ofNat 32 (i 0).val) (LG arg6 harg6 x4) (eOf j) (gOf j) (mOf j)) 22 (by decide) (inbD 22) ?_
    rfl
  · refine pieceED (fun j => bD (BitVec.ofNat 32 (i 0).val) (LG arg6 harg6 x4) (eOf j) (gOf j) (mOf j)) 6 (by decide) (inbD 6) ?_
    rfl
  · refine pieceED (fun j => bD (BitVec.ofNat 32 (i 0).val) (LG arg6 harg6 x4) (eOf j) (gOf j) (mOf j)) 21 (by decide) (inbD 21) ?_
    rfl
  · refine pieceED (fun j => bD (BitVec.ofNat 32 (i 0).val) (LG arg6 harg6 x4) (eOf j) (gOf j) (mOf j)) 5 (by decide) (inbD 5) ?_
    rfl
  · refine pieceED (fun j => bD (BitVec.ofNat 32 (i 0).val) (LG arg6 harg6 x4) (eOf j) (gOf j) (mOf j)) 20 (by decide) (inbD 20) ?_
    rfl
  · refine pieceED (fun j => bD (BitVec.ofNat 32 (i 0).val) (LG arg6 harg6 x4) (eOf j) (gOf j) (mOf j)) 4 (by decide) (inbD 4) ?_
    rfl
  · refine pieceED (fun j => bD (BitVec.ofNat 32 (i 0).val) (LG arg6 harg6 x4) (eOf j) (gOf j) (mOf j)) 19 (by decide) (inbD 19) ?_
    rfl
  · refine pieceED (fun j => bD (BitVec.ofNat 32 (i 0).val) (LG arg6 harg6 x4) (eOf j) (gOf j) (mOf j)) 3 (by decide) (inbD 3) ?_
    rfl
  · refine pieceED (fun j => bD (BitVec.ofNat 32 (i 0).val) (LG arg6 harg6 x4) (eOf j) (gOf j) (mOf j)) 18 (by decide) (inbD 18) ?_
    rfl
  · refine pieceED (fun j => bD (BitVec.ofNat 32 (i 0).val) (LG arg6 harg6 x4) (eOf j) (gOf j) (mOf j)) 2 (by decide) (inbD 2) ?_
    rfl
  · refine pieceED (fun j => bD (BitVec.ofNat 32 (i 0).val) (LG arg6 harg6 x4) (eOf j) (gOf j) (mOf j)) 17 (by decide) (inbD 17) ?_
    rfl
  · refine pieceED (fun j => bD (BitVec.ofNat 32 (i 0).val) (LG arg6 harg6 x4) (eOf j) (gOf j) (mOf j)) 1 (by decide) (inbD 1) ?_
    rfl
  · refine pieceED (fun j => bD (BitVec.ofNat 32 (i 0).val) (LG arg6 harg6 x4) (eOf j) (gOf j) (mOf j)) 16 (by decide) (inbD 16) ?_
    rfl
  · refine pieceED (fun j => bD (BitVec.ofNat 32 (i 0).val) (LG arg6 harg6 x4) (eOf j) (gOf j) (mOf j)) 0 (by decide) (inbD 0) ?_
    rfl
  · exact View.cover_of_tiledL (s := S32x8x128) _ S1x8x128.size (by sl_kernel_rfl) y

end Cert.KernelIdeal.Gdn
end
-- ==== Proof.GdnBodyB.lean ====
module

public import proofs.«01_k».proof.Proof.GdnBlock

@[expose] public section

set_option maxRecDepth 16384
set_option maxHeartbeats 20000000

noncomputable section
open Idealize.ShloMosaic Idealize.ShloMosaic.TcCoe Idealize.SL.Sem

namespace Cert.KernelIdeal.Gdn
open Cert.KernelIdeal Cert.KernelIdeal.Gen

variable {F : FTy → Type} [FloatOps F]
variable (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (arg7 : Memref sig .tc .vmem S128x1024 .f32) (harg7 : arg7.IsWhole) (arg8 : Memref sig .tc .vmem S1x128 .f32) (harg8 : arg8.IsWhole) (arg9 : Memref sig .tc .vmem S1024x256 .bf16) (harg9 : arg9.IsWhole) (arg10 : Memref sig .tc .vmem S2x128x128 .f32) (harg10 : arg10.IsWhole) (arg11 : Memref sig .tc .vmem S32x192x128 .bf16) (harg11 : arg11.IsWhole) (arg12 : Memref sig .tc .vmem S32x128x128 .f32) (harg12 : arg12.IsWhole) (arg13 : Memref sig .tc .vmem S32x64x128 .f32) (harg13 : arg13.IsWhole) (arg14 : Memref sig .tc .vmem S32x8x128 .f32) (harg14 : arg14.IsWhole) (hc0 : ¬cond0_0 i) (hc1 : ¬cond0_1 i) (hc2 : cond0_2 i)
    (x0 : Vec F S1024x128 .f32) (x1 : Vec F S1024x128 .f32) (x2 : Vec F S1024x256 .f32) (x3 : Vec F S1024x256 .f32) (x4 : Vec F S1024x128 .f32) (x5 : Vec F S128x1024 .f32) (x6 : Vec F S1x128 .f32) (xs0 : Vec F S2x128x128 .f32) (xs1 : Vec F S32x192x128 .bf16) (xs2 : Vec F S32x128x128 .f32) (xs3 : Vec F S32x64x128 .f32) (xs4 : Vec F S32x8x128 .f32)

/-! ## What a grid point of case B leaves, stage by stage -/

theorem soutB_0 (y : S2x128x128.Idx) : sout0_B_0 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 xs1 xs2 xs3 xs4 y = (fun e => shapeCast S1x128x128 (sN (L1 arg11 harg11 xs1) (L4 arg14 harg14 xs4) (L2 arg12 harg12 xs2) e (LS arg10 harg10 xs0 e) 16) shapeCasts_S128x128_S1x128x128) (y 0) (ix3 (n0 := 1) (n1 := 128) (n2 := 128) 0 (y 1) (y 2)) := by
  unfold sout0_B_0
  rw [View.read_writes_junk_eq_canon]
  unfold kernelRun0_B
  dsimp only
  canon_tiles x h
  all_goals first
    | refine pieceS (fun e => shapeCast S1x128x128 (sN (L1 arg11 harg11 xs1) (L4 arg14 harg14 xs4) (L2 arg12 harg12 xs2) e (LS arg10 harg10 xs0 e) 16) shapeCasts_S128x128_S1x128x128) y x h0 h1 h2 (by decide) ?_
    | refine pieceS (fun e => shapeCast S1x128x128 (sN (L1 arg11 harg11 xs1) (L4 arg14 harg14 xs4) (L2 arg12 harg12 xs2) e (LS arg10 harg10 xs0 e) 16) shapeCasts_S128x128_S1x128x128) (k := 0) y x (by omega) h1 h2 (by decide) ?_
  all_goals rfl

theorem soutB_1 (y : S32x192x128.Idx) : sout0_B_1 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 xs1 xs2 xs3 xs4 y = (fun j => bMQ (BitVec.ofNat 32 (i 0).val) (LK arg2 harg2 x0) (LK arg3 harg3 x1) (LV arg4 harg4 x2) (LG arg6 harg6 x4) (LR arg7 harg7 i hc2 x5) (eOf j) (gOf j) (mOf j)) (y 0) (ix3 (n0 := 1) (n1 := 192) (n2 := 128) 0 (y 1) (y 2)) := by
  unfold sout0_B_1
  rw [View.read_writes_junk_eq_canon]
  unfold kernelRun0_B
  dsimp only
  canon_tiles x h
  all_goals first
    | refine pieceMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) y x h0 h1 h2 (by decide) ?_
    | refine pieceMQ (fun j => bMQ (BitVec.ofNat 32 (i 0).val) (LK arg2 harg2 x0) (LK arg3 harg3 x1) (LV arg4 harg4 x2) (LG arg6 harg6 x4) (LR arg7 harg7 i hc2 x5) (eOf j) (gOf j) (mOf j)) (k := 0) y x (by omega) h1 h2 (by decide) ?_
  all_goals rfl

theorem soutB_2 (y : S32x128x128.Idx) : sout0_B_2 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 xs1 xs2 xs3 xs4 y = (fun j => bN (BitVec.ofNat 32 (i 0).val) (LK arg3 harg3 x1) (LV arg4 harg4 x2) (LG arg6 harg6 x4) (LR arg7 harg7 i hc2 x5) (eOf j) (gOf j) (mOf j)) (y 0) (ix3 (n0 := 1) (n1 := 128) (n2 := 128) 0 (y 1) (y 2)) := by
  unfold sout0_B_2
  rw [View.read_writes_junk_eq_canon]
  unfold kernelRun0_B
  dsimp only
  canon_tiles x h
  all_goals first
    | refine pieceN (fun j => bN (BitVec.ofNat 32 (i 0).val) (LK arg3 harg3 x1) (LV arg4 harg4 x2) (LG arg6 harg6 x4) (LR arg7 harg7 i hc2 x5) (eOf j) (gOf j) (mOf j)) y x h0 h1 h2 (by decide) ?_
    | refine pieceN (fun j => bN (BitVec.ofNat 32 (i 0).val) (LK arg3 harg3 x1) (LV arg4 harg4 x2) (LG arg6 harg6 x4) (LR arg7 harg7 i hc2 x5) (eOf j) (gOf j) (mOf j)) (k := 0) y x (by omega) h1 h2 (by decide) ?_
  all_goals rfl

theorem soutB_3 (y : S32x64x128.Idx) : sout0_B_3 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 xs1 xs2 xs3 xs4 y = (fun j => bO (BitVec.ofNat 32 (i 0).val) (LK arg2 harg2 x0) (LK arg3 harg3 x1) (LV arg4 harg4 x2) (LG arg6 harg6 x4) (LR arg7 harg7 i hc2 x5) (eOf j) (gOf j) (mOf j)) (y 0) (ix3 (n0 := 1) (n1 := 64) (n2 := 128) 0 (y 1) (y 2)) := by
  unfold sout0_B_3
  rw [View.read_writes_junk_eq_canon]
  unfold kernelRun0_B
  dsimp only
  canon_tiles x h
  all_goals first
    | refine pieceO (fun j => bO (BitVec.ofNat 32 (i 0).val) (LK arg2 harg2 x0) (LK arg3 harg3 x1) (LV arg4 harg4 x2) (LG arg6 harg6 x4) (LR arg7 harg7 i hc2 x5) (eOf j) (gOf j) (mOf j)) y x h0 h1 h2 (by decide) ?_
    | refine pieceO (fun j => bO (BitVec.ofNat 32 (i 0).val) (LK arg2 harg2 x0) (LK arg3 harg3 x1) (LV arg4 harg4 x2) (LG arg6 harg6 x4) (LR arg7 harg7 i hc2 x5) (eOf j) (gOf j) (mOf j)) (k := 0) y x (by omega) h1 h2 (by decide) ?_
  all_goals rfl

theorem soutB_4 (y : S32x8x128.Idx) : sout0_B_4 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 xs1 xs2 xs3 xs4 y = (fun j => bD (BitVec.ofNat 32 (i 0).val) (LG arg6 harg6 x4) (eOf j) (gOf j) (mOf j)) (y 0) (ix3 (n0 := 1) (n1 := 8) (n2 := 128) 0 (y 1) (y 2)) := by
  unfold sout0_B_4
  rw [View.read_writes_junk_eq_canon]
  unfold kernelRun0_B
  dsimp only
  canon_tiles x h
  all_goals first
    | refine pieceD (fun j => bD (BitVec.ofNat 32 (i 0).val) (LG arg6 harg6 x4) (eOf j) (gOf j) (mOf j)) y x h0 h1 h2 (by decide) ?_
    | refine pieceD (fun j => bD (BitVec.ofNat 32 (i 0).val) (LG arg6 harg6 x4) (eOf j) (gOf j) (mOf j)) (k := 0) y x (by omega) h1 h2 (by decide) ?_
  all_goals rfl

theorem outB_7 (y : S1024x256.Idx) : out0_B_7 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 xs1 xs2 xs3 xs4 y = (fun e n => oN (L1 arg11 harg11 xs1) (L4 arg14 harg14 xs4) (L2 arg12 harg12 xs2) (L3 arg13 harg13 xs3) (LZ arg5 harg5 x3) (LN arg8 harg8 x6) e (LS arg10 harg10 xs0 e) n) (eCol (y 1).val) (nRow (y 0).val) (ix2 (n0 := 64) (n1 := 128) ⟨(y 0).val % 64, Nat.mod_lt _ (by decide)⟩ ⟨(y 1).val % 128, Nat.mod_lt _ (by decide)⟩) := by
  unfold out0_B_7
  rw [View.read_writes_junk_eq_canon]
  unfold kernelRun0_B
  dsimp only
  canon_tiles x h
  all_goals first
    | refine pieceOut (fun e n => oN (L1 arg11 harg11 xs1) (L4 arg14 harg14 xs4) (L2 arg12 harg12 xs2) (L3 arg13 harg13 xs3) (LZ arg5 harg5 x3) (LN arg8 harg8 x6) e (LS arg10 harg10 xs0 e) n) y x h0 h1 (by decide) (by decide) ?_
    | refine pieceOut (fun e n => oN (L1 arg11 harg11 xs1) (L4 arg14 harg14 xs4) (L2 arg12 harg12 xs2) (L3 arg13 harg13 xs3) (LZ arg5 harg5 x3) (LN arg8 harg8 x6) e (LS arg10 harg10 xs0 e) n) (l := 0) y x h0 (by omega) (by decide) (by decide) ?_
    | refine pieceOut (fun e n => oN (L1 arg11 harg11 xs1) (L4 arg14 harg14 xs4) (L2 arg12 harg12 xs2) (L3 arg13 harg13 xs3) (LZ arg5 harg5 x3) (LN arg8 harg8 x6) e (LS arg10 harg10 xs0 e) n) (k := 0) y x (by omega) h1 (by decide) (by decide) ?_
    | refine pieceOut (fun e n => oN (L1 arg11 harg11 xs1) (L4 arg14 harg14 xs4) (L2 arg12 harg12 xs2) (L3 arg13 harg13 xs3) (LZ arg5 harg5 x3) (LN arg8 harg8 x6) e (LS arg10 harg10 xs0 e) n) (k := 0) (l := 0) y x (by omega) (by omega) (by decide) (by decide) ?_
  all_goals rfl

end Cert.KernelIdeal.Gdn
end
-- ==== Proof.GdnBodyC.lean ====
module

public import proofs.«01_k».proof.Proof.GdnBlock

@[expose] public section

set_option maxRecDepth 16384
set_option maxHeartbeats 20000000

noncomputable section
open Idealize.ShloMosaic Idealize.ShloMosaic.TcCoe Idealize.SL.Sem

namespace Cert.KernelIdeal.Gdn
open Cert.KernelIdeal Cert.KernelIdeal.Gen

variable {F : FTy → Type} [FloatOps F]
variable (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (arg7 : Memref sig .tc .vmem S128x1024 .f32) (harg7 : arg7.IsWhole) (arg8 : Memref sig .tc .vmem S1x128 .f32) (harg8 : arg8.IsWhole) (arg9 : Memref sig .tc .vmem S1024x256 .bf16) (harg9 : arg9.IsWhole) (arg10 : Memref sig .tc .vmem S2x128x128 .f32) (harg10 : arg10.IsWhole) (arg11 : Memref sig .tc .vmem S32x192x128 .bf16) (harg11 : arg11.IsWhole) (arg12 : Memref sig .tc .vmem S32x128x128 .f32) (harg12 : arg12.IsWhole) (arg13 : Memref sig .tc .vmem S32x64x128 .f32) (harg13 : arg13.IsWhole) (arg14 : Memref sig .tc .vmem S32x8x128 .f32) (harg14 : arg14.IsWhole) (hc0 : ¬cond0_0 i) (hc1 : cond0_1 i) (hc2 : ¬cond0_2 i)
    (x0 : Vec F S1024x128 .f32) (x1 : Vec F S1024x128 .f32) (x2 : Vec F S1024x256 .f32) (x3 : Vec F S1024x256 .f32) (x4 : Vec F S1024x128 .f32) (x5 : Vec F S128x1024 .f32) (x6 : Vec F S1x128 .f32) (xs0 : Vec F S2x128x128 .f32) (xs1 : Vec F S32x192x128 .bf16) (xs2 : Vec F S32x128x128 .f32) (xs3 : Vec F S32x64x128 .f32) (xs4 : Vec F S32x8x128 .f32)

/-! ## What a grid point of case C leaves, stage by stage -/

theorem outC_7 (y : S1024x256.Idx) : out0_C_7 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0 xs1 xs2 xs3 xs4 y = (fun e n => oN (L1 arg11 harg11 xs1) (L4 arg14 harg14 xs4) (L2 arg12 harg12 xs2) (L3 arg13 harg13 xs3) (LZ arg5 harg5 x3) (LN arg8 harg8 x6) e (LS arg10 harg10 xs0 e) n) (eCol (y 1).val) (nRow (y 0).val) (ix2 (n0 := 64) (n1 := 128) ⟨(y 0).val % 64, Nat.mod_lt _ (by decide)⟩ ⟨(y 1).val % 128, Nat.mod_lt _ (by decide)⟩) := by
  unfold out0_C_7
  rw [View.read_writes_junk_eq_canon]
  unfold kernelRun0_C
  dsimp only
  canon_tiles x h
  all_goals first
    | refine pieceOut (fun e n => oN (L1 arg11 harg11 xs1) (L4 arg14 harg14 xs4) (L2 arg12 harg12 xs2) (L3 arg13 harg13 xs3) (LZ arg5 harg5 x3) (LN arg8 harg8 x6) e (LS arg10 harg10 xs0 e) n) y x h0 h1 (by decide) (by decide) ?_
    | refine pieceOut (fun e n => oN (L1 arg11 harg11 xs1) (L4 arg14 harg14 xs4) (L2 arg12 harg12 xs2) (L3 arg13 harg13 xs3) (LZ arg5 harg5 x3) (LN arg8 harg8 x6) e (LS arg10 harg10 xs0 e) n) (l := 0) y x h0 (by omega) (by decide) (by decide) ?_
    | refine pieceOut (fun e n => oN (L1 arg11 harg11 xs1) (L4 arg14 harg14 xs4) (L2 arg12 harg12 xs2) (L3 arg13 harg13 xs3) (LZ arg5 harg5 x3) (LN arg8 harg8 x6) e (LS arg10 harg10 xs0 e) n) (k := 0) y x (by omega) h1 (by decide) (by decide) ?_
    | refine pieceOut (fun e n => oN (L1 arg11 harg11 xs1) (L4 arg14 harg14 xs4) (L2 arg12 harg12 xs2) (L3 arg13 harg13 xs3) (LZ arg5 harg5 x3) (LN arg8 harg8 x6) e (LS arg10 harg10 xs0 e) n) (k := 0) (l := 0) y x (by omega) (by omega) (by decide) (by decide) ?_
  all_goals rfl

end Cert.KernelIdeal.Gdn
end
-- ==== Proof.GdnGrid.lean ====
module

public import proofs.«01_k».proof.Proof.GdnArr
public import proofs.«01_k».proof.Proof.GdnLoad
public import proofs.«01_k».proof.Proof.GdnBlk
public import proofs.«01_k».proof.Proof.GdnZero
public import proofs.«01_k».proof.Proof.GdnBodyA
public import proofs.«01_k».proof.Proof.GdnBodyB
public import proofs.«01_k».proof.Proof.GdnBodyC

@[expose] public section

set_option maxRecDepth 16384

noncomputable section

namespace Cert.KernelIdeal.Gdn
open Idealize.ShloMosaic Idealize.ShloMosaic.TcCoe Idealize.SL.Sem
open Cert.KernelIdeal Cert.KernelIdeal.Gen Cert.GdnMath Cert.GdnArr

variable (m : (ℓ : Loc nD τ sig) → Buf (Elt Ideal) ℓ)

/-! ## The grid's points: each builds its block's operators, and runs the recurrence over the block before -/

/-- The head pair of a point, and its heads. -/
def kh (t : Fin cfg0.N) : Fin 16 := ⟨t.val / 9, by have := (idx t).2.2.2.2.2.2.2.2; omega⟩
def hd (k : Fin 16) (e : Fin 2) : Fin 32 := ⟨2 * k.val + e.val, by omega⟩

section Entries
variable {a0 : Qkv} {a2 : Gates} (T : Tame a0 a2) (k : Fin 16) (e : Fin 2)
include T
theorem q_in {t d : ℕ} (ht : t < 8192) (hd' : d < 8192) {n : ℕ} {c : Fin 128} (h1 : t = n) (h2 : d = k.val * 128 + c.val) : a0 (ix2 ⟨t, ht⟩ ⟨d, hd'⟩) = ((qR a0 (hd k e) n c : ℝ) : EReal) := by
  subst h1
  refine Eq.trans (congrArg (fun z => a0 (ix2 ⟨t, ht⟩ z)) (Fin.ext ?_)) (q_coe (hd k e) T ⟨t, ht⟩ c)
  show d = 128 * ((2 * k.val + e.val) / 2) + c.val
  omega
theorem k_in {t d : ℕ} (ht : t < 8192) (hd' : d < 8192) {n : ℕ} {c : Fin 128} (h1 : t = n) (h2 : d = (16 + k.val) * 128 + c.val) : a0 (ix2 ⟨t, ht⟩ ⟨d, hd'⟩) = ((kR a0 (hd k e) n c : ℝ) : EReal) := by
  subst h1
  refine Eq.trans (congrArg (fun z => a0 (ix2 ⟨t, ht⟩ z)) (Fin.ext ?_)) (k_coe (hd k e) T ⟨t, ht⟩ c)
  show d = 2048 + 128 * ((2 * k.val + e.val) / 2) + c.val
  omega
theorem v_in {t d : ℕ} (ht : t < 8192) (hd' : d < 8192) {n : ℕ} {c : Fin 128} (h1 : t = n) (h2 : d = (16 + k.val) * 256 + (128 * e.val + c.val)) : a0 (ix2 ⟨t, ht⟩ ⟨d, hd'⟩) = ((vR a0 (hd k e) n c : ℝ) : EReal) := by
  subst h1
  refine Eq.trans (congrArg (fun z => a0 (ix2 ⟨t, ht⟩ z)) (Fin.ext ?_)) (v_coe (hd k e) T ⟨t, ht⟩ c)
  show d = 4096 + 128 * (2 * k.val + e.val) + c.val
  omega
theorem b_in {t d : ℕ} (ht : t < 8192) (hd' : d < 128) {n : ℕ} (h1 : t = n) (h2 : d = 2 * k.val + e.val) : a2 (ix2 ⟨t, ht⟩ ⟨d, hd'⟩) = ((bR a2 (hd k e) n : ℝ) : EReal) := by
  subst h1
  exact Eq.trans (congrArg (fun z => a2 (ix2 ⟨t, ht⟩ z)) (Fin.ext h2)) (b_coe (hd k e) T ⟨t, ht⟩)
theorem g_in {t d : ℕ} (ht : t < 8192) (hd' : d < 128) {n : ℕ} (h1 : t = n) (h2 : d = 32 + (2 * k.val + e.val)) : a2 (ix2 ⟨t, ht⟩ ⟨d, hd'⟩) = ((gR a2 (hd k e) n : ℝ) : EReal) := by
  subst h1
  exact Eq.trans (congrArg (fun z => a2 (ix2 ⟨t, ht⟩ z)) (Fin.ext h2)) (g_coe (hd k e) T ⟨t, ht⟩)
end Entries

section Ops
variable {c : Dev nD} (T : Tame (Aq m c) (Ag m c)) (t : Fin cfg0.N) (ht : t.val % 9 ≤ 7)
variable (r2 r3 r6 : Memref sig .tc .vmem S1024x128 .f32) (h2 : r2.IsWhole) (h3 : r3.IsWhole) (h6 : r6.IsWhole) (r4 : Memref sig .tc .vmem S1024x256 .f32) (h4 : r4.IsWhole)
variable (r7 : Memref sig .tc .vmem S128x1024 .f32) (h7 : r7.IsWhole) (hc : cond0_2 (grid0.coords t))
include T ht

/-- The operators a point builds are those of the chunks of its block. -/
theorem ops (j : Fin 32) :
    IsChunk (ch (16 * (t.val % 9) + j.val % 16) (qR (Aq m c) (hd (kh t) (eOf j)))) (ch (16 * (t.val % 9) + j.val % 16) (kR (Aq m c) (hd (kh t) (eOf j)))) (ch (16 * (t.val % 9) + j.val % 16) (vR (Aq m c) (hd (kh t) (eOf j))))
      (ch (16 * (t.val % 9) + j.val % 16) (bR (Ag m c) (hd (kh t) (eOf j)))) (ch (16 * (t.val % 9) + j.val % 16) (gR (Ag m c) (hd (kh t) (eOf j))))
      (bMQ (F := Ideal) (BitVec.ofNat 32 ((grid0.coords t) 0).val) (LK r2 h2 (iblk m c 0 t)) (LK r3 h3 (iblk m c 1 t)) (LV r4 h4 (iblk m c 2 t)) (LG r6 h6 (iblk m c 4 t)) (LR r7 h7 (grid0.coords t) hc (iblk m c 5 t)) (eOf j) (gOf j) (mOf j))
      (bD (F := Ideal) (BitVec.ofNat 32 ((grid0.coords t) 0).val) (LG r6 h6 (iblk m c 4 t)) (eOf j) (gOf j) (mOf j))
      (bN (F := Ideal) (BitVec.ofNat 32 ((grid0.coords t) 0).val) (LK r3 h3 (iblk m c 1 t)) (LV r4 h4 (iblk m c 2 t)) (LG r6 h6 (iblk m c 4 t)) (LR r7 h7 (grid0.coords t) hc (iblk m c 5 t)) (eOf j) (gOf j) (mOf j))
      (bO (F := Ideal) (BitVec.ofNat 32 ((grid0.coords t) 0).val) (LK r2 h2 (iblk m c 0 t)) (LK r3 h3 (iblk m c 1 t)) (LV r4 h4 (iblk m c 2 t)) (LG r6 h6 (iblk m c 4 t)) (LR r7 h7 (grid0.coords t) hc (iblk m c 5 t)) (eOf j) (gOf j) (mOf j)) := by
  have hj := j.isLt
  have eg : (gOf j).val = j.val / 4 % 4 := rfl
  have em : (mOf j).val = j.val % 4 := rfl
  have hC : 16 * (t.val % 9) + j.val % 16 = 16 * (t.val % 9) + 4 * (gOf j).val + (mOf j).val := by omega
  have hN := (idx t).2.2.2.2.2.2.2.2
  have hk : (kh t).val = t.val / 9 := rfl
  have hmin : min (t.val % 9) 7 = t.val % 9 := by omega
  have hc0 : BitVec.ofNat 32 ((grid0.coords t) 0).val = BitVec.ofNat 32 (kh t).val := congrArg _ (coord0 t)
  have tk : ∀ r : Fin 256, min (t.val % 9) 7 * 1024 + (256 * (gOf j).val + r.val) = 64 * (16 * (t.val % 9) + 4 * (gOf j).val + (blk r).val) + (col r).val := by
    intro r
    have : (blk r).val = r.val / 64 := rfl
    have : (col r).val = r.val % 64 := rfl
    omega
  have bd : ∀ r : Fin 256, min (t.val % 9) 7 * 1024 + (256 * (gOf j).val + r.val) < 8192 := by
    intro r; have := r.isLt; omega
  rw [hC, hc0]
  refine block_real _ _ _ _ _ _ _ _ (q := fun m' => ch (16 * (t.val % 9) + 4 * (gOf j).val + m'.val) (qR (Aq m c) (hd (kh t) (eOf j)))) (k := fun m' => ch (16 * (t.val % 9) + 4 * (gOf j).val + m'.val) (kR (Aq m c) (hd (kh t) (eOf j))))
    (v := fun m' => ch (16 * (t.val % 9) + 4 * (gOf j).val + m'.val) (vR (Aq m c) (hd (kh t) (eOf j)))) (β := fun m' => ch (16 * (t.val % 9) + 4 * (gOf j).val + m'.val) (bR (Ag m c) (hd (kh t) (eOf j))))
    (γ := fun m' => ch (16 * (t.val % 9) + 4 * (gOf j).val + m'.val) (gR (Ag m c) (hd (kh t) (eOf j)))) ?_ ?_ ?_ ?_ ?_ ?_ ?_ (mOf j)
  · intro m' i i' hi
    exact g_mono (hd (kh t) (eOf j)) T _ (by omega) i i' hi
  · intro r d
    refine (LK_at r2 h2 _ (gOf j) r d).trans ((blk0_at m c t _ d (bd r) (by have := d.isLt; omega)).trans ?_)
    exact q_in T (kh t) (eOf j) _ _ (tk r) (by rw [hk])
  · intro r d
    refine (LK_at r3 h3 _ (gOf j) r d).trans ((blk1_at m c t _ d (bd r) (by have := d.isLt; omega)).trans ?_)
    exact k_in T (kh t) (eOf j) _ _ (tk r) (by rw [hk])
  · intro r d
    refine (LV_at r4 h4 _ (eOf j) (gOf j) r d).trans ((blk2_at m c t _ _ (bd r) (by have := d.isLt; have := (eOf j).isLt; show (16 + t.val / 9) * 256 + (128 * (eOf j).val + d.val) < 8192; omega)).trans ?_)
    exact v_in T (kh t) (eOf j) _ _ (tk r) (by rw [hk])
  · intro r
    refine (hB_at (kh t) _ (eOf j) (gOf j) r).trans ((LG_at r6 h6 _ _ _).trans ((blk4_at m c t _ _ (bd r)).trans ?_))
    exact b_in T (kh t) (eOf j) _ _ (tk r) rfl
  · intro r
    refine (hG_at (kh t) _ (eOf j) (gOf j) r).trans ((LG_at r6 h6 _ _ _).trans ((blk4_at m c t _ _ (bd r)).trans ?_))
    exact g_in T (kh t) (eOf j) _ _ (tk r) rfl
  · intro r
    refine (cutR_at _ (gOf j) r).trans ((LR_at r7 h7 (grid0.coords t) hc _ (eOf j) _).trans ((blk5_at m c t _ _ (bd r)).trans ?_))
    refine g_in T (kh t) (eOf j) _ _ (tk r) ?_
    show 2 * ((grid0.coords t) 0).val + (eOf j).val + 32 = 32 + (2 * (kh t).val + (eOf j).val)
    rw [coord0 t]
    omega
end Ops

/-! ### What the carried buffers hold -/

/-- The buffers after a point: the state before block `n`, and the operators of block `n`, of the two heads of `k`. -/
structure Held (a0 : Qkv) (a2 : Gates) (k : Fin 16) (n : ℕ) (s0 : FVec Ideal S2x128x128 .f32) (s1 : FVec Ideal S32x192x128 .bf16) (s2 : FVec Ideal S32x128x128 .f32)
    (s3 : FVec Ideal S32x64x128 .f32) (s4 : FVec Ideal S32x8x128 .f32) : Prop where
  st : ∀ e a b, s0 (ix3 e a b) = ((RS (kR a0 (hd k e)) (vR a0 (hd k e)) (bR a2 (hd k e)) (gR a2 (hd k e)) (1024 * n) a b : ℝ) : EReal)
  op : ∀ j : Fin 32, IsChunk (ch (16 * n + j.val % 16) (qR a0 (hd k (eOf j)))) (ch (16 * n + j.val % 16) (kR a0 (hd k (eOf j)))) (ch (16 * n + j.val % 16) (vR a0 (hd k (eOf j))))
    (ch (16 * n + j.val % 16) (bR a2 (hd k (eOf j)))) (ch (16 * n + j.val % 16) (gR a2 (hd k (eOf j))))
    (fun x => s1 (ix3 j (x 1) (x 2))) (fun x => s4 (ix3 j (x 1) (x 2))) (fun x => s2 (ix3 j (x 1) (x 2))) (fun x => s3 (ix3 j (x 1) (x 2)))

/-- Two quadruples of operators that agree at every entry are operators of the same chunk. -/
theorem IsChunk.congr {q k v : Fin 64 → Fin 128 → ℝ} {β γ : Fin 64 → ℝ} {mq mq' : FVec Ideal S1x192x128 .bf16} {dl dl' : FVec Ideal S1x8x128 .f32} {nn nn' : FVec Ideal S1x128x128 .f32} {oi oi' : FVec Ideal S1x64x128 .f32}
    (h : IsChunk q k v β γ mq dl nn oi) (e1 : ∀ a b, mq' (ix3 0 a b) = mq (ix3 0 a b)) (e2 : ∀ a b, dl' (ix3 0 a b) = dl (ix3 0 a b)) (e3 : ∀ a b, nn' (ix3 0 a b) = nn (ix3 0 a b)) (e4 : ∀ a b, oi' (ix3 0 a b) = oi (ix3 0 a b)) :
    IsChunk q k v β γ mq' dl' nn' oi' where
  hM a b := (e1 _ _).trans (h.hM a b)
  hQ i b := (e1 _ _).trans (h.hQ i b)
  hD b := (e2 _ _).trans (h.hD b)
  hN a b := (e3 _ _).trans (h.hN a b)
  hO i b := (e4 _ _).trans (h.hO i b)

section Run
variable {a0 : Qkv} {a2 : Gates} {k : Fin 16} {n : ℕ} {s0 : FVec Ideal S2x128x128 .f32} {s1 : FVec Ideal S32x192x128 .bf16} {s2 : FVec Ideal S32x128x128 .f32}
    {s3 : FVec Ideal S32x64x128 .f32} {s4 : FVec Ideal S32x8x128 .f32} (h : Held a0 a2 k n s0 s1 s2 s3 s4)
variable (w0 : Memref sig .tc .vmem S2x128x128 .f32) (hw0 : w0.IsWhole) (w1 : Memref sig .tc .vmem S32x192x128 .bf16) (hw1 : w1.IsWhole)
variable (w2 : Memref sig .tc .vmem S32x128x128 .f32) (hw2 : w2.IsWhole) (w3 : Memref sig .tc .vmem S32x64x128 .f32) (hw3 : w3.IsWhole)
variable (w4 : Memref sig .tc .vmem S32x8x128 .f32) (hw4 : w4.IsWhole)
include h

theorem chunk (e : Fin 2) (i : ℕ) (hi : i < 16) :
    IsChunk (ch (16 * n + i) (qR a0 (hd k e))) (ch (16 * n + i) (kR a0 (hd k e))) (ch (16 * n + i) (vR a0 (hd k e))) (ch (16 * n + i) (bR a2 (hd k e))) (ch (16 * n + i) (gR a2 (hd k e)))
      (L1 w1 hw1 s1 (jj e i)) (L4 w4 hw4 s4 (jj e i)) (L2 w2 hw2 s2 (jj e i)) (L3 w3 hw3 s3 (jj e i)) := by
  have hv : (jj e i).val = (16 * e.val + i) % 32 := rfl
  have he := e.isLt
  have e1 : (jj e i).val % 16 = i := by omega
  have e2 : eOf (jj e i) = e := Fin.ext (by show (jj e i).val / 16 % 2 = e.val; omega)
  have q := h.op (jj e i)
  rw [e1, e2] at q
  exact q.congr (fun a b => L1_at (F := Ideal) w1 hw1 s1 _ a b) (fun a b => L4_at (F := Ideal) w4 hw4 s4 _ a b) (fun a b => L2_at (F := Ideal) w2 hw2 s2 _ a b) (fun a b => L3_at (F := Ideal) w3 hw3 s3 _ a b)

include w3 hw3 in
/-- The state after `i` chunks of the block. -/
theorem run_state (e : Fin 2) : ∀ i, i ≤ 16 → IsState (sN (F := Ideal) (L1 w1 hw1 s1) (L4 w4 hw4 s4) (L2 w2 hw2 s2) e (LS w0 hw0 s0 e) i)
    (RS (kR a0 (hd k e)) (vR a0 (hd k e)) (bR a2 (hd k e)) (gR a2 (hd k e)) (64 * (16 * n + i)))
  | 0, _ => fun a b => by
    refine (LS_at (F := Ideal) w0 hw0 s0 e a b).trans ((h.st e a b).trans ?_)
    rw [show 64 * (16 * n + 0) = 1024 * n by omega]
  | i + 1, hi => fun a b => by
    refine ((chunk h w1 hw1 w2 hw2 w3 hw3 w4 hw4 e i (by omega)).state (run_state e i (by omega)) a b).trans ?_
    rw [chunk_state]
    rfl

/-- The rows of chunk `i` of the block, before they are written. -/
theorem run_out (e : Fin 2) (i : Fin 16) (r : Fin 64) (b : Fin 128) :
    (ot (F := Ideal) (L1 w1 hw1 s1 (jj e i.val)) (L3 w3 hw3 s3 (jj e i.val)) (sN (L1 w1 hw1 s1) (L4 w4 hw4 s4) (L2 w2 hw2 s2) e (LS w0 hw0 s0 e) i.val) (ix2 r b) : EReal) =
      ((RO (qR a0 (hd k e)) (kR a0 (hd k e)) (vR a0 (hd k e)) (bR a2 (hd k e)) (gR a2 (hd k e)) (64 * (16 * n + i.val) + r.val) b : ℝ) : EReal) := by
  refine ((chunk h w1 hw1 w2 hw2 w3 hw3 w4 hw4 e i.val i.isLt).out (run_state h w0 hw0 w1 hw1 w2 hw2 w3 hw3 w4 hw4 e i.val (by omega)) r b).trans ?_
  rw [chunk_out]
end Run
end Cert.KernelIdeal.Gdn
end
-- ==== Proof.GdnRef.lean ====
module

public import proofs.«01_k».proof.Proof.GdnMath
public import proofs.«01_k».proof.Proof.Gen.ReferenceIdeal.Step
public import Idealize.ShloMosaic.Lib.Pipeline.ValueKit
public import Idealize.ShloMosaic.Lib.Pointwise

@[expose] public section

set_option maxRecDepth 16384

noncomputable section

namespace Cert.ReferenceIdeal.Gdn
open Idealize.ShloMosaic Idealize.ShloMosaic.TcCoe Idealize.SL.Sem
open Cert.ReferenceIdeal Cert.ReferenceIdeal.Gen Cert.ReferenceIdeal.Step Cert.GdnMath

/-! ## The reference's values at an index, over the ideal values -/

section Reads
variable (a0 : FVec Ideal S8192x8192 .f32) (a2 : FVec Ideal S8192x128 .f32)

theorem q_at (t : Fin 8192) (h : Fin 32) (c : Fin 128) : (A_main_v3 (F := Ideal) a0 a2 : FVec Ideal _ .f32) (ix3 t h c) = a0 (ix2 t ⟨128 * (h.val / 2) + c.val, by omega⟩) := by
  pointwise [A_main_v3, A_main_v2, A_main_v1, A_main_v0]
  refine congrArg a0 (congrArg (ix2 t) (Fin.ext ?_))
  show h.val / 2 * 128 + c.val = 128 * (h.val / 2) + c.val
  omega
theorem k_at (t : Fin 8192) (h : Fin 32) (c : Fin 128) : (A_main_v7 (F := Ideal) a0 a2 : FVec Ideal _ .f32) (ix3 t h c) = a0 (ix2 t ⟨2048 + 128 * (h.val / 2) + c.val, by omega⟩) := by
  pointwise [A_main_v7, A_main_v6, A_main_v5, A_main_v4]
  refine congrArg a0 (congrArg (ix2 t) (Fin.ext ?_))
  show 2048 + (h.val / 2 * 128 + c.val) = 2048 + 128 * (h.val / 2) + c.val
  omega
theorem v_at (t : Fin 8192) (h : Fin 32) (c : Fin 128) : (A_main_v9 (F := Ideal) a0 a2 : FVec Ideal _ .f32) (ix3 t h c) = a0 (ix2 t ⟨4096 + 128 * h.val + c.val, by omega⟩) := by
  pointwise [A_main_v9, A_main_v8]
  refine congrArg a0 (congrArg (ix2 t) (Fin.ext ?_))
  show 4096 + (h.val * 128 + c.val) = 4096 + 128 * h.val + c.val
  omega
theorem b_at (t : Fin 8192) (h : Fin 32) : (A_main_v10 (F := Ideal) a0 a2 : FVec Ideal _ .f32) (ix2 t h) = a2 (ix2 t ⟨h.val, by omega⟩) := by
  pointwise [A_main_v10]
theorem g_at (t : Fin 8192) (h : Fin 32) : (A_main_v18 (F := Ideal) a0 a2 : FVec Ideal _ .f32) (ix2 t h) =
    if t.val % 64 = 0 then a2 (ix2 t ⟨32 + h.val, by omega⟩) else a2 (ix2 t ⟨32 + h.val, by omega⟩) - a2 (ix2 ⟨t.val - 1, by omega⟩ ⟨32 + h.val, by omega⟩) := by
  pointwise [A_main_v18, A_main_v17, A_main_v16, A_main_v15, A_main_v14, A_main_v13, A_main_v12, A_main_v11]
  by_cases e : t.val % 64 = 0
  · rw [dif_pos (by omega), if_pos e]
  · rw [dif_neg (by omega), if_neg e]
    have e1 : t.val / 64 * 64 + (1 + (t.val % 64 - 1)) = t.val := by omega
    have e2 : t.val / 64 * 64 + (t.val % 64 - 1) = t.val - 1 := by omega
    simp only [e1, e2]
end Reads

variable (j : Fin 8192) (s : State Ideal)

theorem wordj : (BitVec.ofNat 32 j.val).toInt = (j.val : ℤ) := by
  have := j.isLt
  rw [BitVec.toInt_eq_toNat_of_lt] <;> rw [BitVec.toNat_ofNat] <;> omega

/-- The offsets of trip `j`'s slices. -/
def off3 (j : Fin 8192) : Fin 3 → ℤ := fun k => BitVec.toInt ((![constantI S_ 32 (BitVec.ofNat 32 j.val), constantI S_ 32 0#32, constantI S_ 32 0#32] : Fin 3 → IVec S_ 32) k (Shape.Idx.first h_S_))
def off2 (j : Fin 8192) : Fin 2 → ℤ := fun k => BitVec.toInt ((![constantI S_ 32 (BitVec.ofNat 32 j.val), constantI S_ 32 0#32] : Fin 2 → IVec S_ 32) k (Shape.Idx.first h_S_))

theorem at3_0 (h : S1x32x128.rank = S8192x32x128.rank) : Host.clampedStart S8192x32x128 S1x32x128 h (off3 j) 0 = j.val :=
  Host.clampedStart_of_le h (off3 j) 0 j.val (wordj j) (by show j.val + 1 ≤ 8192; omega)
theorem at3_1 (h : S1x32x128.rank = S8192x32x128.rank) : Host.clampedStart S8192x32x128 S1x32x128 h (off3 j) 1 = 0 :=
  Host.clampedStart_of_le h (off3 j) 1 0 rfl (by show 0 + 32 ≤ 32; omega)
theorem at3_2 (h : S1x32x128.rank = S8192x32x128.rank) : Host.clampedStart S8192x32x128 S1x32x128 h (off3 j) 2 = 0 :=
  Host.clampedStart_of_le h (off3 j) 2 0 rfl (by show 0 + 128 ≤ 128; omega)
theorem at2_0 (h : S1x32.rank = S8192x32.rank) : Host.clampedStart S8192x32 S1x32 h (off2 j) 0 = j.val :=
  Host.clampedStart_of_le h (off2 j) 0 j.val (wordj j) (by show j.val + 1 ≤ 8192; omega)
theorem at2_1 (h : S1x32.rank = S8192x32.rank) : Host.clampedStart S8192x32 S1x32 h (off2 j) 1 = 0 :=
  Host.clampedStart_of_le h (off2 j) 1 0 rfl (by show 0 + 32 ≤ 32; omega)

theorem slice3 (x : FVec Ideal S8192x32x128 .f32) (h : Fin 32) (c : Fin 128) :
    shapeCast S32x128 (Host.dynamicSlice S1x32x128 x (off3 j) sliceFits_S8192x32x128_S1x32x128) shapeCasts_S1x32x128_S32x128 (ix2 h c) = x (ix3 j h c) := by
  pointwise []
  simp only [at3_0, at3_1, at3_2, Nat.zero_add]
theorem slice2 (x : FVec Ideal S8192x32 .f32) (h : Fin 32) :
    shapeCast S32 (Host.dynamicSlice S1x32 x (off2 j) sliceFits_S8192x32_S1x32) shapeCasts_S1x32_S32 (ix1 h) = x (ix2 j h) := by
  pointwise []
  simp only [at2_0, at2_1, Nat.zero_add]

theorem bq_at (h : Fin 32) (c : Fin 128) : b3 j.val s (ix2 h c) = s.main_v21_0 (ix3 j h c) := slice3 j s.main_v21_0 h c
theorem bk_at (h : Fin 32) (c : Fin 128) : b7 j.val s (ix2 h c) = s.main_v21_1 (ix3 j h c) := slice3 j s.main_v21_1 h c
theorem bv_at (h : Fin 32) (c : Fin 128) : b11 j.val s (ix2 h c) = s.main_v21_2 (ix3 j h c) := slice3 j s.main_v21_2 h c
theorem bb_at (h : Fin 32) : b14 j.val s (ix1 h) = s.main_v21_3 (ix2 j h) := slice2 j s.main_v21_3 h
theorem bg_at (h : Fin 32) : b17 j.val s (ix1 h) = s.main_v21_4 (ix2 j h) := slice2 j s.main_v21_4 h

theorem state_at (h : Fin 32) (a b : Fin 128) : b32 j.val s (ix3 h a b) = s.main_v21_6 (ix3 h a b) * Ideal.exp (b17 j.val s (ix1 h)) +
      b14 j.val s (ix1 h) * b7 j.val s (ix2 h a) *
        (b11 j.val s (ix2 h b) - ∑ x : Fin 128, s.main_v21_6 (ix3 h x b) * Ideal.exp (b17 j.val s (ix1 h)) * b7 j.val s (ix2 h x)) := by
  pointwise [b32, b31, b30, b29, b28, b27, b26, b25, b24, b23, b22, b21, b20, b19, b18]
theorem out_at (h : Fin 32) (b : Fin 128) : b33 j.val s (ix2 h b) = ∑ x : Fin 128, b32 j.val s (ix3 h x b) * b3 j.val s (ix2 h x) := by
  pointwise [b33]

theorem update3 (x : FVec Ideal S8192x32x128 .f32) (u : FVec Ideal S32x128 .f32) (t : Fin 8192) (h : Fin 32) (b : Fin 128) :
    Host.dynamicUpdateSlice x (broadcastInDim S1x32x128 ![1, 2] bcast_S32x128_S1x32x128_1_2 u) (off3 j) updateFits_S8192x32x128_S1x32x128 (ix3 t h b) = if t = j then u (ix2 h b) else x (ix3 t h b) := by
  pointwise []
  simp only [at3_0, at3_1, at3_2, Nat.zero_le, and_true, Nat.sub_zero]
  by_cases e : t = j
  · subst e
    rw [dif_pos (by omega), if_pos rfl]
  · have : ¬ t.val = j.val := fun h => e (Fin.ext h)
    rw [dif_neg (by omega), if_neg e]
theorem rows_at (t : Fin 8192) (h : Fin 32) (b : Fin 128) : b37 j.val s (ix3 t h b) = if t = j then b33 j.val s (ix2 h b) else s.main_v21_7 (ix3 t h b) :=
  update3 j s.main_v21_7 (b33 j.val s) t h b

theorem R_at (x1 : FVec Ideal S8192x4096 .f32) (x3 : FVec Ideal S128 .f32) (t : Fin 8192) (c : Fin 4096) :
    (R_main_v38 s x1 x3 : FVec Ideal _ .bf16) (ix2 t c) =
      (fun o : Fin 128 → EReal => o ⟨c.val % 128, Nat.mod_lt _ (by decide)⟩ * Ideal.rsqrt (Ideal.div (∑ x : Fin 128, o x * o x) (Ideal.ofBits .f32 0x43000000#32) + Ideal.ofBits .f32 0x358637BD#32)
        * x3 (ix1 ⟨c.val % 128, Nat.mod_lt _ (by decide)⟩) * x1 (ix2 t c)) (fun x => s.main_v21_7 (ix3 t ⟨c.val / 128, by omega⟩ x)) := by
  pointwise [R_main_v38]
end Cert.ReferenceIdeal.Gdn
end
-- ==== Proof.GdnLoop.lean ====
module

public import proofs.«01_k».proof.Proof.Gen.ReferenceIdeal.Run
public import proofs.«01_k».proof.Proof.Gen.ReferenceIdeal.Step

@[expose] public section

set_option maxRecDepth 16384

noncomputable section

namespace Cert.ReferenceIdeal.Gdn
open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-! ## The token loop's trips as the step function iterated -/

/-- The state the loop's buffers hold. -/
def held (V : Valuation τ sig (Elt F)) : State F where
  main_v21_6 := V (Proc.devRef .tc main_v21_6)
  main_v21_7 := V (Proc.devRef .tc main_v21_7)
  main_v21_0 := V (Proc.devRef .tc main_v21_0)
  main_v21_1 := V (Proc.devRef .tc main_v21_1)
  main_v21_2 := V (Proc.devRef .tc main_v21_2)
  main_v21_3 := V (Proc.devRef .tc main_v21_3)
  main_v21_4 := V (Proc.devRef .tc main_v21_4)

/-- The loop's counter is at trip `j`. -/
def At (V : Valuation τ sig (Elt F)) (j : ℕ) : Prop := V (Proc.devRef .tc main_v21_5) = constantI S_ 32 (BitVec.ofNat 32 j)

theorem state_eq (V : Valuation τ sig (Elt F)) (j : ℕ) (h : At V j) : step_main_v21_6 V = Step.b32 j (held V) := by
  unfold step_main_v21_6 res_main_while0b_v58 res_main_while0b_v47 res_main_while0b_v40
  rw [h]
  rfl

theorem rows_eq (V : Valuation τ sig (Elt F)) (j : ℕ) (h : At V j) : step_main_v21_7 V = Step.b37 j (held V) := by
  unfold step_main_v21_7 res_main_while0b_v58 res_main_while0b_v47 res_main_while0b_v40
  rw [h]
  rfl

theorem held_step (V : Valuation τ sig (Elt F)) (j : ℕ) (h : At V j) : held (STEP V) = step j (held V) := by
  unfold held
  rw [STEP_main_v21_6, STEP_main_v21_7, STEP_main_v21_0, STEP_main_v21_1, STEP_main_v21_2, STEP_main_v21_3, STEP_main_v21_4, state_eq V j h, rows_eq V j h]
  rfl

theorem at_step (V : Valuation τ sig (Elt F)) (j : ℕ) (h : At V j) : At (STEP V) (j + 1) := by
  unfold At at h ⊢
  rw [STEP_main_v21_5]
  unfold step_main_v21_5
  rw [h]
  funext i
  show BitVec.ofNat 32 j + 1#32 = BitVec.ofNat 32 (j + 1)
  simp only [BitVec.ofNat_add]

variable (m : (ℓ : Loc nD τ sig) → Buf (Elt F) ℓ) (c : Dev nD)

set_option maxRecDepth 65536 in
theorem at_entry : At (entryContents preI m c) 0 := by
  unfold At
  simp only [entryContents, afterL_cons, afterL_nil]
  after_reads_simp
  rfl

set_option maxRecDepth 65536 in
set_option maxHeartbeats 2000000 in
theorem held_entry : held (entryContents preI m c) = init (m ((c.tc : Thread nD τ).loc main_arg0)) (m ((c.tc : Thread nD τ).loc main_arg2)) := by
  unfold held init
  rw [State.mk.injEq]
  refine ⟨?_, ?_, ?_, ?_, ?_, ?_, ?_⟩ <;> (simp only [entryContents, afterL_cons, afterL_nil]; after_reads_simp) <;> rfl

/-- The state before token `n`. -/
def stateAt (a0 : (⟨S8192x8192, .f32⟩ : BufTy).Contents (Elt F)) (a2 : (⟨S8192x128, .f32⟩ : BufTy).Contents (Elt F)) : ℕ → State F
  | 0 => init a0 a2
  | n + 1 => step n (stateAt a0 a2 n)

theorem iterated : ∀ n, At (STEP^[n] (entryContents preI m c)) n ∧ held (STEP^[n] (entryContents preI m c)) = stateAt (m ((c.tc : Thread nD τ).loc main_arg0)) (m ((c.tc : Thread nD τ).loc main_arg2)) n
  | 0 => ⟨at_entry m c, held_entry m c⟩
  | n + 1 => by
    have ih := iterated n
    rw [Function.iterate_succ_apply']
    refine ⟨at_step _ _ ih.1, ?_⟩
    rw [held_step _ _ ih.1, ih.2]
    rfl

theorem result_held (V : Valuation τ sig (Elt F)) : out_main_v38 V = Step.R_main_v38 (held V) (V (Proc.devRef .tc main_arg1)) (V (Proc.devRef .tc main_arg3)) := by
  unfold out_main_v38
  rfl

/-- What the reference leaves in its result. -/
theorem result : out_main_v38 (STEP^[8192] (entryContents preI m c)) = Step.R_main_v38 (stateAt (m ((c.tc : Thread nD τ).loc main_arg0)) (m ((c.tc : Thread nD τ).loc main_arg2)) 8192)
    (m ((c.tc : Thread nD τ).loc main_arg1)) (m ((c.tc : Thread nD τ).loc main_arg3)) :=
  (result_held _).trans (congr (congr (congrArg Step.R_main_v38 (iterated m c 8192).2) (iter_main_arg1 m c 8192)) (iter_main_arg3 m c 8192))

end Cert.ReferenceIdeal.Gdn
end
-- ==== Proof.GdnTok.lean ====
module

public import proofs.«01_k».proof.Proof.GdnArr
public import proofs.«01_k».proof.Proof.GdnRef
public import proofs.«01_k».proof.Proof.GdnLoop

@[expose] public section

set_option maxRecDepth 16384

noncomputable section

namespace Cert.ReferenceIdeal.Gdn
open Idealize.ShloMosaic Idealize.ShloMosaic.TcCoe Idealize.SL.Sem
open Cert.ReferenceIdeal Cert.ReferenceIdeal.Gen Cert.ReferenceIdeal.Step Cert.GdnMath Cert.GdnArr

/-! ## The reference's loop computes the token recurrence of real numbers -/

theorem real_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable {a0 : FVec Ideal S8192x8192 .f32} {a2 : FVec Ideal S8192x128 .f32}

theorem kept : ∀ n, (stateAt (F := Ideal) a0 a2 n).main_v21_0 = A_main_v3 (F := Ideal) a0 a2 ∧ (stateAt (F := Ideal) a0 a2 n).main_v21_1 = A_main_v7 (F := Ideal) a0 a2 ∧ (stateAt (F := Ideal) a0 a2 n).main_v21_2 = A_main_v9 (F := Ideal) a0 a2 ∧
    (stateAt (F := Ideal) a0 a2 n).main_v21_3 = A_main_v10 (F := Ideal) a0 a2 ∧ (stateAt (F := Ideal) a0 a2 n).main_v21_4 = A_main_v18 (F := Ideal) a0 a2
  | 0 => ⟨rfl, rfl, rfl, rfl, rfl⟩
  | n + 1 => kept n

theorem zero_state (h : Fin 32) (a b : Fin 128) : (stateAt (F := Ideal) a0 a2 0).main_v21_6 (ix3 h a b) = 0 := by
  show (K_main_v19 (F := Ideal) : FVec Ideal _ .f32) (ix3 h a b) = 0
  pointwise [K_main_v19, K_main_cst]

section
variable (T : Tame a0 a2)
include T
section
variable (n : ℕ) (hn : n < 8192)
include hn

theorem tq (h : Fin 32) (c : Fin 128) : b3 (F := Ideal) n (stateAt (F := Ideal) a0 a2 n) (ix2 h c) = ((qR a0 h n c : ℝ) : EReal) := by
  refine (bq_at ⟨n, hn⟩ _ h c).trans ?_
  rw [(kept n).1]
  exact (q_at a0 a2 ⟨n, hn⟩ h c).trans (q_coe h T ⟨n, hn⟩ c)
theorem tk (h : Fin 32) (c : Fin 128) : b7 (F := Ideal) n (stateAt (F := Ideal) a0 a2 n) (ix2 h c) = ((kR a0 h n c : ℝ) : EReal) := by
  refine (bk_at ⟨n, hn⟩ _ h c).trans ?_
  rw [(kept n).2.1]
  exact (k_at a0 a2 ⟨n, hn⟩ h c).trans (k_coe h T ⟨n, hn⟩ c)
theorem tv (h : Fin 32) (c : Fin 128) : b11 (F := Ideal) n (stateAt (F := Ideal) a0 a2 n) (ix2 h c) = ((vR a0 h n c : ℝ) : EReal) := by
  refine (bv_at ⟨n, hn⟩ _ h c).trans ?_
  rw [(kept n).2.2.1]
  exact (v_at a0 a2 ⟨n, hn⟩ h c).trans (v_coe h T ⟨n, hn⟩ c)
theorem tb (h : Fin 32) : b14 (F := Ideal) n (stateAt (F := Ideal) a0 a2 n) (ix1 h) = ((bR a2 h n : ℝ) : EReal) := by
  refine (bb_at ⟨n, hn⟩ _ h).trans ?_
  rw [(kept n).2.2.2.1]
  exact (b_at a0 a2 ⟨n, hn⟩ h).trans (b_coe h T ⟨n, hn⟩)
theorem tg (h : Fin 32) : b17 (F := Ideal) n (stateAt (F := Ideal) a0 a2 n) (ix1 h) = ((gam (gR a2 h) n : ℝ) : EReal) := by
  refine (bg_at ⟨n, hn⟩ _ h).trans ?_
  rw [(kept n).2.2.2.2]
  refine (g_at a0 a2 ⟨n, hn⟩ h).trans ?_
  unfold gam
  by_cases e : n % 64 = 0
  · rw [if_pos e, if_pos e]; exact g_coe h T ⟨n, hn⟩
  · rw [if_neg e, if_neg e, g_coe h T ⟨n, hn⟩, g_coe h T ⟨n - 1, by omega⟩]
    exact (EReal.coe_sub _ _).symm

theorem state_next (h : Fin 32) (S : Fin 128 → Fin 128 → ℝ) (hS : ∀ a b, (stateAt (F := Ideal) a0 a2 n).main_v21_6 (ix3 h a b) = ((S a b : ℝ) : EReal)) (a b : Fin 128) :
    b32 (F := Ideal) n (stateAt (F := Ideal) a0 a2 n) (ix3 h a b) = ((upd (kR a0 h) (vR a0 h) (bR a2 h) (gR a2 h) n S a b : ℝ) : EReal) := by
  refine (state_at ⟨n, hn⟩ _ h a b).trans ?_
  simp only [hS, tk T n hn, tv T n hn, tb T n hn, tg T n hn, Ideal.exp_coe, ← EReal.coe_mul, real_sum, ← EReal.coe_sub, ← EReal.coe_add]
  rfl
end

/-- After `n` tokens the carried state is the recurrence's. -/

theorem state_real (h : Fin 32) : ∀ n, n ≤ 8192 → ∀ a b, (stateAt (F := Ideal) a0 a2 n).main_v21_6 (ix3 h a b) = ((RS (kR a0 h) (vR a0 h) (bR a2 h) (gR a2 h) n a b : ℝ) : EReal)
  | 0, _, a, b => by rw [zero_state]; rfl
  | n + 1, hn, a, b => state_next T n (by omega) h _ (state_real h n (by omega)) a b

theorem out_real (n : ℕ) (hn : n < 8192) (h : Fin 32) (b : Fin 128) : b33 (F := Ideal) n (stateAt (F := Ideal) a0 a2 n) (ix2 h b) = ((RO (qR a0 h) (kR a0 h) (vR a0 h) (bR a2 h) (gR a2 h) n b : ℝ) : EReal) := by
  refine (out_at ⟨n, hn⟩ _ h b).trans ?_
  simp only [state_next T n hn h _ (state_real T h n (by omega)), tq T n hn, ← EReal.coe_mul, real_sum]
  rfl

/-- After `n` tokens every row before `n` holds its token's output. -/
theorem rows_real (h : Fin 32) (t : Fin 8192) (b : Fin 128) : ∀ n, n ≤ 8192 → t.val < n →
    (stateAt (F := Ideal) a0 a2 n).main_v21_7 (ix3 t h b) = ((RO (qR a0 h) (kR a0 h) (vR a0 h) (bR a2 h) (gR a2 h) t.val b : ℝ) : EReal)
  | 0, _, ht => absurd ht (Nat.not_lt_zero _)
  | n + 1, hn, ht => by
    refine (rows_at ⟨n, by omega⟩ (stateAt (F := Ideal) a0 a2 n) t h b).trans ?_
    by_cases e : t = ⟨n, by omega⟩
    · rw [if_pos e, e]; exact out_real T n (by omega) h b
    · rw [if_neg e]
      refine rows_real h t b n (by omega) ?_
      have : t.val ≠ n := fun q => e (Fin.ext q)
      omega

/-- The reference's result at an index. -/
theorem result_real (x1 : FVec Ideal S8192x4096 .f32) (x3 : FVec Ideal S128 .f32) (t : Fin 8192) (c : Fin 4096) :
    (R_main_v38 (stateAt (F := Ideal) a0 a2 8192) x1 x3 : FVec Ideal _ .bf16) (ix2 t c) =
      (fun o : Fin 128 → EReal => o ⟨c.val % 128, Nat.mod_lt _ (by decide)⟩ * Ideal.rsqrt (Ideal.div (∑ x : Fin 128, o x * o x) (Ideal.ofBits .f32 0x43000000#32) + Ideal.ofBits .f32 0x358637BD#32)
        * x3 (ix1 ⟨c.val % 128, Nat.mod_lt _ (by decide)⟩) * x1 (ix2 t c))
      (fun b => ((RO (qR a0 ⟨c.val / 128, by omega⟩) (kR a0 ⟨c.val / 128, by omega⟩) (vR a0 ⟨c.val / 128, by omega⟩) (bR a2 ⟨c.val / 128, by omega⟩) (gR a2 ⟨c.val / 128, by omega⟩) t.val b : ℝ) : EReal)) := by
  rw [R_at]
  exact congrArg (fun o : Fin 128 → EReal => o ⟨c.val % 128, Nat.mod_lt _ (by decide)⟩ * Ideal.rsqrt (Ideal.div (∑ x : Fin 128, o x * o x) (Ideal.ofBits .f32 0x43000000#32) + Ideal.ofBits .f32 0x358637BD#32)
        * x3 (ix1 ⟨c.val % 128, Nat.mod_lt _ (by decide)⟩) * x1 (ix2 t c)) (funext fun b => rows_real T ⟨c.val / 128, by omega⟩ t b 8192 (le_refl _) t.isLt)
end
end Cert.ReferenceIdeal.Gdn
end
-- ==== Proof.GdnFinal.lean ====
module

public import proofs.«01_k».proof.Proof.GdnGrid
public import proofs.«01_k».proof.Proof.GdnTok

@[expose] public section

set_option maxRecDepth 16384

noncomputable section

namespace Cert.KernelIdeal.Gdn
open Idealize.ShloMosaic Idealize.ShloMosaic.TcCoe Idealize.SL.Sem
open Cert.KernelIdeal Cert.KernelIdeal.Gen Cert.GdnMath Cert.GdnArr
open Idealize.ShloMosaic.Pipeline (Dat)

variable (m : (ℓ : Loc nD τ sig) → Buf (Elt Ideal) ℓ)

/-! ## The points in order, and the result array -/

section Points
variable {c : Dev nD} (T : Tame (Aq m c) (Ag m c))
include T

/-- What the buffers hold after point `t`. -/
def HeldAt (c : Dev nD) (t : Fin cfg0.N) : Prop :=
  Held (Aq m c) (Ag m c) (kh t) (t.val % 9) (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2

omit T in
theorem cast_up (x : FVec Ideal S128x128 .f32) (h : S128x128.ShapeCasts S1x128x128) (a b : Fin 128) : shapeCast S1x128x128 x h (ix3 0 a b) = x (ix2 a b) := by
  pointwise []

set_option maxHeartbeats 1000000 in
theorem held_A (t : Fin cfg0.N) (h0 : t.val % 9 = 0) : HeldAt m c t := by
  have h1 : ¬ t.val % 9 = 8 := by omega
  have h2 : t.val % 9 ≤ 7 := by omega
  unfold HeldAt
  rw [outsAt0_A m c t h0 h1 h2]
  dsimp only
  constructor
  · intro e a b
    refine (soutA_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (ix3 e a b)).trans ?_
    refine (cast_up _ _ a b).trans ?_
    refine (sN_zero (C1_at scM0_1) (C4_at scM0_4) (C2_at scM0_2) (C0_at scM0_0 e) 16 a b).trans ?_
    rw [h0]
    rfl
  · intro j
    refine (ops m T t h2 (ms0_0 t) (ms0_1 t) (ms0_4 t) (hs0_0 t) (hs0_1 t) (hs0_4 t) (ms0_2 t) (hs0_2 t) (ms0_5 t) (hs0_5 t) ((hcond0_2 t).mpr h2) j).congr ?_ ?_ ?_ ?_
    · intro a b
      exact soutA_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (ix3 j a b)
    · intro a b
      exact soutA_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (ix3 j a b)
    · intro a b
      exact soutA_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (ix3 j a b)
    · intro a b
      exact soutA_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (ix3 j a b)

/-- The point before, in the same head pair. -/
def Before (c : Dev nD) (t : Fin cfg0.N) : Prop :=
  Held (Aq m c) (Ag m c) (kh t) (t.val % 9 - 1) (outsAt0 m c (t.val - 1) (Nat.lt_of_le_of_lt (Nat.sub_le _ _) t.isLt)).2.1 (outsAt0 m c (t.val - 1) (Nat.lt_of_le_of_lt (Nat.sub_le _ _) t.isLt)).2.2.1
    (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

set_option maxHeartbeats 1000000 in
theorem held_B (t : Fin cfg0.N) (h0 : ¬ t.val % 9 = 0) (h2 : t.val % 9 ≤ 7) (h : Before m c t) : HeldAt m c t := by
  have h1 : ¬ t.val % 9 = 8 := by omega
  unfold HeldAt
  rw [outsAt0_B m c t h0 h1 h2]
  dsimp only
  constructor
  · intro e a b
    refine (soutB_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix3 e a b)).trans ?_
    refine (cast_up _ _ a b).trans ?_
    refine (run_state h scM0_0 (Memref.isWhole_whole _) scM0_1 (Memref.isWhole_whole _) scM0_2 (Memref.isWhole_whole _) scM0_3 (Memref.isWhole_whole _) scM0_4 (Memref.isWhole_whole _) e 16 (le_refl _) a b).trans ?_
    rw [show 64 * (16 * (t.val % 9 - 1) + 16) = 1024 * (t.val % 9) by omega]
  · intro j
    refine (ops m T t h2 (ms0_0 t) (ms0_1 t) (ms0_4 t) (hs0_0 t) (hs0_1 t) (hs0_4 t) (ms0_2 t) (hs0_2 t) (ms0_5 t) (hs0_5 t) ((hcond0_2 t).mpr h2) j).congr ?_ ?_ ?_ ?_
    · intro a b
      exact soutB_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix3 j a b)
    · intro a b
      exact soutB_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix3 j a b)
    · intro a b
      exact soutB_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix3 j a b)
    · intro a b
      exact soutB_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix3 j a b)

omit T in
theorem before_of (t : Fin cfg0.N) (h0 : ¬ t.val % 9 = 0) (h : HeldAt m c ⟨t.val - 1, Nat.lt_of_le_of_lt (Nat.sub_le _ _) t.isLt⟩) : Before m c t := by
  unfold HeldAt at h
  unfold Before
  have e1 : kh ⟨t.val - 1, Nat.lt_of_le_of_lt (Nat.sub_le _ _) t.isLt⟩ = kh t := Fin.ext (by show (t.val - 1) / 9 = t.val / 9; omega)
  have e2 : (t.val - 1) % 9 = t.val % 9 - 1 := by omega
  rw [e1, e2] at h
  exact h

/-- After every point that builds operators the buffers hold them, and the state before its block. -/
theorem held_all : ∀ (n : ℕ) (hn : n < cfg0.N), n % 9 ≤ 7 → HeldAt m c ⟨n, hn⟩
  | 0, hn, _ => held_A m T ⟨0, hn⟩ rfl
  | n + 1, hn, h2 => by
    by_cases h0 : (n + 1) % 9 = 0
    · exact held_A m T ⟨n + 1, hn⟩ h0
    · exact held_B m T ⟨n + 1, hn⟩ h0 h2 (before_of m ⟨n + 1, hn⟩ h0 (held_all n (by omega) (by omega)))

theorem before (t : Fin cfg0.N) (h0 : ¬ t.val % 9 = 0) : Before m c t :=
  before_of m t h0 (held_all m T (t.val - 1) _ (by omega))

/-- The reference's result. -/
abbrev RES (c : Dev nD) : FVec Ideal S8192x4096 .bf16 :=
  (Cert.ReferenceIdeal.Step.R_main_v38 (F := Ideal) (Cert.ReferenceIdeal.Gdn.stateAt (F := Ideal) (Aq m c) (Ag m c) 8192) (Az m c) (An m c))

/-- A written row entry of the point's block is the reference's. -/
theorem row_eq (t : Fin cfg0.N) (h0 : ¬ t.val % 9 = 0) (r5 : Memref sig .tc .vmem S1024x256 .f32) (h5 : r5.IsWhole) (r8 : Memref sig .tc .vmem S1x128 .f32) (h8 : r8.IsWhole)
    (w0 : Memref sig .tc .vmem S2x128x128 .f32) (hw0 : w0.IsWhole) (w1 : Memref sig .tc .vmem S32x192x128 .bf16) (hw1 : w1.IsWhole)
    (w2 : Memref sig .tc .vmem S32x128x128 .f32) (hw2 : w2.IsWhole) (w3 : Memref sig .tc .vmem S32x64x128 .f32) (hw3 : w3.IsWhole)
    (w4 : Memref sig .tc .vmem S32x8x128 .f32) (hw4 : w4.IsWhole)
    {s0 : FVec Ideal S2x128x128 .f32} {s1 : FVec Ideal S32x192x128 .bf16} {s2 : FVec Ideal S32x128x128 .f32} {s3 : FVec Ideal S32x64x128 .f32} {s4 : FVec Ideal S32x8x128 .f32}
    (h : Held (Aq m c) (Ag m c) (kh t) (t.val % 9 - 1) s0 s1 s2 s3 s4) (i : Fin 1024) (j : Fin 256) (b0 : (t.val % 9 - 1) * 1024 + i.val < 8192) (b1 : t.val / 9 * 256 + j.val < 4096) :
    oN (F := Ideal) (L1 w1 hw1 s1) (L4 w4 hw4 s4) (L2 w2 hw2 s2) (L3 w3 hw3 s3) (LZ r5 h5 (iblk m c 3 t)) (LN r8 h8 (iblk m c 6 t)) (eCol j.val) (LS w0 hw0 s0 (eCol j.val)) (nRow i.val)
      (ix2 (n0 := 64) (n1 := 128) ⟨i.val % 64, Nat.mod_lt _ (by decide)⟩ ⟨j.val % 128, Nat.mod_lt _ (by decide)⟩) = RES m c (ix2 ⟨(t.val % 9 - 1) * 1024 + i.val, b0⟩ ⟨t.val / 9 * 256 + j.val, b1⟩) := by
  have hi := i.isLt
  have hj := j.isLt
  have hN := (idx t).2.2.2.2.2.2.2.2
  have en : (nRow i.val).val = i.val / 64 % 16 := rfl
  have ee : (eCol j.val).val = j.val / 128 % 2 := rfl
  have eh : (⟨(t.val / 9 * 256 + j.val) / 128, by omega⟩ : Fin 32) = hd (kh t) (eCol j.val) := Fin.ext (by show (t.val / 9 * 256 + j.val) / 128 = 2 * (t.val / 9) + (eCol j.val).val; omega)
  have eb : (⟨(t.val / 9 * 256 + j.val) % 128, Nat.mod_lt _ (by decide)⟩ : Fin 128) = ⟨j.val % 128, Nat.mod_lt _ (by decide)⟩ := Fin.ext (by show (t.val / 9 * 256 + j.val) % 128 = j.val % 128; omega)
  have et : 64 * (16 * (t.val % 9 - 1) + (nRow i.val).val) + i.val % 64 = (t.val % 9 - 1) * 1024 + i.val := by omega
  refine Eq.trans ?_ (Cert.ReferenceIdeal.Gdn.result_real T (Az m c) (An m c) ⟨(t.val % 9 - 1) * 1024 + i.val, b0⟩ ⟨t.val / 9 * 256 + j.val, b1⟩).symm
  simp only [eh, eb]
  unfold oN
  refine (wr_at _ _ _ _ _).trans ?_
  simp only [run_out h w0 hw0 w1 hw1 w2 hw2 w3 hw3 w4 hw4]
  have ez : (LZ (F := Ideal) r5 h5 (iblk m c 3 t) (eCol j.val) (nRow i.val) (ix2 ⟨i.val % 64, Nat.mod_lt _ (by decide)⟩ ⟨j.val % 128, Nat.mod_lt _ (by decide)⟩) : EReal) =
      Az m c (ix2 ⟨(t.val % 9 - 1) * 1024 + i.val, b0⟩ ⟨t.val / 9 * 256 + j.val, b1⟩) := by
    refine (LZ_at (F := Ideal) r5 h5 _ _ _ _ _).trans ((blk3_at m c t _ _ (by show (t.val % 9 - 1) * 1024 + (64 * (nRow i.val).val + i.val % 64) < 8192; omega) (by show t.val / 9 * 256 + (128 * (eCol j.val).val + j.val % 128) < 4096; omega)).trans ?_)
    refine congrArg₂ (fun a b => Az m c (ix2 a b)) (Fin.ext ?_) (Fin.ext ?_)
    · show (t.val % 9 - 1) * 1024 + (64 * (nRow i.val).val + i.val % 64) = (t.val % 9 - 1) * 1024 + i.val
      omega
    · show t.val / 9 * 256 + (128 * (eCol j.val).val + j.val % 128) = t.val / 9 * 256 + j.val
      omega
  have eo : (LN (F := Ideal) r8 h8 (iblk m c 6 t) (ix2 0 ⟨j.val % 128, Nat.mod_lt _ (by decide)⟩) : EReal) = An m c (ix1 ⟨j.val % 128, Nat.mod_lt _ (by decide)⟩) :=
    (LN_at (F := Ideal) r8 h8 _ _).trans (blk6_at m c t _)
  rw [ez, eo]
  simp only [et]

set_option maxHeartbeats 1000000 in
/-- The block a point writes back. -/
theorem out_eq (t : Fin cfg0.N) (h0 : ¬ t.val % 9 = 0) (i : Fin 1024) (j : Fin 256) (b0 : (t.val % 9 - 1) * 1024 + i.val < 8192) (b1 : t.val / 9 * 256 + j.val < 4096) :
    (outsAt0 m c t.val t.isLt).1 (ix2 i j) = RES m c (ix2 ⟨(t.val % 9 - 1) * 1024 + i.val, b0⟩ ⟨t.val / 9 * 256 + j.val, b1⟩) := by
  have h := before m T t h0
  unfold Before at h
  by_cases h1 : t.val % 9 = 8
  · have h2 : ¬ t.val % 9 ≤ 7 := by omega
    rw [outsAt0_C m c t h0 h1 h2]
    dsimp only
    refine (outC_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 i j)).trans ?_
    exact row_eq m T t h0 (ms0_3 t) (hs0_3 t) (ms0_6 t) (hs0_6 t) scM0_0 (Memref.isWhole_whole _) scM0_1 (Memref.isWhole_whole _) scM0_2 (Memref.isWhole_whole _) scM0_3 (Memref.isWhole_whole _) scM0_4 (Memref.isWhole_whole _) h i j b0 b1
  · have h2 : t.val % 9 ≤ 7 := by omega
    rw [outsAt0_B m c t h0 h1 h2]
    dsimp only
    refine (outB_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 i j)).trans ?_
    exact row_eq m T t h0 (ms0_3 t) (hs0_3 t) (ms0_6 t) (hs0_6 t) scM0_0 (Memref.isWhole_whole _) scM0_1 (Memref.isWhole_whole _) scM0_2 (Memref.isWhole_whole _) scM0_3 (Memref.isWhole_whole _) scM0_4 (Memref.isWhole_whole _) h i j b0 b1

omit T in
theorem flush_ne : ∀ t : Fin cfg0.N, (cfg0.win 7).flush t = true → ¬ t.val % 9 = 0 := (by decide +kernel : ∀ t : Fin grid0.N, _)

/-- The result array after the run is the reference's. -/
theorem final : (dats m 0 c).arrAt 7 cfg0.N = RES m c := by
  refine (dats m 0 c).arrAt_eq_of_covers 7 _ (by decide +kernel) fun t hf y => ?_
  have h0 := flush_ne t hf
  have h1 := (idx t).2.2.2.2.2.2.2.2
  have hy : (y 0).val < 1024 := (y 0).isLt
  have hy1 : (y 1).val < 256 := (y 1).isLt
  blk_simp
  rw [after0_7]
  refine (congrArg _ (eq_ix2 (n0 := 1024) (n1 := 256) y)).trans ((out_eq m T t h0 (y 0) (y 1) (by omega) (by omega)).trans ?_)
  refine congrArg _ ?_
  symm
  blk_ext [idx t]
end Points
end Cert.KernelIdeal.Gdn
end
-- ==== Proof.Mlp.lean ====
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference2Ideal.Mlp
open Cert.Reference2Ideal Cert.Reference2Ideal.Gen
/-- The MLP reference's composed term over its four arguments. -/
def REF (a0 : FVec Ideal S8192x2048 .f32) (a1 : FVec Ideal S4x2048 .f32) (a2 : FVec Ideal S4x2048x8192 .f32)
    (a3 : FVec Ideal S4x8192x2048 .f32) : FVec Ideal S8192x2048 .f32 :=
  addf a0 (Host.dotGeneral dot_S8192x8192_S8192x2048_S8192x2048_1_0_0_1_n_n none (mulf (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![3, 0] a1 slices_S4x2048_S1x2048_3_0) shapeCasts_S1x2048_S2048)))) (shapeCast _ (extractStridedSlice S1x2048x8192 ![3, 0, 0] a2 slices_S4x2048x8192_S1x2048x8192_3_0_0) shapeCasts_S1x2048x8192_S2048x8192)) (broadcastInDim S8192x8192 ![] bcast_S_S8192x8192 (constant S_ .f32 0x00000000#32))) (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![3, 0] a1 slices_S4x2048_S1x2048_3_0) shapeCasts_S1x2048_S2048)))) (shapeCast _ (extractStridedSlice S1x2048x8192 ![3, 0, 0] a2 slices_S4x2048x8192_S1x2048x8192_3_0_0) shapeCasts_S1x2048x8192_S2048x8192)) (broadcastInDim S8192x8192 ![] bcast_S_S8192x8192 (constant S_ .f32 0x00000000#32)))) (shapeCast _ (extractStridedSlice S1x8192x2048 ![3, 0, 0] a3 slices_S4x8192x2048_S1x8192x2048_3_0_0) shapeCasts_S1x8192x2048_S8192x2048))

/-- An RMS-normalised row element, scaled. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

/-- The MLP's contribution of hidden unit `f` at output column `j`. -/
def unit (x : Fin 2048 → EReal) (g : Fin 2048 → EReal) (up : Fin 2048 → EReal) (dn : EReal) : EReal :=
  max (∑ k : Fin 2048, nrm x g k * up k) 0 * max (∑ k : Fin 2048, nrm x g k * up k) 0 * dn

theorem ref_at (a0 : FVec Ideal S8192x2048 .f32) (a1 : FVec Ideal S4x2048 .f32) (a2 : FVec Ideal S4x2048x8192 .f32)
    (a3 : FVec Ideal S4x8192x2048 .f32) (i : Fin 8192) (j : Fin 2048) :
    REF a0 a1 a2 a3 (ix2 i j) = a0 (ix2 i j) + ∑ f : Fin 8192,
      unit (fun k => a0 (ix2 i k)) (fun k => a1 (ix2 3 k)) (fun k => a2 (ix3 3 k f)) (a3 (ix3 3 f j)) := by
  pointwise [REF]
  rfl
end Cert.Reference2Ideal.Mlp

namespace Cert.Kernel2Ideal.Mlp
open Cert.Kernel2Ideal Cert.Kernel2Ideal.Gen
open Cert.Reference2Ideal.Mlp (REF nrm unit ref_at)
open Idealize.ShloMosaic.Pipeline (Dat)
variable (m : (ℓ : Loc nD τ sig) → Buf (Elt Ideal) ℓ)

theorem idx : ∀ t : Fin cfg0.N, win0_0.index t = ![t.val / 16, 0] ∧ win0_1.index t = ![0, 0] ∧ win0_2.index t = ![3, 0, t.val % 16]
    ∧ win0_3.index t = ![3, t.val % 16, 0] ∧ win0_4.index t = ![t.val / 16, 0] ∧ t.val < 128 :=
  (by decide +kernel : ∀ t : Fin grid0.N, _)

theorem pay1_at (x : FVec Ideal S1024x2048 .f32) (g : FVec Ideal S1x2048 .f32) (i : Fin 1024) (k : Fin 2048) :
    k0_pay1 (F := Ideal) x g (ix2 i k) = nrm (fun l => x (ix2 i l)) (fun l => g (ix2 0 l)) k := by
  pointwise [k0_pay1]
  rfl

theorem pay2_at (xs : FVec Ideal S1024x2048 .bf16) (up : FVec Ideal S1x2048x512 .bf16) (acc : FVec Ideal S1024x2048 .f32)
    (dn : FVec Ideal S1x512x2048 .bf16) (i : Fin 1024) (j : Fin 2048) :
    k0_pay2 (F := Ideal) xs up acc dn (ix2 i j) = acc (ix2 i j) + ∑ f : Fin 512,
      max (∑ k : Fin 2048, xs (ix2 i k) * up (ix3 0 k f)) 0 * max (∑ k : Fin 2048, xs (ix2 i k) * up (ix3 0 k f)) 0 * dn (ix3 0 f j) := by
  pointwise [k0_pay2]

theorem outA (c : Dev nD) (t : Fin cfg0.N) (h0 : t.val % 16 = 0) :
    (outsAt0 m c t.val t.isLt).1 = k0_pay2 (F := Ideal) (k0_pay1 (F := Ideal) (iblk m c 0 t) (iblk m c 1 t)) (iblk m c 2 t) (iblk m c 0 t) (iblk m c 3 t) := by
  rw [outsAt0_A m c t h0]
  frame_out
theorem scA (c : Dev nD) (t : Fin cfg0.N) (h0 : t.val % 16 = 0) :
    (outsAt0 m c t.val t.isLt).2 = k0_pay1 (F := Ideal) (iblk m c 0 t) (iblk m c 1 t) := by
  rw [outsAt0_A m c t h0]
  frame_out
theorem outB (c : Dev nD) (t : Fin cfg0.N) (h0 : ¬ t.val % 16 = 0) :
    (outsAt0 m c t.val t.isLt).1 = k0_pay2 (F := Ideal) (outsAt0 m c (t.val - 1) (Nat.lt_of_le_of_lt (Nat.sub_le _ _) t.isLt)).2 (iblk m c 2 t) (outsAt0 m c (t.val - 1) (Nat.lt_of_le_of_lt (Nat.sub_le _ _) t.isLt)).1 (iblk m c 3 t) := by
  rw [outsAt0_B m c t h0]
  frame_out
  rw [(Memref.isWhole_whole cc0_scratch0).read_unread]
theorem scB (c : Dev nD) (t : Fin cfg0.N) (h0 : ¬ t.val % 16 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

theorem blk0_at (c : Dev nD) (t : Fin cfg0.N) (i : Fin 1024) (j : Fin 2048) (h : t.val / 16 * 1024 + i.val < 8192) :
    (iblk m c 0 t : FVec Ideal S1024x2048 .f32) (ix2 i j) = (m ((c : Thread nD τ).loc main_arg0) : FVec Ideal S8192x2048 .f32) (ix2 ⟨t.val / 16 * 1024 + i.val, h⟩ j) := by
  blk_point [iblk, V, idx t]
theorem blk1_at (c : Dev nD) (t : Fin cfg0.N) (j : Fin 2048) :
    (iblk m c 1 t : FVec Ideal S1x2048 .f32) (ix2 0 j) = (m ((c : Thread nD τ).loc main_arg1) : FVec Ideal S4x2048 .f32) (ix2 3 j) := by
  blk_point [iblk, V, idx t]
theorem blk2_at (c : Dev nD) (t : Fin cfg0.N) (k : Fin 2048) (f : Fin 512) (h : t.val % 16 * 512 + f.val < 8192) :
    (iblk m c 2 t : FVec Ideal S1x2048x512 .bf16) (ix3 0 k f) = (m ((c : Thread nD τ).loc main_arg2) : FVec Ideal S4x2048x8192 .f32) (ix3 3 k ⟨t.val % 16 * 512 + f.val, h⟩) := by
  blk_point [iblk, V, idx t]
theorem blk3_at (c : Dev nD) (t : Fin cfg0.N) (k : Fin 2048) (f : Fin 512) (h : t.val % 16 * 512 + f.val < 8192) :
    (iblk m c 3 t : FVec Ideal S1x512x2048 .bf16) (ix3 0 f k) = (m ((c : Thread nD τ).loc main_arg3) : FVec Ideal S4x8192x2048 .f32) (ix3 3 ⟨t.val % 16 * 512 + f.val, h⟩ k) := by
  blk_point [iblk, V, idx t]

/-- The launch contents of the four arguments on device `c`. -/
abbrev X (c : Dev nD) : FVec Ideal S8192x2048 .f32 := m ((c : Thread nD τ).loc main_arg0)
abbrev Gm (c : Dev nD) : FVec Ideal S4x2048 .f32 := m ((c : Thread nD τ).loc main_arg1)
abbrev Up (c : Dev nD) : FVec Ideal S4x2048x8192 .f32 := m ((c : Thread nD τ).loc main_arg2)
abbrev Dn (c : Dev nD) : FVec Ideal S4x8192x2048 .f32 := m ((c : Thread nD τ).loc main_arg3)

theorem rows_at (c : Dev nD) (t : Fin cfg0.N) (i : Fin 1024) (k : Fin 2048) (h : t.val / 16 * 1024 + i.val < 8192) :
    k0_pay1 (F := Ideal) (iblk m c 0 t) (iblk m c 1 t) (ix2 i k)
      = nrm (fun l => X m c (ix2 ⟨t.val / 16 * 1024 + i.val, h⟩ l)) (fun l => Gm m c (ix2 3 l)) k := by
  refine (pay1_at (iblk m c 0 t) (iblk m c 1 t) i k).trans ?_
  congr 1
  · funext l; exact blk0_at m c t i l h
  · funext l; exact blk1_at m c t l

/-- The scratch after any point holds the normalised rows of the point's block. -/
theorem scratch_at (c : Dev nD) : ∀ (n : ℕ) (hn : n < cfg0.N) (i : Fin 1024) (k : Fin 2048) (h : n / 16 * 1024 + i.val < 8192),
    (outsAt0 m c n hn).2 (ix2 i k) = nrm (fun l => X m c (ix2 ⟨n / 16 * 1024 + i.val, h⟩ l)) (fun l => Gm m c (ix2 3 l)) k := by
  intro n
  induction n with
  | zero =>
    intro hn i k h
    rw [scA m c ⟨0, hn⟩ rfl]
    exact rows_at m c ⟨0, hn⟩ i k h
  | succ n ih =>
    intro hn i k h
    by_cases h0 : (n + 1) % 16 = 0
    · rw [scA m c ⟨n + 1, hn⟩ h0]
      exact rows_at m c ⟨n + 1, hn⟩ i k h
    · rw [scB m c ⟨n + 1, hn⟩ h0]
      have e : (n + 1) / 16 = n / 16 := by omega
      have h' : n / 16 * 1024 + i.val < 8192 := by rw [← e]; exact h
      refine (ih (Nat.lt_of_succ_lt hn) i k h').trans ?_
      simp only [e]

/-- What point `t` adds at row `i`, column `j` of its block: the 512 hidden units of its slice. -/
def part (c : Dev nD) (t : Fin cfg0.N) (i : Fin 1024) (j : Fin 2048) : EReal :=
  have h1 := (idx t).2.2.2.2.2
  ∑ f : Fin 512, unit (fun l => X m c (ix2 ⟨t.val / 16 * 1024 + i.val, by omega⟩ l)) (fun l => Gm m c (ix2 3 l))
    (fun l => Up m c (ix3 3 l ⟨t.val % 16 * 512 + f.val, by omega⟩)) (Dn m c (ix3 3 ⟨t.val % 16 * 512 + f.val, by omega⟩ j))

theorem pay2_part (c : Dev nD) (t : Fin cfg0.N) (xs : FVec Ideal S1024x2048 .bf16) (acc : FVec Ideal S1024x2048 .f32) (i : Fin 1024) (j : Fin 2048)
    (h : t.val / 16 * 1024 + i.val < 8192)
    (hxs : ∀ k, xs (ix2 i k) = nrm (fun l => X m c (ix2 ⟨t.val / 16 * 1024 + i.val, h⟩ l)) (fun l => Gm m c (ix2 3 l)) k) :
    k0_pay2 (F := Ideal) xs (iblk m c 2 t) acc (iblk m c 3 t) (ix2 i j) = acc (ix2 i j) + part m c t i j := by
  have h1 := (idx t).2.2.2.2.2
  refine (pay2_at xs (iblk m c 2 t) acc (iblk m c 3 t) i j).trans ?_
  congr 1
  unfold part unit
  refine Finset.sum_congr rfl fun f _ => ?_
  simp only [hxs]
  have hf : t.val % 16 * 512 + f.val < 8192 := by omega
  rw [show (iblk m c 3 t : FVec Ideal S1x512x2048 .bf16) (ix3 0 f j) = _ from blk3_at m c t j f hf]
  have hu : ∀ k, (iblk m c 2 t : FVec Ideal S1x2048x512 .bf16) (ix3 0 k f) = _ := fun k => blk2_at m c t k f hf
  simp only [hu]

/-- The accumulated block: the input block once, and each point's part. -/
def term (c : Dev nD) (t : Fin cfg0.N) (y : S1024x2048.Idx) : EReal :=
  (if t.val % 16 = 0 then (show EReal from iblk m c 0 t y) else 0) + part m c t (y 0) (y 1)

theorem out_sum (c : Dev nD) (t : Fin cfg0.N) (hr : t.val % 16 = 16 - 1) (y : S1024x2048.Idx) :
    (outsAt0 m c t.val t.isLt).1 y
      = 0 + ∑ s : Fin 16, term m c ⟨16 * (t.val / 16) + s.val, Pipeline.run_point_lt_of_flush t hr s⟩ y := by
  refine Pipeline.eq_sum_fin_of_reset_step_apply_of_flush (M := EReal) (fun n h => (outsAt0 m c n h).1) 16 (fun _ => 0) (term m c) ?_ ?_ t hr y
  · intro t h0 y
    have h1 := (idx t).2.2.2.2.2
    obtain ⟨i, j, rfl⟩ : ∃ (i : Fin 1024) (j : Fin 2048), y = ix2 i j := ⟨y 0, y 1, eq_ix2 y⟩
    show (outsAt0 m c t.val t.isLt).1 _ = _
    rw [outA m c t h0]
    refine (pay2_part m c t _ _ i j (by omega) (fun k => rows_at m c t i k _)).trans ?_
    unfold term
    rw [if_pos h0, zero_add]
    rfl
  · intro t h0 y
    have h1 := (idx t).2.2.2.2.2
    obtain ⟨i, j, rfl⟩ : ∃ (i : Fin 1024) (j : Fin 2048), y = ix2 i j := ⟨y 0, y 1, eq_ix2 y⟩
    show (outsAt0 m c t.val t.isLt).1 _ = _
    rw [outB m c t h0]
    refine (pay2_part m c t _ _ i j (by omega) (fun k => ?_)).trans ?_
    · have e : (t.val - 1) / 16 = t.val / 16 := by omega
      refine (scratch_at m c (t.val - 1) _ i k (by rw [e]; omega)).trans ?_
      simp only [e]
    · unfold term
      rw [if_neg h0, zero_add]
      rfl

/-- What a written-back block holds, at row `i`, column `j`. -/
theorem out_eq (c : Dev nD) (t : Fin cfg0.N) (hr : t.val % 16 = 16 - 1) (i : Fin 1024) (j : Fin 2048) (h : t.val / 16 * 1024 + i.val < 8192) :
    (outsAt0 m c t.val t.isLt).1 (ix2 i j) = REF (X m c) (Gm m c) (Up m c) (Dn m c) (ix2 ⟨t.val / 16 * 1024 + i.val, h⟩ j) := by
  refine (out_sum m c t hr (ix2 i j)).trans ?_
  refine Eq.trans ?_ (ref_at (X m c) (Gm m c) (Up m c) (Dn m c) _ j).symm
  rw [zero_add]
  unfold term
  rw [Finset.sum_add_distrib]
  refine congrArg₂ (· + ·) ?_ ?_
  · rw [Finset.sum_eq_single (0 : Fin 16)]
    · rw [if_pos (by show (16 * (t.val / 16) + 0) % 16 = 0; omega)]
      have hq : (16 * (t.val / 16) + 0) / 16 = t.val / 16 := by omega
      refine (blk0_at m c ⟨16 * (t.val / 16) + 0, _⟩ i j (by dsimp only; rw [hq]; omega)).trans ?_
      simp only [hq]
    · intro s _ hs
      rw [if_neg]
      intro h; apply hs; apply Fin.ext; show s.val = 0; dsimp only at h; omega
    · intro h; exact absurd (Finset.mem_univ _) h
  · unfold part
    refine Fin.sum_mul_add_congr fun s k hl => ?_
    have hq : (16 * (t.val / 16) + s.val) / 16 = t.val / 16 := by omega
    have hm : (16 * (t.val / 16) + s.val) % 16 = s.val := by omega
    simp only [hq, hm]
    rfl

/-- The result array after the run is the reference's term. -/
theorem final (c : Dev nD) : (dats m 0 c).arrAt 4 (cfgs 0).N = REF (X m c) (Gm m c) (Up m c) (Dn m c) := by
  refine (dats m 0 c).arrAt_eq_of_covers 4 _ (by decide +kernel) fun t hf y => ?_
  have hr : t.val % 16 = 16 - 1 := (flush0_4 t).mp hf
  have h1 := (idx t).2.2.2.2.2
  have hy : (y 0).val < 1024 := (y 0).isLt
  blk_simp
  rw [after0_4]
  refine (congrArg _ (eq_ix2 (n0 := 1024) (n1 := 2048) y)).trans ((out_eq m c t hr (y 0) (y 1) (by omega)).trans ?_)
  refine congrArg _ ?_
  symm
  blk_ext [idx t]
end Cert.Kernel2Ideal.Mlp
end
-- ==== Proof.Ple.lean ====
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference3Ideal.Ple
open Cert.Reference3Ideal Cert.Reference3Ideal.Gen
/-- The gated embedding's composed term over its six arguments. -/
def REF (a0 : FVec Ideal S8192x2048 .f32) (a1 : FVec Ideal S4x1x8192x256 .f32) (a2 : FVec Ideal S4x2048 .f32)
    (a3 : FVec Ideal S4x2048x2048 .f32) (a4 : FVec Ideal S4x256x2048 .f32) (a5 : FVec Ideal S2048 .f32) : FVec Ideal S8192x2048 .f32 :=
  mulf (mulf (addf a0 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![3, 0] a2 slices_S4x2048_S1x2048_3_0) shapeCasts_S1x2048_S2048)))) (shapeCast _ (extractStridedSlice S1x2048x2048 ![3, 0, 0] a3 slices_S4x2048x2048_S1x2048x2048_3_0_0) shapeCasts_S1x2048x2048_S2048x2048)))))) (Host.dotGeneral dot_S8192x256_S256x2048_S8192x2048_1_0_0_1_n_n none (shapeCast _ (extractStridedSlice S1x1x8192x256 ![3, 0, 0, 0] a1 slices_S4x1x8192x256_S1x1x8192x256_3_0_0_0) shapeCasts_S1x1x8192x256_S8192x256) (shapeCast _ (extractStridedSlice S1x256x2048 ![3, 0, 0] a4 slices_S4x256x2048_S1x256x2048_3_0_0) shapeCasts_S1x256x2048_S256x2048)))) (broadcastInDim S8192x2048 ![0, 1] bcast_S8192x1_S8192x2048_0_1 (Host.rsqrt (addf (Host.divf (broadcastInDim S8192x1 ![0] bcast_S8192_S8192x1_0 (Host.reduceAdd (mulf (addf a0 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![3, 0] a2 slices_S4x2048_S1x2048_3_0) shapeCasts_S1x2048_S2048)))) (shapeCast _ (extractStridedSlice S1x2048x2048 ![3, 0, 0] a3 slices_S4x2048x2048_S1x2048x2048_3_0_0) shapeCasts_S1x2048x2048_S2048x2048)))))) (Host.dotGeneral dot_S8192x256_S256x2048_S8192x2048_1_0_0_1_n_n none (shapeCast _ (extractStridedSlice S1x1x8192x256 ![3, 0, 0, 0] a1 slices_S4x1x8192x256_S1x1x8192x256_3_0_0_0) shapeCasts_S1x1x8192x256_S8192x256) (shapeCast _ (extractStridedSlice S1x256x2048 ![3, 0, 0] a4 slices_S4x256x2048_S1x256x2048_3_0_0) shapeCasts_S1x256x2048_S256x2048)))) (addf a0 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![3, 0] a2 slices_S4x2048_S1x2048_3_0) shapeCasts_S1x2048_S2048)))) (shapeCast _ (extractStridedSlice S1x2048x2048 ![3, 0, 0] a3 slices_S4x2048x2048_S1x2048x2048_3_0_0) shapeCasts_S1x2048x2048_S2048x2048)))))) (Host.dotGeneral dot_S8192x256_S256x2048_S8192x2048_1_0_0_1_n_n none (shapeCast _ (extractStridedSlice S1x1x8192x256 ![3, 0, 0, 0] a1 slices_S4x1x8192x256_S1x1x8192x256_3_0_0_0) shapeCasts_S1x1x8192x256_S8192x256) (shapeCast _ (extractStridedSlice S1x256x2048 ![3, 0, 0] a4 slices_S4x256x2048_S1x256x2048_3_0_0) shapeCasts_S1x256x2048_S256x2048))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a5))

/-- An RMS-normalised row element, scaled. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

/-- A row of the gated residual: row element plus the gate times the projected embedding. -/
def gated (x : Fin 2048 → EReal) (p : Fin 256 → EReal) (g : Fin 2048 → EReal) (wg : Fin 2048 → Fin 2048 → EReal)
    (wp : Fin 256 → Fin 2048 → EReal) (j : Fin 2048) : EReal :=
  x j + Ideal.div 1 (1 + Ideal.exp (-(∑ k : Fin 2048, nrm x g k * wg k j))) * ∑ k : Fin 256, p k * wp k j

theorem ref_at (a0 : FVec Ideal S8192x2048 .f32) (a1 : FVec Ideal S4x1x8192x256 .f32) (a2 : FVec Ideal S4x2048 .f32)
    (a3 : FVec Ideal S4x2048x2048 .f32) (a4 : FVec Ideal S4x256x2048 .f32) (a5 : FVec Ideal S2048 .f32) (i : Fin 8192) (j : Fin 2048) :
    REF a0 a1 a2 a3 a4 a5 (ix2 i j) = nrm (gated (fun k => a0 (ix2 i k)) (fun k => a1 (ix4 3 0 i k)) (fun k => a2 (ix2 3 k))
      (fun k l => a3 (ix3 3 k l)) (fun k l => a4 (ix3 3 k l))) (fun l => a5 (ix1 l)) j := by
  pointwise [REF]
  unfold nrm gated nrm
  rfl
end Cert.Reference3Ideal.Ple

namespace Cert.Kernel3Ideal.Ple
open Cert.Kernel3Ideal Cert.Kernel3Ideal.Gen
open Cert.Reference3Ideal.Ple (REF nrm gated ref_at)
open Idealize.ShloMosaic.Pipeline (Dat)
variable (m : (ℓ : Loc nD τ sig) → Buf (Elt Ideal) ℓ)

theorem idx : ∀ t : Fin cfg0.N, win0_0.index t = ![t.val, 0] ∧ win0_1.index t = ![0, 0] ∧ win0_2.index t = ![3, 0, t.val, 0]
    ∧ win0_3.index t = ![3, 0, 0] ∧ win0_4.index t = ![3, 0, 0] ∧ win0_5.index t = ![0, 0] ∧ win0_6.index t = ![t.val, 0] ∧ t.val < 16 :=
  (by decide +kernel : ∀ t : Fin grid0.N, _)

theorem payA_at (x : FVec Ideal S256x2048 .f32) (g : FVec Ideal S1x2048 .f32) (wg : FVec Ideal S1x2048x2048 .bf16) (p : FVec Ideal S1x1x256x256 .f32)
    (wp : FVec Ideal S1x256x2048 .bf16) (n : FVec Ideal S1x2048 .f32) (i : Fin 256) (j : Fin 2048) :
    k0_pay3 (F := Ideal) (k0_pay2 (F := Ideal) x g wg p wp) n (ix2 i j) = nrm (gated (fun k => x (ix2 i k)) (fun k => p (ix4 0 0 i k)) (fun k => g (ix2 0 k))
      (fun k l => wg (ix3 0 k l)) (fun k l => wp (ix3 0 k l))) (fun l => n (ix2 0 l)) j := by
  pointwise [k0_pay3, k0_pay2]
  unfold nrm gated nrm
  simp only [zero_sub]

theorem payB_at (x : FVec Ideal S256x2048 .f32) (g : FVec Ideal S1x2048 .f32) (wg : FVec Ideal S1x2048x2048 .bf16) (p : FVec Ideal S1x1x256x256 .f32)
    (wp : FVec Ideal S1x256x2048 .bf16) (n : FVec Ideal S1x2048 .f32) (i : Fin 256) (j : Fin 2048) :
    k0_pay1 (F := Ideal) x (k0_pay4 (F := Ideal) x g wg) p wp n (ix2 i j) = nrm (gated (fun k => x (ix2 i k)) (fun k => p (ix4 0 0 i k)) (fun k => g (ix2 0 k))
      (fun k l => wg (ix3 0 k l)) (fun k l => wp (ix3 0 k l))) (fun l => n (ix2 0 l)) j := by
  pointwise [k0_pay1, k0_pay4]
  unfold nrm gated nrm
  simp only [zero_sub]

theorem point (c : Dev nD) (t : Fin cfg0.N) (y : S512x2048.Idx) (h : t.val * 512 + (y 0).val < 8192) :
    out0_6 (F := Ideal) (iblk m c 0 t) (iblk m c 1 t) (iblk m c 2 t) (iblk m c 3 t) (iblk m c 4 t) (iblk m c 5 t) y
      = REF (m ((c : Thread nD τ).loc main_arg0)) (m ((c : Thread nD τ).loc main_arg1)) (m ((c : Thread nD τ).loc main_arg2))
         (m ((c : Thread nD τ).loc main_arg3)) (m ((c : Thread nD τ).loc main_arg4)) (m ((c : Thread nD τ).loc main_arg5))
         (ix2 ⟨t.val * 512 + (y 0).val, h⟩ (y 1)) := by
  refine Eq.trans ?_ (ref_at _ _ _ _ _ _ _ (y 1)).symm
  unfold out0_6
  canon_tiles x h
  · obtain ⟨i, j, rfl⟩ : ∃ (i : Fin 256) (j : Fin 2048), x = ix2 i j := ⟨x 0, x 1, eq_ix2 x⟩
    refine (payB_at _ _ _ _ _ _ i j).trans ?_
    have h0' := h0
    have h1' : (y 1).val = j.val := h1
    simp only [ix2_0] at h0'
    unfold nrm gated nrm
    pointwise
    blk_point [iblk, V, idx t]
    all_goals omega
  · obtain ⟨i, j, rfl⟩ : ∃ (i : Fin 256) (j : Fin 2048), x = ix2 i j := ⟨x 0, x 1, eq_ix2 x⟩
    refine (payA_at _ _ _ _ _ _ i j).trans ?_
    have h0' := h0
    have h1' : (y 1).val = j.val := h1
    simp only [ix2_0] at h0'
    unfold nrm gated nrm
    pointwise
    blk_point [iblk, V, idx t]
    all_goals omega

theorem final (c : Dev nD) : (dats m 0 c).arrAt 6 (cfgs 0).N = REF (m ((c : Thread nD τ).loc main_arg0)) (m ((c : Thread nD τ).loc main_arg1)) (m ((c : Thread nD τ).loc main_arg2))
         (m ((c : Thread nD τ).loc main_arg3)) (m ((c : Thread nD τ).loc main_arg4)) (m ((c : Thread nD τ).loc main_arg5)) := by
  refine (dats m 0 c).arrAt_eq_of_covers 6 _ (by decide +kernel) fun t _ y => ?_
  have h1 := (idx t).2.2.2.2.2.2.2
  have hy : (y 0).val < 512 := (y 0).isLt
  blk_simp
  rw [after0_6]
  refine (point m c t y (by omega)).trans ?_
  refine congrArg _ ?_
  symm
  blk_ext [idx t]
end Cert.Kernel3Ideal.Ple
end
-- ==== Proof.Mlp0.lean ====
module

public import proofs.«01_k».proof.Proof.Gen.Kernel4Ideal.Frame
public import proofs.«01_k».proof.Proof.Gen.Reference4Ideal.Run
public import proofs.«01_k».proof.Proof.Mlp
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference4Ideal.Mlp
open Cert.Reference4Ideal Cert.Reference4Ideal.Gen
open Cert.Reference2Ideal.Mlp (nrm unit)
/-- The MLP reference's composed term over its four arguments. -/
def REF (a0 : FVec Ideal S8192x2048 .f32) (a1 : FVec Ideal S4x2048 .f32) (a2 : FVec Ideal S4x2048x8192 .f32)
    (a3 : FVec Ideal S4x8192x2048 .f32) : FVec Ideal S8192x2048 .f32 :=
  addf a0 (Host.dotGeneral dot_S8192x8192_S8192x2048_S8192x2048_1_0_0_1_n_n none (mulf (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] a1 slices_S4x2048_S1x2048_0_0) shapeCasts_S1x2048_S2048)))) (shapeCast _ (extractStridedSlice S1x2048x8192 ![0, 0, 0] a2 slices_S4x2048x8192_S1x2048x8192_0_0_0) shapeCasts_S1x2048x8192_S2048x8192)) (broadcastInDim S8192x8192 ![] bcast_S_S8192x8192 (constant S_ .f32 0x00000000#32))) (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] a1 slices_S4x2048_S1x2048_0_0) shapeCasts_S1x2048_S2048)))) (shapeCast _ (extractStridedSlice S1x2048x8192 ![0, 0, 0] a2 slices_S4x2048x8192_S1x2048x8192_0_0_0) shapeCasts_S1x2048x8192_S2048x8192)) (broadcastInDim S8192x8192 ![] bcast_S_S8192x8192 (constant S_ .f32 0x00000000#32)))) (shapeCast _ (extractStridedSlice S1x8192x2048 ![0, 0, 0] a3 slices_S4x8192x2048_S1x8192x2048_0_0_0) shapeCasts_S1x8192x2048_S8192x2048))

theorem ref_at (a0 : FVec Ideal S8192x2048 .f32) (a1 : FVec Ideal S4x2048 .f32) (a2 : FVec Ideal S4x2048x8192 .f32)
    (a3 : FVec Ideal S4x8192x2048 .f32) (i : Fin 8192) (j : Fin 2048) :
    REF a0 a1 a2 a3 (ix2 i j) = a0 (ix2 i j) + ∑ f : Fin 8192,
      unit (fun k => a0 (ix2 i k)) (fun k => a1 (ix2 0 k)) (fun k => a2 (ix3 0 k f)) (a3 (ix3 0 f j)) := by
  pointwise [REF]
  rfl
end Cert.Reference4Ideal.Mlp

namespace Cert.Kernel4Ideal.Mlp
open Cert.Kernel4Ideal Cert.Kernel4Ideal.Gen
open Cert.Reference4Ideal.Mlp (REF ref_at)
open Cert.Reference2Ideal.Mlp (nrm unit)
open Idealize.ShloMosaic.Pipeline (Dat)
variable (m : (ℓ : Loc nD τ sig) → Buf (Elt Ideal) ℓ)

theorem idx : ∀ t : Fin cfg0.N, win0_0.index t = ![t.val / 16, 0] ∧ win0_1.index t = ![0, 0] ∧ win0_2.index t = ![0, 0, t.val % 16]
    ∧ win0_3.index t = ![0, t.val % 16, 0] ∧ win0_4.index t = ![t.val / 16, 0] ∧ t.val < 128 :=
  (by decide +kernel : ∀ t : Fin grid0.N, _)

theorem pay1_at (x : FVec Ideal S1024x2048 .f32) (g : FVec Ideal S1x2048 .f32) (i : Fin 1024) (k : Fin 2048) :
    k0_pay1 (F := Ideal) x g (ix2 i k) = nrm (fun l => x (ix2 i l)) (fun l => g (ix2 0 l)) k := by
  pointwise [k0_pay1]
  rfl

theorem pay2_at (xs : FVec Ideal S1024x2048 .bf16) (up : FVec Ideal S1x2048x512 .bf16) (acc : FVec Ideal S1024x2048 .f32)
    (dn : FVec Ideal S1x512x2048 .bf16) (i : Fin 1024) (j : Fin 2048) :
    k0_pay2 (F := Ideal) xs up acc dn (ix2 i j) = acc (ix2 i j) + ∑ f : Fin 512,
      max (∑ k : Fin 2048, xs (ix2 i k) * up (ix3 0 k f)) 0 * max (∑ k : Fin 2048, xs (ix2 i k) * up (ix3 0 k f)) 0 * dn (ix3 0 f j) := by
  pointwise [k0_pay2]

theorem outA (c : Dev nD) (t : Fin cfg0.N) (h0 : t.val % 16 = 0) :
    (outsAt0 m c t.val t.isLt).1 = k0_pay2 (F := Ideal) (k0_pay1 (F := Ideal) (iblk m c 0 t) (iblk m c 1 t)) (iblk m c 2 t) (iblk m c 0 t) (iblk m c 3 t) := by
  rw [outsAt0_A m c t h0]
  frame_out
theorem scA (c : Dev nD) (t : Fin cfg0.N) (h0 : t.val % 16 = 0) :
    (outsAt0 m c t.val t.isLt).2 = k0_pay1 (F := Ideal) (iblk m c 0 t) (iblk m c 1 t) := by
  rw [outsAt0_A m c t h0]
  frame_out
theorem outB (c : Dev nD) (t : Fin cfg0.N) (h0 : ¬ t.val % 16 = 0) :
    (outsAt0 m c t.val t.isLt).1 = k0_pay2 (F := Ideal) (outsAt0 m c (t.val - 1) (Nat.lt_of_le_of_lt (Nat.sub_le _ _) t.isLt)).2 (iblk m c 2 t) (outsAt0 m c (t.val - 1) (Nat.lt_of_le_of_lt (Nat.sub_le _ _) t.isLt)).1 (iblk m c 3 t) := by
  rw [outsAt0_B m c t h0]
  frame_out
  rw [(Memref.isWhole_whole cc0_scratch0).read_unread]
theorem scB (c : Dev nD) (t : Fin cfg0.N) (h0 : ¬ t.val % 16 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

theorem blk0_at (c : Dev nD) (t : Fin cfg0.N) (i : Fin 1024) (j : Fin 2048) (h : t.val / 16 * 1024 + i.val < 8192) :
    (iblk m c 0 t : FVec Ideal S1024x2048 .f32) (ix2 i j) = (m ((c : Thread nD τ).loc main_arg0) : FVec Ideal S8192x2048 .f32) (ix2 ⟨t.val / 16 * 1024 + i.val, h⟩ j) := by
  blk_point [iblk, V, idx t]
theorem blk1_at (c : Dev nD) (t : Fin cfg0.N) (j : Fin 2048) :
    (iblk m c 1 t : FVec Ideal S1x2048 .f32) (ix2 0 j) = (m ((c : Thread nD τ).loc main_arg1) : FVec Ideal S4x2048 .f32) (ix2 0 j) := by
  blk_point [iblk, V, idx t]
theorem blk2_at (c : Dev nD) (t : Fin cfg0.N) (k : Fin 2048) (f : Fin 512) (h : t.val % 16 * 512 + f.val < 8192) :
    (iblk m c 2 t : FVec Ideal S1x2048x512 .bf16) (ix3 0 k f) = (m ((c : Thread nD τ).loc main_arg2) : FVec Ideal S4x2048x8192 .f32) (ix3 0 k ⟨t.val % 16 * 512 + f.val, h⟩) := by
  blk_point [iblk, V, idx t]
theorem blk3_at (c : Dev nD) (t : Fin cfg0.N) (k : Fin 2048) (f : Fin 512) (h : t.val % 16 * 512 + f.val < 8192) :
    (iblk m c 3 t : FVec Ideal S1x512x2048 .bf16) (ix3 0 f k) = (m ((c : Thread nD τ).loc main_arg3) : FVec Ideal S4x8192x2048 .f32) (ix3 0 ⟨t.val % 16 * 512 + f.val, h⟩ k) := by
  blk_point [iblk, V, idx t]

/-- The launch contents of the four arguments on device `c`. -/
abbrev X (c : Dev nD) : FVec Ideal S8192x2048 .f32 := m ((c : Thread nD τ).loc main_arg0)
abbrev Gm (c : Dev nD) : FVec Ideal S4x2048 .f32 := m ((c : Thread nD τ).loc main_arg1)
abbrev Up (c : Dev nD) : FVec Ideal S4x2048x8192 .f32 := m ((c : Thread nD τ).loc main_arg2)
abbrev Dn (c : Dev nD) : FVec Ideal S4x8192x2048 .f32 := m ((c : Thread nD τ).loc main_arg3)

theorem rows_at (c : Dev nD) (t : Fin cfg0.N) (i : Fin 1024) (k : Fin 2048) (h : t.val / 16 * 1024 + i.val < 8192) :
    k0_pay1 (F := Ideal) (iblk m c 0 t) (iblk m c 1 t) (ix2 i k)
      = nrm (fun l => X m c (ix2 ⟨t.val / 16 * 1024 + i.val, h⟩ l)) (fun l => Gm m c (ix2 0 l)) k := by
  refine (pay1_at (iblk m c 0 t) (iblk m c 1 t) i k).trans ?_
  congr 1
  · funext l; exact blk0_at m c t i l h
  · funext l; exact blk1_at m c t l

/-- The scratch after any point holds the normalised rows of the point's block. -/
theorem scratch_at (c : Dev nD) : ∀ (n : ℕ) (hn : n < cfg0.N) (i : Fin 1024) (k : Fin 2048) (h : n / 16 * 1024 + i.val < 8192),
    (outsAt0 m c n hn).2 (ix2 i k) = nrm (fun l => X m c (ix2 ⟨n / 16 * 1024 + i.val, h⟩ l)) (fun l => Gm m c (ix2 0 l)) k := by
  intro n
  induction n with
  | zero =>
    intro hn i k h
    rw [scA m c ⟨0, hn⟩ rfl]
    exact rows_at m c ⟨0, hn⟩ i k h
  | succ n ih =>
    intro hn i k h
    by_cases h0 : (n + 1) % 16 = 0
    · rw [scA m c ⟨n + 1, hn⟩ h0]
      exact rows_at m c ⟨n + 1, hn⟩ i k h
    · rw [scB m c ⟨n + 1, hn⟩ h0]
      have e : (n + 1) / 16 = n / 16 := by omega
      have h' : n / 16 * 1024 + i.val < 8192 := by rw [← e]; exact h
      refine (ih (Nat.lt_of_succ_lt hn) i k h').trans ?_
      simp only [e]

/-- What point `t` adds at row `i`, column `j` of its block: the 512 hidden units of its slice. -/
def part (c : Dev nD) (t : Fin cfg0.N) (i : Fin 1024) (j : Fin 2048) : EReal :=
  have h1 := (idx t).2.2.2.2.2
  ∑ f : Fin 512, unit (fun l => X m c (ix2 ⟨t.val / 16 * 1024 + i.val, by omega⟩ l)) (fun l => Gm m c (ix2 0 l))
    (fun l => Up m c (ix3 0 l ⟨t.val % 16 * 512 + f.val, by omega⟩)) (Dn m c (ix3 0 ⟨t.val % 16 * 512 + f.val, by omega⟩ j))

theorem pay2_part (c : Dev nD) (t : Fin cfg0.N) (xs : FVec Ideal S1024x2048 .bf16) (acc : FVec Ideal S1024x2048 .f32) (i : Fin 1024) (j : Fin 2048)
    (h : t.val / 16 * 1024 + i.val < 8192)
    (hxs : ∀ k, xs (ix2 i k) = nrm (fun l => X m c (ix2 ⟨t.val / 16 * 1024 + i.val, h⟩ l)) (fun l => Gm m c (ix2 0 l)) k) :
    k0_pay2 (F := Ideal) xs (iblk m c 2 t) acc (iblk m c 3 t) (ix2 i j) = acc (ix2 i j) + part m c t i j := by
  have h1 := (idx t).2.2.2.2.2
  refine (pay2_at xs (iblk m c 2 t) acc (iblk m c 3 t) i j).trans ?_
  congr 1
  unfold part unit
  refine Finset.sum_congr rfl fun f _ => ?_
  simp only [hxs]
  have hf : t.val % 16 * 512 + f.val < 8192 := by omega
  rw [show (iblk m c 3 t : FVec Ideal S1x512x2048 .bf16) (ix3 0 f j) = _ from blk3_at m c t j f hf]
  have hu : ∀ k, (iblk m c 2 t : FVec Ideal S1x2048x512 .bf16) (ix3 0 k f) = _ := fun k => blk2_at m c t k f hf
  simp only [hu]

/-- The accumulated block: the input block once, and each point's part. -/
def term (c : Dev nD) (t : Fin cfg0.N) (y : S1024x2048.Idx) : EReal :=
  (if t.val % 16 = 0 then (show EReal from iblk m c 0 t y) else 0) + part m c t (y 0) (y 1)

theorem out_sum (c : Dev nD) (t : Fin cfg0.N) (hr : t.val % 16 = 16 - 1) (y : S1024x2048.Idx) :
    (outsAt0 m c t.val t.isLt).1 y
      = 0 + ∑ s : Fin 16, term m c ⟨16 * (t.val / 16) + s.val, Pipeline.run_point_lt_of_flush t hr s⟩ y := by
  refine Pipeline.eq_sum_fin_of_reset_step_apply_of_flush (M := EReal) (fun n h => (outsAt0 m c n h).1) 16 (fun _ => 0) (term m c) ?_ ?_ t hr y
  · intro t h0 y
    have h1 := (idx t).2.2.2.2.2
    obtain ⟨i, j, rfl⟩ : ∃ (i : Fin 1024) (j : Fin 2048), y = ix2 i j := ⟨y 0, y 1, eq_ix2 y⟩
    show (outsAt0 m c t.val t.isLt).1 _ = _
    rw [outA m c t h0]
    refine (pay2_part m c t _ _ i j (by omega) (fun k => rows_at m c t i k _)).trans ?_
    unfold term
    rw [if_pos h0, zero_add]
    rfl
  · intro t h0 y
    have h1 := (idx t).2.2.2.2.2
    obtain ⟨i, j, rfl⟩ : ∃ (i : Fin 1024) (j : Fin 2048), y = ix2 i j := ⟨y 0, y 1, eq_ix2 y⟩
    show (outsAt0 m c t.val t.isLt).1 _ = _
    rw [outB m c t h0]
    refine (pay2_part m c t _ _ i j (by omega) (fun k => ?_)).trans ?_
    · have e : (t.val - 1) / 16 = t.val / 16 := by omega
      refine (scratch_at m c (t.val - 1) _ i k (by rw [e]; omega)).trans ?_
      simp only [e]
    · unfold term
      rw [if_neg h0, zero_add]
      rfl

/-- What a written-back block holds, at row `i`, column `j`. -/
theorem out_eq (c : Dev nD) (t : Fin cfg0.N) (hr : t.val % 16 = 16 - 1) (i : Fin 1024) (j : Fin 2048) (h : t.val / 16 * 1024 + i.val < 8192) :
    (outsAt0 m c t.val t.isLt).1 (ix2 i j) = REF (X m c) (Gm m c) (Up m c) (Dn m c) (ix2 ⟨t.val / 16 * 1024 + i.val, h⟩ j) := by
  refine (out_sum m c t hr (ix2 i j)).trans ?_
  refine Eq.trans ?_ (ref_at (X m c) (Gm m c) (Up m c) (Dn m c) _ j).symm
  rw [zero_add]
  unfold term
  rw [Finset.sum_add_distrib]
  refine congrArg₂ (· + ·) ?_ ?_
  · rw [Finset.sum_eq_single (0 : Fin 16)]
    · rw [if_pos (by show (16 * (t.val / 16) + 0) % 16 = 0; omega)]
      have hq : (16 * (t.val / 16) + 0) / 16 = t.val / 16 := by omega
      refine (blk0_at m c ⟨16 * (t.val / 16) + 0, _⟩ i j (by dsimp only; rw [hq]; omega)).trans ?_
      simp only [hq]
    · intro s _ hs
      rw [if_neg]
      intro h; apply hs; apply Fin.ext; show s.val = 0; dsimp only at h; omega
    · intro h; exact absurd (Finset.mem_univ _) h
  · unfold part
    refine Fin.sum_mul_add_congr fun s k hl => ?_
    have hq : (16 * (t.val / 16) + s.val) / 16 = t.val / 16 := by omega
    have hm : (16 * (t.val / 16) + s.val) % 16 = s.val := by omega
    simp only [hq, hm]
    rfl

/-- The result array after the run is the reference's term. -/
theorem final (c : Dev nD) : (dats m 0 c).arrAt 4 (cfgs 0).N = REF (X m c) (Gm m c) (Up m c) (Dn m c) := by
  refine (dats m 0 c).arrAt_eq_of_covers 4 _ (by decide +kernel) fun t hf y => ?_
  have hr : t.val % 16 = 16 - 1 := (flush0_4 t).mp hf
  have h1 := (idx t).2.2.2.2.2
  have hy : (y 0).val < 1024 := (y 0).isLt
  blk_simp
  rw [after0_4]
  refine (congrArg _ (eq_ix2 (n0 := 1024) (n1 := 2048) y)).trans ((out_eq m c t hr (y 0) (y 1) (by omega)).trans ?_)
  refine congrArg _ ?_
  symm
  blk_ext [idx t]
end Cert.Kernel4Ideal.Mlp
end
-- ==== Proof.Mlp1.lean ====
module

public import proofs.«01_k».proof.Proof.Gen.Kernel5Ideal.Frame
public import proofs.«01_k».proof.Proof.Gen.Reference5Ideal.Run
public import proofs.«01_k».proof.Proof.Mlp
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference5Ideal.Mlp
open Cert.Reference5Ideal Cert.Reference5Ideal.Gen
open Cert.Reference2Ideal.Mlp (nrm unit)
/-- The MLP reference's composed term over its four arguments. -/
def REF (a0 : FVec Ideal S8192x2048 .f32) (a1 : FVec Ideal S4x2048 .f32) (a2 : FVec Ideal S4x2048x8192 .f32)
    (a3 : FVec Ideal S4x8192x2048 .f32) : FVec Ideal S8192x2048 .f32 :=
  addf a0 (Host.dotGeneral dot_S8192x8192_S8192x2048_S8192x2048_1_0_0_1_n_n none (mulf (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] a1 slices_S4x2048_S1x2048_1_0) shapeCasts_S1x2048_S2048)))) (shapeCast _ (extractStridedSlice S1x2048x8192 ![1, 0, 0] a2 slices_S4x2048x8192_S1x2048x8192_1_0_0) shapeCasts_S1x2048x8192_S2048x8192)) (broadcastInDim S8192x8192 ![] bcast_S_S8192x8192 (constant S_ .f32 0x00000000#32))) (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] a1 slices_S4x2048_S1x2048_1_0) shapeCasts_S1x2048_S2048)))) (shapeCast _ (extractStridedSlice S1x2048x8192 ![1, 0, 0] a2 slices_S4x2048x8192_S1x2048x8192_1_0_0) shapeCasts_S1x2048x8192_S2048x8192)) (broadcastInDim S8192x8192 ![] bcast_S_S8192x8192 (constant S_ .f32 0x00000000#32)))) (shapeCast _ (extractStridedSlice S1x8192x2048 ![1, 0, 0] a3 slices_S4x8192x2048_S1x8192x2048_1_0_0) shapeCasts_S1x8192x2048_S8192x2048))

theorem ref_at (a0 : FVec Ideal S8192x2048 .f32) (a1 : FVec Ideal S4x2048 .f32) (a2 : FVec Ideal S4x2048x8192 .f32)
    (a3 : FVec Ideal S4x8192x2048 .f32) (i : Fin 8192) (j : Fin 2048) :
    REF a0 a1 a2 a3 (ix2 i j) = a0 (ix2 i j) + ∑ f : Fin 8192,
      unit (fun k => a0 (ix2 i k)) (fun k => a1 (ix2 1 k)) (fun k => a2 (ix3 1 k f)) (a3 (ix3 1 f j)) := by
  pointwise [REF]
  rfl
end Cert.Reference5Ideal.Mlp

namespace Cert.Kernel5Ideal.Mlp
open Cert.Kernel5Ideal Cert.Kernel5Ideal.Gen
open Cert.Reference5Ideal.Mlp (REF ref_at)
open Cert.Reference2Ideal.Mlp (nrm unit)
open Idealize.ShloMosaic.Pipeline (Dat)
variable (m : (ℓ : Loc nD τ sig) → Buf (Elt Ideal) ℓ)

theorem idx : ∀ t : Fin cfg0.N, win0_0.index t = ![t.val / 16, 0] ∧ win0_1.index t = ![0, 0] ∧ win0_2.index t = ![1, 0, t.val % 16]
    ∧ win0_3.index t = ![1, t.val % 16, 0] ∧ win0_4.index t = ![t.val / 16, 0] ∧ t.val < 128 :=
  (by decide +kernel : ∀ t : Fin grid0.N, _)

theorem pay1_at (x : FVec Ideal S1024x2048 .f32) (g : FVec Ideal S1x2048 .f32) (i : Fin 1024) (k : Fin 2048) :
    k0_pay1 (F := Ideal) x g (ix2 i k) = nrm (fun l => x (ix2 i l)) (fun l => g (ix2 0 l)) k := by
  pointwise [k0_pay1]
  rfl

theorem pay2_at (xs : FVec Ideal S1024x2048 .bf16) (up : FVec Ideal S1x2048x512 .bf16) (acc : FVec Ideal S1024x2048 .f32)
    (dn : FVec Ideal S1x512x2048 .bf16) (i : Fin 1024) (j : Fin 2048) :
    k0_pay2 (F := Ideal) xs up acc dn (ix2 i j) = acc (ix2 i j) + ∑ f : Fin 512,
      max (∑ k : Fin 2048, xs (ix2 i k) * up (ix3 0 k f)) 0 * max (∑ k : Fin 2048, xs (ix2 i k) * up (ix3 0 k f)) 0 * dn (ix3 0 f j) := by
  pointwise [k0_pay2]

theorem outA (c : Dev nD) (t : Fin cfg0.N) (h0 : t.val % 16 = 0) :
    (outsAt0 m c t.val t.isLt).1 = k0_pay2 (F := Ideal) (k0_pay1 (F := Ideal) (iblk m c 0 t) (iblk m c 1 t)) (iblk m c 2 t) (iblk m c 0 t) (iblk m c 3 t) := by
  rw [outsAt0_A m c t h0]
  frame_out
theorem scA (c : Dev nD) (t : Fin cfg0.N) (h0 : t.val % 16 = 0) :
    (outsAt0 m c t.val t.isLt).2 = k0_pay1 (F := Ideal) (iblk m c 0 t) (iblk m c 1 t) := by
  rw [outsAt0_A m c t h0]
  frame_out
theorem outB (c : Dev nD) (t : Fin cfg0.N) (h0 : ¬ t.val % 16 = 0) :
    (outsAt0 m c t.val t.isLt).1 = k0_pay2 (F := Ideal) (outsAt0 m c (t.val - 1) (Nat.lt_of_le_of_lt (Nat.sub_le _ _) t.isLt)).2 (iblk m c 2 t) (outsAt0 m c (t.val - 1) (Nat.lt_of_le_of_lt (Nat.sub_le _ _) t.isLt)).1 (iblk m c 3 t) := by
  rw [outsAt0_B m c t h0]
  frame_out
  rw [(Memref.isWhole_whole cc0_scratch0).read_unread]
theorem scB (c : Dev nD) (t : Fin cfg0.N) (h0 : ¬ t.val % 16 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

theorem blk0_at (c : Dev nD) (t : Fin cfg0.N) (i : Fin 1024) (j : Fin 2048) (h : t.val / 16 * 1024 + i.val < 8192) :
    (iblk m c 0 t : FVec Ideal S1024x2048 .f32) (ix2 i j) = (m ((c : Thread nD τ).loc main_arg0) : FVec Ideal S8192x2048 .f32) (ix2 ⟨t.val / 16 * 1024 + i.val, h⟩ j) := by
  blk_point [iblk, V, idx t]
theorem blk1_at (c : Dev nD) (t : Fin cfg0.N) (j : Fin 2048) :
    (iblk m c 1 t : FVec Ideal S1x2048 .f32) (ix2 0 j) = (m ((c : Thread nD τ).loc main_arg1) : FVec Ideal S4x2048 .f32) (ix2 1 j) := by
  blk_point [iblk, V, idx t]
theorem blk2_at (c : Dev nD) (t : Fin cfg0.N) (k : Fin 2048) (f : Fin 512) (h : t.val % 16 * 512 + f.val < 8192) :
    (iblk m c 2 t : FVec Ideal S1x2048x512 .bf16) (ix3 0 k f) = (m ((c : Thread nD τ).loc main_arg2) : FVec Ideal S4x2048x8192 .f32) (ix3 1 k ⟨t.val % 16 * 512 + f.val, h⟩) := by
  blk_point [iblk, V, idx t]
theorem blk3_at (c : Dev nD) (t : Fin cfg0.N) (k : Fin 2048) (f : Fin 512) (h : t.val % 16 * 512 + f.val < 8192) :
    (iblk m c 3 t : FVec Ideal S1x512x2048 .bf16) (ix3 0 f k) = (m ((c : Thread nD τ).loc main_arg3) : FVec Ideal S4x8192x2048 .f32) (ix3 1 ⟨t.val % 16 * 512 + f.val, h⟩ k) := by
  blk_point [iblk, V, idx t]

/-- The launch contents of the four arguments on device `c`. -/
abbrev X (c : Dev nD) : FVec Ideal S8192x2048 .f32 := m ((c : Thread nD τ).loc main_arg0)
abbrev Gm (c : Dev nD) : FVec Ideal S4x2048 .f32 := m ((c : Thread nD τ).loc main_arg1)
abbrev Up (c : Dev nD) : FVec Ideal S4x2048x8192 .f32 := m ((c : Thread nD τ).loc main_arg2)
abbrev Dn (c : Dev nD) : FVec Ideal S4x8192x2048 .f32 := m ((c : Thread nD τ).loc main_arg3)

theorem rows_at (c : Dev nD) (t : Fin cfg0.N) (i : Fin 1024) (k : Fin 2048) (h : t.val / 16 * 1024 + i.val < 8192) :
    k0_pay1 (F := Ideal) (iblk m c 0 t) (iblk m c 1 t) (ix2 i k)
      = nrm (fun l => X m c (ix2 ⟨t.val / 16 * 1024 + i.val, h⟩ l)) (fun l => Gm m c (ix2 1 l)) k := by
  refine (pay1_at (iblk m c 0 t) (iblk m c 1 t) i k).trans ?_
  congr 1
  · funext l; exact blk0_at m c t i l h
  · funext l; exact blk1_at m c t l

/-- The scratch after any point holds the normalised rows of the point's block. -/
theorem scratch_at (c : Dev nD) : ∀ (n : ℕ) (hn : n < cfg0.N) (i : Fin 1024) (k : Fin 2048) (h : n / 16 * 1024 + i.val < 8192),
    (outsAt0 m c n hn).2 (ix2 i k) = nrm (fun l => X m c (ix2 ⟨n / 16 * 1024 + i.val, h⟩ l)) (fun l => Gm m c (ix2 1 l)) k := by
  intro n
  induction n with
  | zero =>
    intro hn i k h
    rw [scA m c ⟨0, hn⟩ rfl]
    exact rows_at m c ⟨0, hn⟩ i k h
  | succ n ih =>
    intro hn i k h
    by_cases h0 : (n + 1) % 16 = 0
    · rw [scA m c ⟨n + 1, hn⟩ h0]
      exact rows_at m c ⟨n + 1, hn⟩ i k h
    · rw [scB m c ⟨n + 1, hn⟩ h0]
      have e : (n + 1) / 16 = n / 16 := by omega
      have h' : n / 16 * 1024 + i.val < 8192 := by rw [← e]; exact h
      refine (ih (Nat.lt_of_succ_lt hn) i k h').trans ?_
      simp only [e]

/-- What point `t` adds at row `i`, column `j` of its block: the 512 hidden units of its slice. -/
def part (c : Dev nD) (t : Fin cfg0.N) (i : Fin 1024) (j : Fin 2048) : EReal :=
  have h1 := (idx t).2.2.2.2.2
  ∑ f : Fin 512, unit (fun l => X m c (ix2 ⟨t.val / 16 * 1024 + i.val, by omega⟩ l)) (fun l => Gm m c (ix2 1 l))
    (fun l => Up m c (ix3 1 l ⟨t.val % 16 * 512 + f.val, by omega⟩)) (Dn m c (ix3 1 ⟨t.val % 16 * 512 + f.val, by omega⟩ j))

theorem pay2_part (c : Dev nD) (t : Fin cfg0.N) (xs : FVec Ideal S1024x2048 .bf16) (acc : FVec Ideal S1024x2048 .f32) (i : Fin 1024) (j : Fin 2048)
    (h : t.val / 16 * 1024 + i.val < 8192)
    (hxs : ∀ k, xs (ix2 i k) = nrm (fun l => X m c (ix2 ⟨t.val / 16 * 1024 + i.val, h⟩ l)) (fun l => Gm m c (ix2 1 l)) k) :
    k0_pay2 (F := Ideal) xs (iblk m c 2 t) acc (iblk m c 3 t) (ix2 i j) = acc (ix2 i j) + part m c t i j := by
  have h1 := (idx t).2.2.2.2.2
  refine (pay2_at xs (iblk m c 2 t) acc (iblk m c 3 t) i j).trans ?_
  congr 1
  unfold part unit
  refine Finset.sum_congr rfl fun f _ => ?_
  simp only [hxs]
  have hf : t.val % 16 * 512 + f.val < 8192 := by omega
  rw [show (iblk m c 3 t : FVec Ideal S1x512x2048 .bf16) (ix3 0 f j) = _ from blk3_at m c t j f hf]
  have hu : ∀ k, (iblk m c 2 t : FVec Ideal S1x2048x512 .bf16) (ix3 0 k f) = _ := fun k => blk2_at m c t k f hf
  simp only [hu]

/-- The accumulated block: the input block once, and each point's part. -/
def term (c : Dev nD) (t : Fin cfg0.N) (y : S1024x2048.Idx) : EReal :=
  (if t.val % 16 = 0 then (show EReal from iblk m c 0 t y) else 0) + part m c t (y 0) (y 1)

theorem out_sum (c : Dev nD) (t : Fin cfg0.N) (hr : t.val % 16 = 16 - 1) (y : S1024x2048.Idx) :
    (outsAt0 m c t.val t.isLt).1 y
      = 0 + ∑ s : Fin 16, term m c ⟨16 * (t.val / 16) + s.val, Pipeline.run_point_lt_of_flush t hr s⟩ y := by
  refine Pipeline.eq_sum_fin_of_reset_step_apply_of_flush (M := EReal) (fun n h => (outsAt0 m c n h).1) 16 (fun _ => 0) (term m c) ?_ ?_ t hr y
  · intro t h0 y
    have h1 := (idx t).2.2.2.2.2
    obtain ⟨i, j, rfl⟩ : ∃ (i : Fin 1024) (j : Fin 2048), y = ix2 i j := ⟨y 0, y 1, eq_ix2 y⟩
    show (outsAt0 m c t.val t.isLt).1 _ = _
    rw [outA m c t h0]
    refine (pay2_part m c t _ _ i j (by omega) (fun k => rows_at m c t i k _)).trans ?_
    unfold term
    rw [if_pos h0, zero_add]
    rfl
  · intro t h0 y
    have h1 := (idx t).2.2.2.2.2
    obtain ⟨i, j, rfl⟩ : ∃ (i : Fin 1024) (j : Fin 2048), y = ix2 i j := ⟨y 0, y 1, eq_ix2 y⟩
    show (outsAt0 m c t.val t.isLt).1 _ = _
    rw [outB m c t h0]
    refine (pay2_part m c t _ _ i j (by omega) (fun k => ?_)).trans ?_
    · have e : (t.val - 1) / 16 = t.val / 16 := by omega
      refine (scratch_at m c (t.val - 1) _ i k (by rw [e]; omega)).trans ?_
      simp only [e]
    · unfold term
      rw [if_neg h0, zero_add]
      rfl

/-- What a written-back block holds, at row `i`, column `j`. -/
theorem out_eq (c : Dev nD) (t : Fin cfg0.N) (hr : t.val % 16 = 16 - 1) (i : Fin 1024) (j : Fin 2048) (h : t.val / 16 * 1024 + i.val < 8192) :
    (outsAt0 m c t.val t.isLt).1 (ix2 i j) = REF (X m c) (Gm m c) (Up m c) (Dn m c) (ix2 ⟨t.val / 16 * 1024 + i.val, h⟩ j) := by
  refine (out_sum m c t hr (ix2 i j)).trans ?_
  refine Eq.trans ?_ (ref_at (X m c) (Gm m c) (Up m c) (Dn m c) _ j).symm
  rw [zero_add]
  unfold term
  rw [Finset.sum_add_distrib]
  refine congrArg₂ (· + ·) ?_ ?_
  · rw [Finset.sum_eq_single (0 : Fin 16)]
    · rw [if_pos (by show (16 * (t.val / 16) + 0) % 16 = 0; omega)]
      have hq : (16 * (t.val / 16) + 0) / 16 = t.val / 16 := by omega
      refine (blk0_at m c ⟨16 * (t.val / 16) + 0, _⟩ i j (by dsimp only; rw [hq]; omega)).trans ?_
      simp only [hq]
    · intro s _ hs
      rw [if_neg]
      intro h; apply hs; apply Fin.ext; show s.val = 0; dsimp only at h; omega
    · intro h; exact absurd (Finset.mem_univ _) h
  · unfold part
    refine Fin.sum_mul_add_congr fun s k hl => ?_
    have hq : (16 * (t.val / 16) + s.val) / 16 = t.val / 16 := by omega
    have hm : (16 * (t.val / 16) + s.val) % 16 = s.val := by omega
    simp only [hq, hm]
    rfl

/-- The result array after the run is the reference's term. -/
theorem final (c : Dev nD) : (dats m 0 c).arrAt 4 (cfgs 0).N = REF (X m c) (Gm m c) (Up m c) (Dn m c) := by
  refine (dats m 0 c).arrAt_eq_of_covers 4 _ (by decide +kernel) fun t hf y => ?_
  have hr : t.val % 16 = 16 - 1 := (flush0_4 t).mp hf
  have h1 := (idx t).2.2.2.2.2
  have hy : (y 0).val < 1024 := (y 0).isLt
  blk_simp
  rw [after0_4]
  refine (congrArg _ (eq_ix2 (n0 := 1024) (n1 := 2048) y)).trans ((out_eq m c t hr (y 0) (y 1) (by omega)).trans ?_)
  refine congrArg _ ?_
  symm
  blk_ext [idx t]
end Cert.Kernel5Ideal.Mlp
end
-- ==== Proof.Mlp2.lean ====
module

public import proofs.«01_k».proof.Proof.Gen.Kernel6Ideal.Frame
public import proofs.«01_k».proof.Proof.Gen.Reference6Ideal.Run
public import proofs.«01_k».proof.Proof.Mlp
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference6Ideal.Mlp
open Cert.Reference6Ideal Cert.Reference6Ideal.Gen
open Cert.Reference2Ideal.Mlp (nrm unit)
/-- The MLP reference's composed term over its four arguments. -/
def REF (a0 : FVec Ideal S8192x2048 .f32) (a1 : FVec Ideal S4x2048 .f32) (a2 : FVec Ideal S4x2048x8192 .f32)
    (a3 : FVec Ideal S4x8192x2048 .f32) : FVec Ideal S8192x2048 .f32 :=
  addf a0 (Host.dotGeneral dot_S8192x8192_S8192x2048_S8192x2048_1_0_0_1_n_n none (mulf (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![2, 0] a1 slices_S4x2048_S1x2048_2_0) shapeCasts_S1x2048_S2048)))) (shapeCast _ (extractStridedSlice S1x2048x8192 ![2, 0, 0] a2 slices_S4x2048x8192_S1x2048x8192_2_0_0) shapeCasts_S1x2048x8192_S2048x8192)) (broadcastInDim S8192x8192 ![] bcast_S_S8192x8192 (constant S_ .f32 0x00000000#32))) (maximumf (Host.dotGeneral dot_S8192x2048_S2048x8192_S8192x8192_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![2, 0] a1 slices_S4x2048_S1x2048_2_0) shapeCasts_S1x2048_S2048)))) (shapeCast _ (extractStridedSlice S1x2048x8192 ![2, 0, 0] a2 slices_S4x2048x8192_S1x2048x8192_2_0_0) shapeCasts_S1x2048x8192_S2048x8192)) (broadcastInDim S8192x8192 ![] bcast_S_S8192x8192 (constant S_ .f32 0x00000000#32)))) (shapeCast _ (extractStridedSlice S1x8192x2048 ![2, 0, 0] a3 slices_S4x8192x2048_S1x8192x2048_2_0_0) shapeCasts_S1x8192x2048_S8192x2048))

theorem ref_at (a0 : FVec Ideal S8192x2048 .f32) (a1 : FVec Ideal S4x2048 .f32) (a2 : FVec Ideal S4x2048x8192 .f32)
    (a3 : FVec Ideal S4x8192x2048 .f32) (i : Fin 8192) (j : Fin 2048) :
    REF a0 a1 a2 a3 (ix2 i j) = a0 (ix2 i j) + ∑ f : Fin 8192,
      unit (fun k => a0 (ix2 i k)) (fun k => a1 (ix2 2 k)) (fun k => a2 (ix3 2 k f)) (a3 (ix3 2 f j)) := by
  pointwise [REF]
  rfl
end Cert.Reference6Ideal.Mlp

namespace Cert.Kernel6Ideal.Mlp
open Cert.Kernel6Ideal Cert.Kernel6Ideal.Gen
open Cert.Reference6Ideal.Mlp (REF ref_at)
open Cert.Reference2Ideal.Mlp (nrm unit)
open Idealize.ShloMosaic.Pipeline (Dat)
variable (m : (ℓ : Loc nD τ sig) → Buf (Elt Ideal) ℓ)

theorem idx : ∀ t : Fin cfg0.N, win0_0.index t = ![t.val / 16, 0] ∧ win0_1.index t = ![0, 0] ∧ win0_2.index t = ![2, 0, t.val % 16]
    ∧ win0_3.index t = ![2, t.val % 16, 0] ∧ win0_4.index t = ![t.val / 16, 0] ∧ t.val < 128 :=
  (by decide +kernel : ∀ t : Fin grid0.N, _)

theorem pay1_at (x : FVec Ideal S1024x2048 .f32) (g : FVec Ideal S1x2048 .f32) (i : Fin 1024) (k : Fin 2048) :
    k0_pay1 (F := Ideal) x g (ix2 i k) = nrm (fun l => x (ix2 i l)) (fun l => g (ix2 0 l)) k := by
  pointwise [k0_pay1]
  rfl

theorem pay2_at (xs : FVec Ideal S1024x2048 .bf16) (up : FVec Ideal S1x2048x512 .bf16) (acc : FVec Ideal S1024x2048 .f32)
    (dn : FVec Ideal S1x512x2048 .bf16) (i : Fin 1024) (j : Fin 2048) :
    k0_pay2 (F := Ideal) xs up acc dn (ix2 i j) = acc (ix2 i j) + ∑ f : Fin 512,
      max (∑ k : Fin 2048, xs (ix2 i k) * up (ix3 0 k f)) 0 * max (∑ k : Fin 2048, xs (ix2 i k) * up (ix3 0 k f)) 0 * dn (ix3 0 f j) := by
  pointwise [k0_pay2]

theorem outA (c : Dev nD) (t : Fin cfg0.N) (h0 : t.val % 16 = 0) :
    (outsAt0 m c t.val t.isLt).1 = k0_pay2 (F := Ideal) (k0_pay1 (F := Ideal) (iblk m c 0 t) (iblk m c 1 t)) (iblk m c 2 t) (iblk m c 0 t) (iblk m c 3 t) := by
  rw [outsAt0_A m c t h0]
  frame_out
theorem scA (c : Dev nD) (t : Fin cfg0.N) (h0 : t.val % 16 = 0) :
    (outsAt0 m c t.val t.isLt).2 = k0_pay1 (F := Ideal) (iblk m c 0 t) (iblk m c 1 t) := by
  rw [outsAt0_A m c t h0]
  frame_out
theorem outB (c : Dev nD) (t : Fin cfg0.N) (h0 : ¬ t.val % 16 = 0) :
    (outsAt0 m c t.val t.isLt).1 = k0_pay2 (F := Ideal) (outsAt0 m c (t.val - 1) (Nat.lt_of_le_of_lt (Nat.sub_le _ _) t.isLt)).2 (iblk m c 2 t) (outsAt0 m c (t.val - 1) (Nat.lt_of_le_of_lt (Nat.sub_le _ _) t.isLt)).1 (iblk m c 3 t) := by
  rw [outsAt0_B m c t h0]
  frame_out
  rw [(Memref.isWhole_whole cc0_scratch0).read_unread]
theorem scB (c : Dev nD) (t : Fin cfg0.N) (h0 : ¬ t.val % 16 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

theorem blk0_at (c : Dev nD) (t : Fin cfg0.N) (i : Fin 1024) (j : Fin 2048) (h : t.val / 16 * 1024 + i.val < 8192) :
    (iblk m c 0 t : FVec Ideal S1024x2048 .f32) (ix2 i j) = (m ((c : Thread nD τ).loc main_arg0) : FVec Ideal S8192x2048 .f32) (ix2 ⟨t.val / 16 * 1024 + i.val, h⟩ j) := by
  blk_point [iblk, V, idx t]
theorem blk1_at (c : Dev nD) (t : Fin cfg0.N) (j : Fin 2048) :
    (iblk m c 1 t : FVec Ideal S1x2048 .f32) (ix2 0 j) = (m ((c : Thread nD τ).loc main_arg1) : FVec Ideal S4x2048 .f32) (ix2 2 j) := by
  blk_point [iblk, V, idx t]
theorem blk2_at (c : Dev nD) (t : Fin cfg0.N) (k : Fin 2048) (f : Fin 512) (h : t.val % 16 * 512 + f.val < 8192) :
    (iblk m c 2 t : FVec Ideal S1x2048x512 .bf16) (ix3 0 k f) = (m ((c : Thread nD τ).loc main_arg2) : FVec Ideal S4x2048x8192 .f32) (ix3 2 k ⟨t.val % 16 * 512 + f.val, h⟩) := by
  blk_point [iblk, V, idx t]
theorem blk3_at (c : Dev nD) (t : Fin cfg0.N) (k : Fin 2048) (f : Fin 512) (h : t.val % 16 * 512 + f.val < 8192) :
    (iblk m c 3 t : FVec Ideal S1x512x2048 .bf16) (ix3 0 f k) = (m ((c : Thread nD τ).loc main_arg3) : FVec Ideal S4x8192x2048 .f32) (ix3 2 ⟨t.val % 16 * 512 + f.val, h⟩ k) := by
  blk_point [iblk, V, idx t]

/-- The launch contents of the four arguments on device `c`. -/
abbrev X (c : Dev nD) : FVec Ideal S8192x2048 .f32 := m ((c : Thread nD τ).loc main_arg0)
abbrev Gm (c : Dev nD) : FVec Ideal S4x2048 .f32 := m ((c : Thread nD τ).loc main_arg1)
abbrev Up (c : Dev nD) : FVec Ideal S4x2048x8192 .f32 := m ((c : Thread nD τ).loc main_arg2)
abbrev Dn (c : Dev nD) : FVec Ideal S4x8192x2048 .f32 := m ((c : Thread nD τ).loc main_arg3)

theorem rows_at (c : Dev nD) (t : Fin cfg0.N) (i : Fin 1024) (k : Fin 2048) (h : t.val / 16 * 1024 + i.val < 8192) :
    k0_pay1 (F := Ideal) (iblk m c 0 t) (iblk m c 1 t) (ix2 i k)
      = nrm (fun l => X m c (ix2 ⟨t.val / 16 * 1024 + i.val, h⟩ l)) (fun l => Gm m c (ix2 2 l)) k := by
  refine (pay1_at (iblk m c 0 t) (iblk m c 1 t) i k).trans ?_
  congr 1
  · funext l; exact blk0_at m c t i l h
  · funext l; exact blk1_at m c t l

/-- The scratch after any point holds the normalised rows of the point's block. -/
theorem scratch_at (c : Dev nD) : ∀ (n : ℕ) (hn : n < cfg0.N) (i : Fin 1024) (k : Fin 2048) (h : n / 16 * 1024 + i.val < 8192),
    (outsAt0 m c n hn).2 (ix2 i k) = nrm (fun l => X m c (ix2 ⟨n / 16 * 1024 + i.val, h⟩ l)) (fun l => Gm m c (ix2 2 l)) k := by
  intro n
  induction n with
  | zero =>
    intro hn i k h
    rw [scA m c ⟨0, hn⟩ rfl]
    exact rows_at m c ⟨0, hn⟩ i k h
  | succ n ih =>
    intro hn i k h
    by_cases h0 : (n + 1) % 16 = 0
    · rw [scA m c ⟨n + 1, hn⟩ h0]
      exact rows_at m c ⟨n + 1, hn⟩ i k h
    · rw [scB m c ⟨n + 1, hn⟩ h0]
      have e : (n + 1) / 16 = n / 16 := by omega
      have h' : n / 16 * 1024 + i.val < 8192 := by rw [← e]; exact h
      refine (ih (Nat.lt_of_succ_lt hn) i k h').trans ?_
      simp only [e]

/-- What point `t` adds at row `i`, column `j` of its block: the 512 hidden units of its slice. -/
def part (c : Dev nD) (t : Fin cfg0.N) (i : Fin 1024) (j : Fin 2048) : EReal :=
  have h1 := (idx t).2.2.2.2.2
  ∑ f : Fin 512, unit (fun l => X m c (ix2 ⟨t.val / 16 * 1024 + i.val, by omega⟩ l)) (fun l => Gm m c (ix2 2 l))
    (fun l => Up m c (ix3 2 l ⟨t.val % 16 * 512 + f.val, by omega⟩)) (Dn m c (ix3 2 ⟨t.val % 16 * 512 + f.val, by omega⟩ j))

theorem pay2_part (c : Dev nD) (t : Fin cfg0.N) (xs : FVec Ideal S1024x2048 .bf16) (acc : FVec Ideal S1024x2048 .f32) (i : Fin 1024) (j : Fin 2048)
    (h : t.val / 16 * 1024 + i.val < 8192)
    (hxs : ∀ k, xs (ix2 i k) = nrm (fun l => X m c (ix2 ⟨t.val / 16 * 1024 + i.val, h⟩ l)) (fun l => Gm m c (ix2 2 l)) k) :
    k0_pay2 (F := Ideal) xs (iblk m c 2 t) acc (iblk m c 3 t) (ix2 i j) = acc (ix2 i j) + part m c t i j := by
  have h1 := (idx t).2.2.2.2.2
  refine (pay2_at xs (iblk m c 2 t) acc (iblk m c 3 t) i j).trans ?_
  congr 1
  unfold part unit
  refine Finset.sum_congr rfl fun f _ => ?_
  simp only [hxs]
  have hf : t.val % 16 * 512 + f.val < 8192 := by omega
  rw [show (iblk m c 3 t : FVec Ideal S1x512x2048 .bf16) (ix3 0 f j) = _ from blk3_at m c t j f hf]
  have hu : ∀ k, (iblk m c 2 t : FVec Ideal S1x2048x512 .bf16) (ix3 0 k f) = _ := fun k => blk2_at m c t k f hf
  simp only [hu]

/-- The accumulated block: the input block once, and each point's part. -/
def term (c : Dev nD) (t : Fin cfg0.N) (y : S1024x2048.Idx) : EReal :=
  (if t.val % 16 = 0 then (show EReal from iblk m c 0 t y) else 0) + part m c t (y 0) (y 1)

theorem out_sum (c : Dev nD) (t : Fin cfg0.N) (hr : t.val % 16 = 16 - 1) (y : S1024x2048.Idx) :
    (outsAt0 m c t.val t.isLt).1 y
      = 0 + ∑ s : Fin 16, term m c ⟨16 * (t.val / 16) + s.val, Pipeline.run_point_lt_of_flush t hr s⟩ y := by
  refine Pipeline.eq_sum_fin_of_reset_step_apply_of_flush (M := EReal) (fun n h => (outsAt0 m c n h).1) 16 (fun _ => 0) (term m c) ?_ ?_ t hr y
  · intro t h0 y
    have h1 := (idx t).2.2.2.2.2
    obtain ⟨i, j, rfl⟩ : ∃ (i : Fin 1024) (j : Fin 2048), y = ix2 i j := ⟨y 0, y 1, eq_ix2 y⟩
    show (outsAt0 m c t.val t.isLt).1 _ = _
    rw [outA m c t h0]
    refine (pay2_part m c t _ _ i j (by omega) (fun k => rows_at m c t i k _)).trans ?_
    unfold term
    rw [if_pos h0, zero_add]
    rfl
  · intro t h0 y
    have h1 := (idx t).2.2.2.2.2
    obtain ⟨i, j, rfl⟩ : ∃ (i : Fin 1024) (j : Fin 2048), y = ix2 i j := ⟨y 0, y 1, eq_ix2 y⟩
    show (outsAt0 m c t.val t.isLt).1 _ = _
    rw [outB m c t h0]
    refine (pay2_part m c t _ _ i j (by omega) (fun k => ?_)).trans ?_
    · have e : (t.val - 1) / 16 = t.val / 16 := by omega
      refine (scratch_at m c (t.val - 1) _ i k (by rw [e]; omega)).trans ?_
      simp only [e]
    · unfold term
      rw [if_neg h0, zero_add]
      rfl

/-- What a written-back block holds, at row `i`, column `j`. -/
theorem out_eq (c : Dev nD) (t : Fin cfg0.N) (hr : t.val % 16 = 16 - 1) (i : Fin 1024) (j : Fin 2048) (h : t.val / 16 * 1024 + i.val < 8192) :
    (outsAt0 m c t.val t.isLt).1 (ix2 i j) = REF (X m c) (Gm m c) (Up m c) (Dn m c) (ix2 ⟨t.val / 16 * 1024 + i.val, h⟩ j) := by
  refine (out_sum m c t hr (ix2 i j)).trans ?_
  refine Eq.trans ?_ (ref_at (X m c) (Gm m c) (Up m c) (Dn m c) _ j).symm
  rw [zero_add]
  unfold term
  rw [Finset.sum_add_distrib]
  refine congrArg₂ (· + ·) ?_ ?_
  · rw [Finset.sum_eq_single (0 : Fin 16)]
    · rw [if_pos (by show (16 * (t.val / 16) + 0) % 16 = 0; omega)]
      have hq : (16 * (t.val / 16) + 0) / 16 = t.val / 16 := by omega
      refine (blk0_at m c ⟨16 * (t.val / 16) + 0, _⟩ i j (by dsimp only; rw [hq]; omega)).trans ?_
      simp only [hq]
    · intro s _ hs
      rw [if_neg]
      intro h; apply hs; apply Fin.ext; show s.val = 0; dsimp only at h; omega
    · intro h; exact absurd (Finset.mem_univ _) h
  · unfold part
    refine Fin.sum_mul_add_congr fun s k hl => ?_
    have hq : (16 * (t.val / 16) + s.val) / 16 = t.val / 16 := by omega
    have hm : (16 * (t.val / 16) + s.val) % 16 = s.val := by omega
    simp only [hq, hm]
    rfl

/-- The result array after the run is the reference's term. -/
theorem final (c : Dev nD) : (dats m 0 c).arrAt 4 (cfgs 0).N = REF (X m c) (Gm m c) (Up m c) (Dn m c) := by
  refine (dats m 0 c).arrAt_eq_of_covers 4 _ (by decide +kernel) fun t hf y => ?_
  have hr : t.val % 16 = 16 - 1 := (flush0_4 t).mp hf
  have h1 := (idx t).2.2.2.2.2
  have hy : (y 0).val < 1024 := (y 0).isLt
  blk_simp
  rw [after0_4]
  refine (congrArg _ (eq_ix2 (n0 := 1024) (n1 := 2048) y)).trans ((out_eq m c t hr (y 0) (y 1) (by omega)).trans ?_)
  refine congrArg _ ?_
  symm
  blk_ext [idx t]
end Cert.Kernel6Ideal.Mlp
end
-- ==== Proof.Ple0.lean ====
module

public import proofs.«01_k».proof.Proof.Gen.Kernel7Ideal.Frame
public import proofs.«01_k».proof.Proof.Gen.Reference7Ideal.Run
public import proofs.«01_k».proof.Proof.Mlp
public import proofs.«01_k».proof.Proof.Ple
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference7Ideal.Ple
open Cert.Reference7Ideal Cert.Reference7Ideal.Gen
open Cert.Reference2Ideal.Mlp (nrm)
open Cert.Reference3Ideal.Ple (gated)
/-- The gated embedding's composed term over the five arguments it reads. -/
def REF (a0 : FVec Ideal S8192x2048 .f32) (a1 : FVec Ideal S4x1x8192x256 .f32) (a2 : FVec Ideal S4x2048 .f32)
    (a3 : FVec Ideal S4x2048x2048 .f32) (a4 : FVec Ideal S4x256x2048 .f32) : FVec Ideal S8192x2048 .f32 :=
  addf a0 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] a2 slices_S4x2048_S1x2048_0_0) shapeCasts_S1x2048_S2048)))) (shapeCast _ (extractStridedSlice S1x2048x2048 ![0, 0, 0] a3 slices_S4x2048x2048_S1x2048x2048_0_0_0) shapeCasts_S1x2048x2048_S2048x2048)))))) (Host.dotGeneral dot_S8192x256_S256x2048_S8192x2048_1_0_0_1_n_n none (shapeCast _ (extractStridedSlice S1x1x8192x256 ![0, 0, 0, 0] a1 slices_S4x1x8192x256_S1x1x8192x256_0_0_0_0) shapeCasts_S1x1x8192x256_S8192x256) (shapeCast _ (extractStridedSlice S1x256x2048 ![0, 0, 0] a4 slices_S4x256x2048_S1x256x2048_0_0_0) shapeCasts_S1x256x2048_S256x2048)))

theorem ref_at (a0 : FVec Ideal S8192x2048 .f32) (a1 : FVec Ideal S4x1x8192x256 .f32) (a2 : FVec Ideal S4x2048 .f32)
    (a3 : FVec Ideal S4x2048x2048 .f32) (a4 : FVec Ideal S4x256x2048 .f32) (i : Fin 8192) (j : Fin 2048) :
    REF a0 a1 a2 a3 a4 (ix2 i j) = gated (fun k => a0 (ix2 i k)) (fun k => a1 (ix4 0 0 i k)) (fun k => a2 (ix2 0 k))
      (fun k l => a3 (ix3 0 k l)) (fun k l => a4 (ix3 0 k l)) j := by
  pointwise [REF]
  unfold gated Cert.Reference3Ideal.Ple.nrm
  rfl
end Cert.Reference7Ideal.Ple

namespace Cert.Kernel7Ideal.Ple
open Cert.Kernel7Ideal Cert.Kernel7Ideal.Gen
open Cert.Reference7Ideal.Ple (REF ref_at)
open Cert.Reference3Ideal.Ple (nrm gated)
open Idealize.ShloMosaic.Pipeline (Dat)
variable (m : (ℓ : Loc nD τ sig) → Buf (Elt Ideal) ℓ)

theorem idx : ∀ t : Fin cfg0.N, win0_0.index t = ![t.val, 0] ∧ win0_1.index t = ![0, 0] ∧ win0_2.index t = ![0, 0, t.val, 0]
    ∧ win0_3.index t = ![0, 0, 0] ∧ win0_4.index t = ![0, 0, 0] ∧ win0_5.index t = ![0, 0] ∧ win0_6.index t = ![t.val, 0] ∧ t.val < 16 :=
  (by decide +kernel : ∀ t : Fin grid0.N, _)

theorem payA_at (x : FVec Ideal S256x2048 .f32) (g : FVec Ideal S1x2048 .f32) (wg : FVec Ideal S1x2048x2048 .bf16) (p : FVec Ideal S1x1x256x256 .f32)
    (wp : FVec Ideal S1x256x2048 .bf16) (i : Fin 256) (j : Fin 2048) :
    k0_pay1 (F := Ideal) x g wg p wp (ix2 i j) = gated (fun k => x (ix2 i k)) (fun k => p (ix4 0 0 i k)) (fun k => g (ix2 0 k))
      (fun k l => wg (ix3 0 k l)) (fun k l => wp (ix3 0 k l)) j := by
  pointwise [k0_pay1]
  unfold gated nrm
  simp only [zero_sub]

theorem payB_at (x : FVec Ideal S256x2048 .f32) (g : FVec Ideal S1x2048 .f32) (wg : FVec Ideal S1x2048x2048 .bf16) (p : FVec Ideal S1x1x256x256 .f32)
    (wp : FVec Ideal S1x256x2048 .bf16) (i : Fin 256) (j : Fin 2048) :
    k0_pay2 (F := Ideal) x g wg p wp (ix2 i j) = gated (fun k => x (ix2 i k)) (fun k => p (ix4 0 0 i k)) (fun k => g (ix2 0 k))
      (fun k l => wg (ix3 0 k l)) (fun k l => wp (ix3 0 k l)) j := by
  pointwise [k0_pay2]
  unfold gated nrm
  simp only [zero_sub]

theorem point (c : Dev nD) (t : Fin cfg0.N) (y : S512x2048.Idx) (h : t.val * 512 + (y 0).val < 8192) :
    out0_6 (F := Ideal) (iblk m c 0 t) (iblk m c 1 t) (iblk m c 2 t) (iblk m c 3 t) (iblk m c 4 t) (iblk m c 5 t) y
      = REF (m ((c : Thread nD τ).loc main_arg0)) (m ((c : Thread nD τ).loc main_arg1)) (m ((c : Thread nD τ).loc main_arg2))
         (m ((c : Thread nD τ).loc main_arg3)) (m ((c : Thread nD τ).loc main_arg4))
         (ix2 ⟨t.val * 512 + (y 0).val, h⟩ (y 1)) := by
  refine Eq.trans ?_ (ref_at _ _ _ _ _ _ (y 1)).symm
  unfold out0_6
  canon_tiles x h
  · obtain ⟨i, j, rfl⟩ : ∃ (i : Fin 256) (j : Fin 2048), x = ix2 i j := ⟨x 0, x 1, eq_ix2 x⟩
    refine (payB_at _ _ _ _ _ i j).trans ?_
    have h0' := h0
    have h1' : (y 1).val = j.val := h1
    simp only [ix2_0] at h0'
    unfold gated nrm
    pointwise
    blk_point [iblk, V, idx t]
    all_goals omega
  · obtain ⟨i, j, rfl⟩ : ∃ (i : Fin 256) (j : Fin 2048), x = ix2 i j := ⟨x 0, x 1, eq_ix2 x⟩
    refine (payA_at _ _ _ _ _ i j).trans ?_
    have h0' := h0
    have h1' : (y 1).val = j.val := h1
    simp only [ix2_0] at h0'
    unfold gated nrm
    pointwise
    blk_point [iblk, V, idx t]
    all_goals omega

theorem final (c : Dev nD) : (dats m 0 c).arrAt 6 (cfgs 0).N = REF (m ((c : Thread nD τ).loc main_arg0)) (m ((c : Thread nD τ).loc main_arg1)) (m ((c : Thread nD τ).loc main_arg2))
         (m ((c : Thread nD τ).loc main_arg3)) (m ((c : Thread nD τ).loc main_arg4)) := by
  refine (dats m 0 c).arrAt_eq_of_covers 6 _ (by decide +kernel) fun t _ y => ?_
  have h1 := (idx t).2.2.2.2.2.2.2
  have hy : (y 0).val < 512 := (y 0).isLt
  blk_simp
  rw [after0_6]
  refine (point m c t y (by omega)).trans ?_
  refine congrArg _ ?_
  symm
  blk_ext [idx t]
end Cert.Kernel7Ideal.Ple
end
-- ==== Proof.Ple1.lean ====
module

public import proofs.«01_k».proof.Proof.Gen.Kernel8Ideal.Frame
public import proofs.«01_k».proof.Proof.Gen.Reference8Ideal.Run
public import proofs.«01_k».proof.Proof.Mlp
public import proofs.«01_k».proof.Proof.Ple
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference8Ideal.Ple
open Cert.Reference8Ideal Cert.Reference8Ideal.Gen
open Cert.Reference2Ideal.Mlp (nrm)
open Cert.Reference3Ideal.Ple (gated)
/-- The gated embedding's composed term over the five arguments it reads. -/
def REF (a0 : FVec Ideal S8192x2048 .f32) (a1 : FVec Ideal S4x1x8192x256 .f32) (a2 : FVec Ideal S4x2048 .f32)
    (a3 : FVec Ideal S4x2048x2048 .f32) (a4 : FVec Ideal S4x256x2048 .f32) : FVec Ideal S8192x2048 .f32 :=
  addf a0 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] a2 slices_S4x2048_S1x2048_1_0) shapeCasts_S1x2048_S2048)))) (shapeCast _ (extractStridedSlice S1x2048x2048 ![1, 0, 0] a3 slices_S4x2048x2048_S1x2048x2048_1_0_0) shapeCasts_S1x2048x2048_S2048x2048)))))) (Host.dotGeneral dot_S8192x256_S256x2048_S8192x2048_1_0_0_1_n_n none (shapeCast _ (extractStridedSlice S1x1x8192x256 ![1, 0, 0, 0] a1 slices_S4x1x8192x256_S1x1x8192x256_1_0_0_0) shapeCasts_S1x1x8192x256_S8192x256) (shapeCast _ (extractStridedSlice S1x256x2048 ![1, 0, 0] a4 slices_S4x256x2048_S1x256x2048_1_0_0) shapeCasts_S1x256x2048_S256x2048)))

theorem ref_at (a0 : FVec Ideal S8192x2048 .f32) (a1 : FVec Ideal S4x1x8192x256 .f32) (a2 : FVec Ideal S4x2048 .f32)
    (a3 : FVec Ideal S4x2048x2048 .f32) (a4 : FVec Ideal S4x256x2048 .f32) (i : Fin 8192) (j : Fin 2048) :
    REF a0 a1 a2 a3 a4 (ix2 i j) = gated (fun k => a0 (ix2 i k)) (fun k => a1 (ix4 1 0 i k)) (fun k => a2 (ix2 1 k))
      (fun k l => a3 (ix3 1 k l)) (fun k l => a4 (ix3 1 k l)) j := by
  pointwise [REF]
  unfold gated Cert.Reference3Ideal.Ple.nrm
  rfl
end Cert.Reference8Ideal.Ple

namespace Cert.Kernel8Ideal.Ple
open Cert.Kernel8Ideal Cert.Kernel8Ideal.Gen
open Cert.Reference8Ideal.Ple (REF ref_at)
open Cert.Reference3Ideal.Ple (nrm gated)
open Idealize.ShloMosaic.Pipeline (Dat)
variable (m : (ℓ : Loc nD τ sig) → Buf (Elt Ideal) ℓ)

theorem idx : ∀ t : Fin cfg0.N, win0_0.index t = ![t.val, 0] ∧ win0_1.index t = ![0, 0] ∧ win0_2.index t = ![1, 0, t.val, 0]
    ∧ win0_3.index t = ![1, 0, 0] ∧ win0_4.index t = ![1, 0, 0] ∧ win0_5.index t = ![0, 0] ∧ win0_6.index t = ![t.val, 0] ∧ t.val < 16 :=
  (by decide +kernel : ∀ t : Fin grid0.N, _)

theorem payA_at (x : FVec Ideal S256x2048 .f32) (g : FVec Ideal S1x2048 .f32) (wg : FVec Ideal S1x2048x2048 .bf16) (p : FVec Ideal S1x1x256x256 .f32)
    (wp : FVec Ideal S1x256x2048 .bf16) (i : Fin 256) (j : Fin 2048) :
    k0_pay1 (F := Ideal) x g wg p wp (ix2 i j) = gated (fun k => x (ix2 i k)) (fun k => p (ix4 0 0 i k)) (fun k => g (ix2 0 k))
      (fun k l => wg (ix3 0 k l)) (fun k l => wp (ix3 0 k l)) j := by
  pointwise [k0_pay1]
  unfold gated nrm
  simp only [zero_sub]

theorem payB_at (x : FVec Ideal S256x2048 .f32) (g : FVec Ideal S1x2048 .f32) (wg : FVec Ideal S1x2048x2048 .bf16) (p : FVec Ideal S1x1x256x256 .f32)
    (wp : FVec Ideal S1x256x2048 .bf16) (i : Fin 256) (j : Fin 2048) :
    k0_pay2 (F := Ideal) x g wg p wp (ix2 i j) = gated (fun k => x (ix2 i k)) (fun k => p (ix4 0 0 i k)) (fun k => g (ix2 0 k))
      (fun k l => wg (ix3 0 k l)) (fun k l => wp (ix3 0 k l)) j := by
  pointwise [k0_pay2]
  unfold gated nrm
  simp only [zero_sub]

theorem point (c : Dev nD) (t : Fin cfg0.N) (y : S512x2048.Idx) (h : t.val * 512 + (y 0).val < 8192) :
    out0_6 (F := Ideal) (iblk m c 0 t) (iblk m c 1 t) (iblk m c 2 t) (iblk m c 3 t) (iblk m c 4 t) (iblk m c 5 t) y
      = REF (m ((c : Thread nD τ).loc main_arg0)) (m ((c : Thread nD τ).loc main_arg1)) (m ((c : Thread nD τ).loc main_arg2))
         (m ((c : Thread nD τ).loc main_arg3)) (m ((c : Thread nD τ).loc main_arg4))
         (ix2 ⟨t.val * 512 + (y 0).val, h⟩ (y 1)) := by
  refine Eq.trans ?_ (ref_at _ _ _ _ _ _ (y 1)).symm
  unfold out0_6
  canon_tiles x h
  · obtain ⟨i, j, rfl⟩ : ∃ (i : Fin 256) (j : Fin 2048), x = ix2 i j := ⟨x 0, x 1, eq_ix2 x⟩
    refine (payB_at _ _ _ _ _ i j).trans ?_
    have h0' := h0
    have h1' : (y 1).val = j.val := h1
    simp only [ix2_0] at h0'
    unfold gated nrm
    pointwise
    blk_point [iblk, V, idx t]
    all_goals omega
  · obtain ⟨i, j, rfl⟩ : ∃ (i : Fin 256) (j : Fin 2048), x = ix2 i j := ⟨x 0, x 1, eq_ix2 x⟩
    refine (payA_at _ _ _ _ _ i j).trans ?_
    have h0' := h0
    have h1' : (y 1).val = j.val := h1
    simp only [ix2_0] at h0'
    unfold gated nrm
    pointwise
    blk_point [iblk, V, idx t]
    all_goals omega

theorem final (c : Dev nD) : (dats m 0 c).arrAt 6 (cfgs 0).N = REF (m ((c : Thread nD τ).loc main_arg0)) (m ((c : Thread nD τ).loc main_arg1)) (m ((c : Thread nD τ).loc main_arg2))
         (m ((c : Thread nD τ).loc main_arg3)) (m ((c : Thread nD τ).loc main_arg4)) := by
  refine (dats m 0 c).arrAt_eq_of_covers 6 _ (by decide +kernel) fun t _ y => ?_
  have h1 := (idx t).2.2.2.2.2.2.2
  have hy : (y 0).val < 512 := (y 0).isLt
  blk_simp
  rw [after0_6]
  refine (point m c t y (by omega)).trans ?_
  refine congrArg _ ?_
  symm
  blk_ext [idx t]
end Cert.Kernel8Ideal.Ple
end
-- ==== Proof.Ple2.lean ====
module

public import proofs.«01_k».proof.Proof.Gen.Kernel9Ideal.Frame
public import proofs.«01_k».proof.Proof.Gen.Reference9Ideal.Run
public import proofs.«01_k».proof.Proof.Mlp
public import proofs.«01_k».proof.Proof.Ple
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference9Ideal.Ple
open Cert.Reference9Ideal Cert.Reference9Ideal.Gen
open Cert.Reference2Ideal.Mlp (nrm)
open Cert.Reference3Ideal.Ple (gated)
/-- The gated embedding's composed term over the five arguments it reads. -/
def REF (a0 : FVec Ideal S8192x2048 .f32) (a1 : FVec Ideal S4x1x8192x256 .f32) (a2 : FVec Ideal S4x2048 .f32)
    (a3 : FVec Ideal S4x2048x2048 .f32) (a4 : FVec Ideal S4x256x2048 .f32) : FVec Ideal S8192x2048 .f32 :=
  addf a0 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![2, 0] a2 slices_S4x2048_S1x2048_2_0) shapeCasts_S1x2048_S2048)))) (shapeCast _ (extractStridedSlice S1x2048x2048 ![2, 0, 0] a3 slices_S4x2048x2048_S1x2048x2048_2_0_0) shapeCasts_S1x2048x2048_S2048x2048)))))) (Host.dotGeneral dot_S8192x256_S256x2048_S8192x2048_1_0_0_1_n_n none (shapeCast _ (extractStridedSlice S1x1x8192x256 ![2, 0, 0, 0] a1 slices_S4x1x8192x256_S1x1x8192x256_2_0_0_0) shapeCasts_S1x1x8192x256_S8192x256) (shapeCast _ (extractStridedSlice S1x256x2048 ![2, 0, 0] a4 slices_S4x256x2048_S1x256x2048_2_0_0) shapeCasts_S1x256x2048_S256x2048)))

theorem ref_at (a0 : FVec Ideal S8192x2048 .f32) (a1 : FVec Ideal S4x1x8192x256 .f32) (a2 : FVec Ideal S4x2048 .f32)
    (a3 : FVec Ideal S4x2048x2048 .f32) (a4 : FVec Ideal S4x256x2048 .f32) (i : Fin 8192) (j : Fin 2048) :
    REF a0 a1 a2 a3 a4 (ix2 i j) = gated (fun k => a0 (ix2 i k)) (fun k => a1 (ix4 2 0 i k)) (fun k => a2 (ix2 2 k))
      (fun k l => a3 (ix3 2 k l)) (fun k l => a4 (ix3 2 k l)) j := by
  pointwise [REF]
  unfold gated Cert.Reference3Ideal.Ple.nrm
  rfl
end Cert.Reference9Ideal.Ple

namespace Cert.Kernel9Ideal.Ple
open Cert.Kernel9Ideal Cert.Kernel9Ideal.Gen
open Cert.Reference9Ideal.Ple (REF ref_at)
open Cert.Reference3Ideal.Ple (nrm gated)
open Idealize.ShloMosaic.Pipeline (Dat)
variable (m : (ℓ : Loc nD τ sig) → Buf (Elt Ideal) ℓ)

theorem idx : ∀ t : Fin cfg0.N, win0_0.index t = ![t.val, 0] ∧ win0_1.index t = ![0, 0] ∧ win0_2.index t = ![2, 0, t.val, 0]
    ∧ win0_3.index t = ![2, 0, 0] ∧ win0_4.index t = ![2, 0, 0] ∧ win0_5.index t = ![0, 0] ∧ win0_6.index t = ![t.val, 0] ∧ t.val < 16 :=
  (by decide +kernel : ∀ t : Fin grid0.N, _)

theorem payA_at (x : FVec Ideal S256x2048 .f32) (g : FVec Ideal S1x2048 .f32) (wg : FVec Ideal S1x2048x2048 .bf16) (p : FVec Ideal S1x1x256x256 .f32)
    (wp : FVec Ideal S1x256x2048 .bf16) (i : Fin 256) (j : Fin 2048) :
    k0_pay1 (F := Ideal) x g wg p wp (ix2 i j) = gated (fun k => x (ix2 i k)) (fun k => p (ix4 0 0 i k)) (fun k => g (ix2 0 k))
      (fun k l => wg (ix3 0 k l)) (fun k l => wp (ix3 0 k l)) j := by
  pointwise [k0_pay1]
  unfold gated nrm
  simp only [zero_sub]

theorem payB_at (x : FVec Ideal S256x2048 .f32) (g : FVec Ideal S1x2048 .f32) (wg : FVec Ideal S1x2048x2048 .bf16) (p : FVec Ideal S1x1x256x256 .f32)
    (wp : FVec Ideal S1x256x2048 .bf16) (i : Fin 256) (j : Fin 2048) :
    k0_pay2 (F := Ideal) x g wg p wp (ix2 i j) = gated (fun k => x (ix2 i k)) (fun k => p (ix4 0 0 i k)) (fun k => g (ix2 0 k))
      (fun k l => wg (ix3 0 k l)) (fun k l => wp (ix3 0 k l)) j := by
  pointwise [k0_pay2]
  unfold gated nrm
  simp only [zero_sub]

theorem point (c : Dev nD) (t : Fin cfg0.N) (y : S512x2048.Idx) (h : t.val * 512 + (y 0).val < 8192) :
    out0_6 (F := Ideal) (iblk m c 0 t) (iblk m c 1 t) (iblk m c 2 t) (iblk m c 3 t) (iblk m c 4 t) (iblk m c 5 t) y
      = REF (m ((c : Thread nD τ).loc main_arg0)) (m ((c : Thread nD τ).loc main_arg1)) (m ((c : Thread nD τ).loc main_arg2))
         (m ((c : Thread nD τ).loc main_arg3)) (m ((c : Thread nD τ).loc main_arg4))
         (ix2 ⟨t.val * 512 + (y 0).val, h⟩ (y 1)) := by
  refine Eq.trans ?_ (ref_at _ _ _ _ _ _ (y 1)).symm
  unfold out0_6
  canon_tiles x h
  · obtain ⟨i, j, rfl⟩ : ∃ (i : Fin 256) (j : Fin 2048), x = ix2 i j := ⟨x 0, x 1, eq_ix2 x⟩
    refine (payB_at _ _ _ _ _ i j).trans ?_
    have h0' := h0
    have h1' : (y 1).val = j.val := h1
    simp only [ix2_0] at h0'
    unfold gated nrm
    pointwise
    blk_point [iblk, V, idx t]
    all_goals omega
  · obtain ⟨i, j, rfl⟩ : ∃ (i : Fin 256) (j : Fin 2048), x = ix2 i j := ⟨x 0, x 1, eq_ix2 x⟩
    refine (payA_at _ _ _ _ _ i j).trans ?_
    have h0' := h0
    have h1' : (y 1).val = j.val := h1
    simp only [ix2_0] at h0'
    unfold gated nrm
    pointwise
    blk_point [iblk, V, idx t]
    all_goals omega

theorem final (c : Dev nD) : (dats m 0 c).arrAt 6 (cfgs 0).N = REF (m ((c : Thread nD τ).loc main_arg0)) (m ((c : Thread nD τ).loc main_arg1)) (m ((c : Thread nD τ).loc main_arg2))
         (m ((c : Thread nD τ).loc main_arg3)) (m ((c : Thread nD τ).loc main_arg4)) := by
  refine (dats m 0 c).arrAt_eq_of_covers 6 _ (by decide +kernel) fun t _ y => ?_
  have h1 := (idx t).2.2.2.2.2.2.2
  have hy : (y 0).val < 512 := (y 0).isLt
  blk_simp
  rw [after0_6]
  refine (point m c t y (by omega)).trans ?_
  refine congrArg _ ?_
  symm
  blk_ext [idx t]
end Cert.Kernel9Ideal.Ple
end
-- ==== Proof.GdnOut0.lean ====
module

public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference10Ideal.GdnOut
open Cert.Reference10Ideal Cert.Reference10Ideal.Gen
/-- The mixer's output projection, added to the residual, over its three arguments. -/
def REF (a0 : FVec Ideal S8192x2048 .f32) (a1 : FVec Ideal S8192x4096 .bf16) (a2 : FVec Ideal S2x4096x2048 .f32) : FVec Ideal S8192x2048 .f32 :=
  addf a0 (Host.dotGeneral dot_S8192x4096_S4096x2048_S8192x2048_1_0_0_1_n_n none (extf .f32 a1 bitsLt_bf16_f32) (shapeCast _ (extractStridedSlice S1x4096x2048 ![0, 0, 0] a2 slices_S2x4096x2048_S1x4096x2048_0_0_0) shapeCasts_S1x4096x2048_S4096x2048))

theorem ref_at (a0 : FVec Ideal S8192x2048 .f32) (a1 : FVec Ideal S8192x4096 .bf16) (a2 : FVec Ideal S2x4096x2048 .f32) (i : Fin 8192) (j : Fin 2048) :
    REF a0 a1 a2 (ix2 i j) = a0 (ix2 i j) + ∑ k : Fin 4096, a1 (ix2 i k) * a2 (ix3 0 k j) := by
  pointwise [REF]
end Cert.Reference10Ideal.GdnOut

namespace Cert.Kernel10Ideal.GdnOut
open Cert.Kernel10Ideal Cert.Kernel10Ideal.Gen
open Cert.Reference10Ideal.GdnOut (REF ref_at)
open Idealize.ShloMosaic.Pipeline (Dat)
variable (m : (ℓ : Loc nD τ sig) → Buf (Elt Ideal) ℓ)

theorem idx : ∀ t : Fin cfg0.N, win0_0.index t = ![t.val / 4, t.val % 4] ∧ win0_1.index t = ![t.val / 4, 0] ∧ win0_2.index t = ![0, 0, t.val % 4]
    ∧ win0_3.index t = ![t.val / 4, t.val % 4] ∧ t.val < 32 :=
  (by decide +kernel : ∀ t : Fin grid0.N, _)

theorem pay_at (h : FVec Ideal S1024x512 .f32) (x : FVec Ideal S1024x4096 .bf16) (w : FVec Ideal S1x4096x512 .bf16) (i : Fin 1024) (j : Fin 512) :
    k0_pay1 (F := Ideal) h x w (ix2 i j) = h (ix2 i j) + ∑ k : Fin 4096, x (ix2 i k) * w (ix3 0 k j) := by
  pointwise [k0_pay1]

/-- What a point leaves in the result's block. -/
theorem point (c : Dev nD) (t : Fin cfg0.N) (y : S1024x512.Idx) (h : t.val / 4 * 1024 + (y 0).val < 8192) (h' : t.val % 4 * 512 + (y 1).val < 2048) :
    out0_3 (F := Ideal) (iblk m c 0 t) (iblk m c 1 t) (iblk m c 2 t) y
      = REF (m ((c : Thread nD τ).loc main_arg0)) (m ((c : Thread nD τ).loc main_arg1)) (m ((c : Thread nD τ).loc main_arg2))
         (ix2 ⟨t.val / 4 * 1024 + (y 0).val, h⟩ ⟨t.val % 4 * 512 + (y 1).val, h'⟩) := by
  refine Eq.trans ?_ (ref_at _ _ _ _ _).symm
  unfold out0_3
  frame_out
  obtain ⟨i, j, rfl⟩ : ∃ (i : Fin 1024) (j : Fin 512), y = ix2 i j := ⟨y 0, y 1, eq_ix2 y⟩
  refine (pay_at _ _ _ i j).trans ?_
  pointwise
  blk_point [iblk, V, idx t]

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  have h1 := (idx t).2.2.2.2
  have hy : (y 0).val < 1024 := (y 0).isLt
  have hy' : (y 1).val < 512 := (y 1).isLt
  blk_simp
  rw [after0_3]
  refine (point m c t y (by omega) (by omega)).trans ?_
  refine congrArg _ ?_
  symm
  blk_ext [idx t]
end Cert.Kernel10Ideal.GdnOut
end
-- ==== Proof.GdnOut1.lean ====
module

public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference11Ideal.GdnOut
open Cert.Reference11Ideal Cert.Reference11Ideal.Gen
/-- The mixer's output projection, added to the residual, over its three arguments. -/
def REF (a0 : FVec Ideal S8192x2048 .f32) (a1 : FVec Ideal S8192x4096 .bf16) (a2 : FVec Ideal S2x4096x2048 .f32) : FVec Ideal S8192x2048 .f32 :=
  addf a0 (Host.dotGeneral dot_S8192x4096_S4096x2048_S8192x2048_1_0_0_1_n_n none (extf .f32 a1 bitsLt_bf16_f32) (shapeCast _ (extractStridedSlice S1x4096x2048 ![1, 0, 0] a2 slices_S2x4096x2048_S1x4096x2048_1_0_0) shapeCasts_S1x4096x2048_S4096x2048))

theorem ref_at (a0 : FVec Ideal S8192x2048 .f32) (a1 : FVec Ideal S8192x4096 .bf16) (a2 : FVec Ideal S2x4096x2048 .f32) (i : Fin 8192) (j : Fin 2048) :
    REF a0 a1 a2 (ix2 i j) = a0 (ix2 i j) + ∑ k : Fin 4096, a1 (ix2 i k) * a2 (ix3 1 k j) := by
  pointwise [REF]
end Cert.Reference11Ideal.GdnOut

namespace Cert.Kernel11Ideal.GdnOut
open Cert.Kernel11Ideal Cert.Kernel11Ideal.Gen
open Cert.Reference11Ideal.GdnOut (REF ref_at)
open Idealize.ShloMosaic.Pipeline (Dat)
variable (m : (ℓ : Loc nD τ sig) → Buf (Elt Ideal) ℓ)

theorem idx : ∀ t : Fin cfg0.N, win0_0.index t = ![t.val / 4, t.val % 4] ∧ win0_1.index t = ![t.val / 4, 0] ∧ win0_2.index t = ![1, 0, t.val % 4]
    ∧ win0_3.index t = ![t.val / 4, t.val % 4] ∧ t.val < 32 :=
  (by decide +kernel : ∀ t : Fin grid0.N, _)

theorem pay_at (h : FVec Ideal S1024x512 .f32) (x : FVec Ideal S1024x4096 .bf16) (w : FVec Ideal S1x4096x512 .bf16) (i : Fin 1024) (j : Fin 512) :
    k0_pay1 (F := Ideal) h x w (ix2 i j) = h (ix2 i j) + ∑ k : Fin 4096, x (ix2 i k) * w (ix3 0 k j) := by
  pointwise [k0_pay1]

/-- What a point leaves in the result's block. -/
theorem point (c : Dev nD) (t : Fin cfg0.N) (y : S1024x512.Idx) (h : t.val / 4 * 1024 + (y 0).val < 8192) (h' : t.val % 4 * 512 + (y 1).val < 2048) :
    out0_3 (F := Ideal) (iblk m c 0 t) (iblk m c 1 t) (iblk m c 2 t) y
      = REF (m ((c : Thread nD τ).loc main_arg0)) (m ((c : Thread nD τ).loc main_arg1)) (m ((c : Thread nD τ).loc main_arg2))
         (ix2 ⟨t.val / 4 * 1024 + (y 0).val, h⟩ ⟨t.val % 4 * 512 + (y 1).val, h'⟩) := by
  refine Eq.trans ?_ (ref_at _ _ _ _ _).symm
  unfold out0_3
  frame_out
  obtain ⟨i, j, rfl⟩ : ∃ (i : Fin 1024) (j : Fin 512), y = ix2 i j := ⟨y 0, y 1, eq_ix2 y⟩
  refine (pay_at _ _ _ i j).trans ?_
  pointwise
  blk_point [iblk, V, idx t]

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  have h1 := (idx t).2.2.2.2
  have hy : (y 0).val < 1024 := (y 0).isLt
  have hy' : (y 1).val < 512 := (y 1).isLt
  blk_simp
  rw [after0_3]
  refine (point m c t y (by omega) (by omega)).trans ?_
  refine congrArg _ ?_
  symm
  blk_ext [idx t]
end Cert.Kernel11Ideal.GdnOut
end
-- ==== Proof.S5In0.lean ====
module

public import proofs.«01_k».proof.Proof.Gen.Kernel12Ideal.Frame
public import proofs.«01_k».proof.Proof.Gen.Reference12Ideal.Run
public import proofs.«01_k».proof.Proof.Mlp
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference12Ideal.S5In
open Cert.Reference12Ideal Cert.Reference12Ideal.Gen
open Cert.Reference2Ideal.Mlp (nrm)
/-- The normalised rows' input projection, over its three arguments. -/
def REF (a0 : FVec Ideal S8192x2048 .f32) (a1 : FVec Ideal S4x2048 .f32) (a2 : FVec Ideal S2x2048x2048 .f32) : FVec Ideal S8192x2048 .f32 :=
  Host.dotGeneral dot_S8192x2048_S2048x2048_S8192x2048_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] a1 slices_S4x2048_S1x2048_1_0) shapeCasts_S1x2048_S2048)))) (shapeCast _ (extractStridedSlice S1x2048x2048 ![0, 0, 0] a2 slices_S2x2048x2048_S1x2048x2048_0_0_0) shapeCasts_S1x2048x2048_S2048x2048)

theorem ref_at (a0 : FVec Ideal S8192x2048 .f32) (a1 : FVec Ideal S4x2048 .f32) (a2 : FVec Ideal S2x2048x2048 .f32) (i : Fin 8192) (j : Fin 2048) :
    REF a0 a1 a2 (ix2 i j) = ∑ k : Fin 2048, nrm (fun l => a0 (ix2 i l)) (fun l => a1 (ix2 1 l)) k * a2 (ix3 0 k j) := by
  pointwise [REF]
  rfl
end Cert.Reference12Ideal.S5In

namespace Cert.Kernel12Ideal.S5In
open Cert.Kernel12Ideal Cert.Kernel12Ideal.Gen
open Cert.Reference12Ideal.S5In (REF ref_at)
open Cert.Reference2Ideal.Mlp (nrm)
open Idealize.ShloMosaic.Pipeline (Dat)
variable (m : (ℓ : Loc nD τ sig) → Buf (Elt Ideal) ℓ)

theorem idx : ∀ t : Fin cfg0.N, win0_0.index t = ![t.val / 4, 0] ∧ win0_1.index t = ![0, 0] ∧ win0_2.index t = ![0, 0, t.val % 4]
    ∧ win0_3.index t = ![t.val / 4, t.val % 4] ∧ t.val < 32 :=
  (by decide +kernel : ∀ t : Fin grid0.N, _)

theorem pay1_at (x : FVec Ideal S1024x2048 .f32) (g : FVec Ideal S1x2048 .f32) (i : Fin 1024) (k : Fin 2048) :
    k0_pay1 (F := Ideal) x g (ix2 i k) = nrm (fun l => x (ix2 i l)) (fun l => g (ix2 0 l)) k := by
  pointwise [k0_pay1]
  rfl

theorem pay2_at (xs : FVec Ideal S1024x2048 .bf16) (w : FVec Ideal S1x2048x512 .bf16) (i : Fin 1024) (j : Fin 512) :
    k0_pay2 (F := Ideal) xs w (ix2 i j) = ∑ k : Fin 2048, xs (ix2 i k) * w (ix3 0 k j) := by
  pointwise [k0_pay2]

theorem outA (c : Dev nD) (t : Fin cfg0.N) (h0 : t.val % 4 = 0) :
    (outsAt0 m c t.val t.isLt).1 = k0_pay2 (F := Ideal) (k0_pay1 (F := Ideal) (iblk m c 0 t) (iblk m c 1 t)) (iblk m c 2 t) := by
  rw [outsAt0_A m c t h0]
  frame_out
theorem scA (c : Dev nD) (t : Fin cfg0.N) (h0 : t.val % 4 = 0) :
    (outsAt0 m c t.val t.isLt).2 = k0_pay1 (F := Ideal) (iblk m c 0 t) (iblk m c 1 t) := by
  rw [outsAt0_A m c t h0]
  frame_out
theorem outB (c : Dev nD) (t : Fin cfg0.N) (h0 : ¬ t.val % 4 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]
  frame_out
  rw [(Memref.isWhole_whole cc0_scratch0).read_unread]
theorem scB (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

theorem blk0_at (c : Dev nD) (t : Fin cfg0.N) (i : Fin 1024) (j : Fin 2048) (h : t.val / 4 * 1024 + i.val < 8192) :
    (iblk m c 0 t : FVec Ideal S1024x2048 .f32) (ix2 i j) = (m ((c : Thread nD τ).loc main_arg0) : FVec Ideal S8192x2048 .f32) (ix2 ⟨t.val / 4 * 1024 + i.val, h⟩ j) := by
  blk_point [iblk, V, idx t]
theorem blk1_at (c : Dev nD) (t : Fin cfg0.N) (j : Fin 2048) :
    (iblk m c 1 t : FVec Ideal S1x2048 .f32) (ix2 0 j) = (m ((c : Thread nD τ).loc main_arg1) : FVec Ideal S4x2048 .f32) (ix2 1 j) := by
  blk_point [iblk, V, idx t]
theorem blk2_at (c : Dev nD) (t : Fin cfg0.N) (k : Fin 2048) (f : Fin 512) (h : t.val % 4 * 512 + f.val < 2048) :
    (iblk m c 2 t : FVec Ideal S1x2048x512 .bf16) (ix3 0 k f) = (m ((c : Thread nD τ).loc main_arg2) : FVec Ideal S2x2048x2048 .f32) (ix3 0 k ⟨t.val % 4 * 512 + f.val, h⟩) := by
  blk_point [iblk, V, idx t]

/-- The launch contents of the three arguments on device `c`. -/
abbrev X (c : Dev nD) : FVec Ideal S8192x2048 .f32 := m ((c : Thread nD τ).loc main_arg0)
abbrev Gm (c : Dev nD) : FVec Ideal S4x2048 .f32 := m ((c : Thread nD τ).loc main_arg1)
abbrev W (c : Dev nD) : FVec Ideal S2x2048x2048 .f32 := m ((c : Thread nD τ).loc main_arg2)

theorem rows_at (c : Dev nD) (t : Fin cfg0.N) (i : Fin 1024) (k : Fin 2048) (h : t.val / 4 * 1024 + i.val < 8192) :
    k0_pay1 (F := Ideal) (iblk m c 0 t) (iblk m c 1 t) (ix2 i k)
      = nrm (fun l => X m c (ix2 ⟨t.val / 4 * 1024 + i.val, h⟩ l)) (fun l => Gm m c (ix2 1 l)) k := by
  refine (pay1_at (iblk m c 0 t) (iblk m c 1 t) i k).trans ?_
  congr 1
  · funext l; exact blk0_at m c t i l h
  · funext l; exact blk1_at m c t l

/-- The scratch after any point holds the normalised rows of the point's block. -/
theorem scratch_at (c : Dev nD) : ∀ (n : ℕ) (hn : n < cfg0.N) (i : Fin 1024) (k : Fin 2048) (h : n / 4 * 1024 + i.val < 8192),
    (outsAt0 m c n hn).2 (ix2 i k) = nrm (fun l => X m c (ix2 ⟨n / 4 * 1024 + i.val, h⟩ l)) (fun l => Gm m c (ix2 1 l)) k := by
  intro n
  induction n with
  | zero =>
    intro hn i k h
    rw [scA m c ⟨0, hn⟩ rfl]
    exact rows_at m c ⟨0, hn⟩ i k h
  | succ n ih =>
    intro hn i k h
    by_cases h0 : (n + 1) % 4 = 0
    · rw [scA m c ⟨n + 1, hn⟩ h0]
      exact rows_at m c ⟨n + 1, hn⟩ i k h
    · rw [scB m c ⟨n + 1, hn⟩ h0]
      have e : (n + 1) / 4 = n / 4 := by omega
      have h' : n / 4 * 1024 + i.val < 8192 := by rw [← e]; exact h
      refine (ih (Nat.lt_of_succ_lt hn) i k h').trans ?_
      simp only [e]

theorem pay2_ref (c : Dev nD) (t : Fin cfg0.N) (xs : FVec Ideal S1024x2048 .bf16) (i : Fin 1024) (j : Fin 512)
    (h : t.val / 4 * 1024 + i.val < 8192) (h' : t.val % 4 * 512 + j.val < 2048)
    (hxs : ∀ k, xs (ix2 i k) = nrm (fun l => X m c (ix2 ⟨t.val / 4 * 1024 + i.val, h⟩ l)) (fun l => Gm m c (ix2 1 l)) k) :
    k0_pay2 (F := Ideal) xs (iblk m c 2 t) (ix2 i j) = REF (X m c) (Gm m c) (W m c) (ix2 ⟨t.val / 4 * 1024 + i.val, h⟩ ⟨t.val % 4 * 512 + j.val, h'⟩) := by
  refine (pay2_at xs (iblk m c 2 t) i j).trans ?_
  refine Eq.trans ?_ (ref_at (X m c) (Gm m c) (W m c) _ _).symm
  refine Finset.sum_congr rfl fun k _ => ?_
  rw [hxs, show (iblk m c 2 t : FVec Ideal S1x2048x512 .bf16) (ix3 0 k j) = _ from blk2_at m c t k j h']

/-- What a point leaves in the result's block. -/
theorem point (c : Dev nD) (t : Fin cfg0.N) (i : Fin 1024) (j : Fin 512) (h : t.val / 4 * 1024 + i.val < 8192) (h' : t.val % 4 * 512 + j.val < 2048) :
    (outsAt0 m c t.val t.isLt).1 (ix2 i j) = REF (X m c) (Gm m c) (W m c) (ix2 ⟨t.val / 4 * 1024 + i.val, h⟩ ⟨t.val % 4 * 512 + j.val, h'⟩) := by
  by_cases h0 : t.val % 4 = 0
  · rw [outA m c t h0]
    exact pay2_ref m c t _ i j h h' fun k => rows_at m c t i k h
  · rw [outB m c t h0]
    refine pay2_ref m c t _ i j h h' fun k => ?_
    have e : (t.val - 1) / 4 = t.val / 4 := by omega
    refine (scratch_at m c (t.val - 1) _ i k (by rw [e]; exact h)).trans ?_
    simp only [e]

/-- The result array after the run is the reference's term. -/
theorem final (c : Dev nD) : (dats m 0 c).arrAt 3 (cfgs 0).N = REF (X m c) (Gm m c) (W m c) := by
  refine (dats m 0 c).arrAt_eq_of_covers 3 _ (by decide +kernel) fun t _ y => ?_
  have h1 := (idx t).2.2.2.2
  have hy : (y 0).val < 1024 := (y 0).isLt
  have hy' : (y 1).val < 512 := (y 1).isLt
  blk_simp
  rw [after0_3]
  refine (congrArg _ (eq_ix2 (n0 := 1024) (n1 := 512) y)).trans ((point m c t (y 0) (y 1) (by omega) (by omega)).trans ?_)
  refine congrArg _ ?_
  symm
  blk_ext [idx t]
end Cert.Kernel12Ideal.S5In
end
-- ==== Proof.S5In1.lean ====
module

public import proofs.«01_k».proof.Proof.Gen.Kernel13Ideal.Frame
public import proofs.«01_k».proof.Proof.Gen.Reference13Ideal.Run
public import proofs.«01_k».proof.Proof.Mlp
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Reference13Ideal.S5In
open Cert.Reference13Ideal Cert.Reference13Ideal.Gen
open Cert.Reference2Ideal.Mlp (nrm)
/-- The normalised rows' input projection, over its three arguments. -/
def REF (a0 : FVec Ideal S8192x2048 .f32) (a1 : FVec Ideal S4x2048 .f32) (a2 : FVec Ideal S2x2048x2048 .f32) : FVec Ideal S8192x2048 .f32 :=
  Host.dotGeneral dot_S8192x2048_S2048x2048_S8192x2048_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![3, 0] a1 slices_S4x2048_S1x2048_3_0) shapeCasts_S1x2048_S2048)))) (shapeCast _ (extractStridedSlice S1x2048x2048 ![1, 0, 0] a2 slices_S2x2048x2048_S1x2048x2048_1_0_0) shapeCasts_S1x2048x2048_S2048x2048)

theorem ref_at (a0 : FVec Ideal S8192x2048 .f32) (a1 : FVec Ideal S4x2048 .f32) (a2 : FVec Ideal S2x2048x2048 .f32) (i : Fin 8192) (j : Fin 2048) :
    REF a0 a1 a2 (ix2 i j) = ∑ k : Fin 2048, nrm (fun l => a0 (ix2 i l)) (fun l => a1 (ix2 3 l)) k * a2 (ix3 1 k j) := by
  pointwise [REF]
  rfl
end Cert.Reference13Ideal.S5In

namespace Cert.Kernel13Ideal.S5In
open Cert.Kernel13Ideal Cert.Kernel13Ideal.Gen
open Cert.Reference13Ideal.S5In (REF ref_at)
open Cert.Reference2Ideal.Mlp (nrm)
open Idealize.ShloMosaic.Pipeline (Dat)
variable (m : (ℓ : Loc nD τ sig) → Buf (Elt Ideal) ℓ)

theorem idx : ∀ t : Fin cfg0.N, win0_0.index t = ![t.val / 4, 0] ∧ win0_1.index t = ![0, 0] ∧ win0_2.index t = ![1, 0, t.val % 4]
    ∧ win0_3.index t = ![t.val / 4, t.val % 4] ∧ t.val < 32 :=
  (by decide +kernel : ∀ t : Fin grid0.N, _)

theorem pay1_at (x : FVec Ideal S1024x2048 .f32) (g : FVec Ideal S1x2048 .f32) (i : Fin 1024) (k : Fin 2048) :
    k0_pay1 (F := Ideal) x g (ix2 i k) = nrm (fun l => x (ix2 i l)) (fun l => g (ix2 0 l)) k := by
  pointwise [k0_pay1]
  rfl

theorem pay2_at (xs : FVec Ideal S1024x2048 .bf16) (w : FVec Ideal S1x2048x512 .bf16) (i : Fin 1024) (j : Fin 512) :
    k0_pay2 (F := Ideal) xs w (ix2 i j) = ∑ k : Fin 2048, xs (ix2 i k) * w (ix3 0 k j) := by
  pointwise [k0_pay2]

theorem outA (c : Dev nD) (t : Fin cfg0.N) (h0 : t.val % 4 = 0) :
    (outsAt0 m c t.val t.isLt).1 = k0_pay2 (F := Ideal) (k0_pay1 (F := Ideal) (iblk m c 0 t) (iblk m c 1 t)) (iblk m c 2 t) := by
  rw [outsAt0_A m c t h0]
  frame_out
theorem scA (c : Dev nD) (t : Fin cfg0.N) (h0 : t.val % 4 = 0) :
    (outsAt0 m c t.val t.isLt).2 = k0_pay1 (F := Ideal) (iblk m c 0 t) (iblk m c 1 t) := by
  rw [outsAt0_A m c t h0]
  frame_out
theorem outB (c : Dev nD) (t : Fin cfg0.N) (h0 : ¬ t.val % 4 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]
  frame_out
  rw [(Memref.isWhole_whole cc0_scratch0).read_unread]
theorem scB (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

theorem blk0_at (c : Dev nD) (t : Fin cfg0.N) (i : Fin 1024) (j : Fin 2048) (h : t.val / 4 * 1024 + i.val < 8192) :
    (iblk m c 0 t : FVec Ideal S1024x2048 .f32) (ix2 i j) = (m ((c : Thread nD τ).loc main_arg0) : FVec Ideal S8192x2048 .f32) (ix2 ⟨t.val / 4 * 1024 + i.val, h⟩ j) := by
  blk_point [iblk, V, idx t]
theorem blk1_at (c : Dev nD) (t : Fin cfg0.N) (j : Fin 2048) :
    (iblk m c 1 t : FVec Ideal S1x2048 .f32) (ix2 0 j) = (m ((c : Thread nD τ).loc main_arg1) : FVec Ideal S4x2048 .f32) (ix2 3 j) := by
  blk_point [iblk, V, idx t]
theorem blk2_at (c : Dev nD) (t : Fin cfg0.N) (k : Fin 2048) (f : Fin 512) (h : t.val % 4 * 512 + f.val < 2048) :
    (iblk m c 2 t : FVec Ideal S1x2048x512 .bf16) (ix3 0 k f) = (m ((c : Thread nD τ).loc main_arg2) : FVec Ideal S2x2048x2048 .f32) (ix3 1 k ⟨t.val % 4 * 512 + f.val, h⟩) := by
  blk_point [iblk, V, idx t]

/-- The launch contents of the three arguments on device `c`. -/
abbrev X (c : Dev nD) : FVec Ideal S8192x2048 .f32 := m ((c : Thread nD τ).loc main_arg0)
abbrev Gm (c : Dev nD) : FVec Ideal S4x2048 .f32 := m ((c : Thread nD τ).loc main_arg1)
abbrev W (c : Dev nD) : FVec Ideal S2x2048x2048 .f32 := m ((c : Thread nD τ).loc main_arg2)

theorem rows_at (c : Dev nD) (t : Fin cfg0.N) (i : Fin 1024) (k : Fin 2048) (h : t.val / 4 * 1024 + i.val < 8192) :
    k0_pay1 (F := Ideal) (iblk m c 0 t) (iblk m c 1 t) (ix2 i k)
      = nrm (fun l => X m c (ix2 ⟨t.val / 4 * 1024 + i.val, h⟩ l)) (fun l => Gm m c (ix2 3 l)) k := by
  refine (pay1_at (iblk m c 0 t) (iblk m c 1 t) i k).trans ?_
  congr 1
  · funext l; exact blk0_at m c t i l h
  · funext l; exact blk1_at m c t l

/-- The scratch after any point holds the normalised rows of the point's block. -/
theorem scratch_at (c : Dev nD) : ∀ (n : ℕ) (hn : n < cfg0.N) (i : Fin 1024) (k : Fin 2048) (h : n / 4 * 1024 + i.val < 8192),
    (outsAt0 m c n hn).2 (ix2 i k) = nrm (fun l => X m c (ix2 ⟨n / 4 * 1024 + i.val, h⟩ l)) (fun l => Gm m c (ix2 3 l)) k := by
  intro n
  induction n with
  | zero =>
    intro hn i k h
    rw [scA m c ⟨0, hn⟩ rfl]
    exact rows_at m c ⟨0, hn⟩ i k h
  | succ n ih =>
    intro hn i k h
    by_cases h0 : (n + 1) % 4 = 0
    · rw [scA m c ⟨n + 1, hn⟩ h0]
      exact rows_at m c ⟨n + 1, hn⟩ i k h
    · rw [scB m c ⟨n + 1, hn⟩ h0]
      have e : (n + 1) / 4 = n / 4 := by omega
      have h' : n / 4 * 1024 + i.val < 8192 := by rw [← e]; exact h
      refine (ih (Nat.lt_of_succ_lt hn) i k h').trans ?_
      simp only [e]

theorem pay2_ref (c : Dev nD) (t : Fin cfg0.N) (xs : FVec Ideal S1024x2048 .bf16) (i : Fin 1024) (j : Fin 512)
    (h : t.val / 4 * 1024 + i.val < 8192) (h' : t.val % 4 * 512 + j.val < 2048)
    (hxs : ∀ k, xs (ix2 i k) = nrm (fun l => X m c (ix2 ⟨t.val / 4 * 1024 + i.val, h⟩ l)) (fun l => Gm m c (ix2 3 l)) k) :
    k0_pay2 (F := Ideal) xs (iblk m c 2 t) (ix2 i j) = REF (X m c) (Gm m c) (W m c) (ix2 ⟨t.val / 4 * 1024 + i.val, h⟩ ⟨t.val % 4 * 512 + j.val, h'⟩) := by
  refine (pay2_at xs (iblk m c 2 t) i j).trans ?_
  refine Eq.trans ?_ (ref_at (X m c) (Gm m c) (W m c) _ _).symm
  refine Finset.sum_congr rfl fun k _ => ?_
  rw [hxs, show (iblk m c 2 t : FVec Ideal S1x2048x512 .bf16) (ix3 0 k j) = _ from blk2_at m c t k j h']

/-- What a point leaves in the result's block. -/
theorem point (c : Dev nD) (t : Fin cfg0.N) (i : Fin 1024) (j : Fin 512) (h : t.val / 4 * 1024 + i.val < 8192) (h' : t.val % 4 * 512 + j.val < 2048) :
    (outsAt0 m c t.val t.isLt).1 (ix2 i j) = REF (X m c) (Gm m c) (W m c) (ix2 ⟨t.val / 4 * 1024 + i.val, h⟩ ⟨t.val % 4 * 512 + j.val, h'⟩) := by
  by_cases h0 : t.val % 4 = 0
  · rw [outA m c t h0]
    exact pay2_ref m c t _ i j h h' fun k => rows_at m c t i k h
  · rw [outB m c t h0]
    refine pay2_ref m c t _ i j h h' fun k => ?_
    have e : (t.val - 1) / 4 = t.val / 4 := by omega
    refine (scratch_at m c (t.val - 1) _ i k (by rw [e]; exact h)).trans ?_
    simp only [e]

/-- The result array after the run is the reference's term. -/
theorem final (c : Dev nD) : (dats m 0 c).arrAt 3 (cfgs 0).N = REF (X m c) (Gm m c) (W m c) := by
  refine (dats m 0 c).arrAt_eq_of_covers 3 _ (by decide +kernel) fun t _ y => ?_
  have h1 := (idx t).2.2.2.2
  have hy : (y 0).val < 1024 := (y 0).isLt
  have hy' : (y 1).val < 512 := (y 1).isLt
  blk_simp
  rw [after0_3]
  refine (congrArg _ (eq_ix2 (n0 := 1024) (n1 := 512) y)).trans ((point m c t (y 0) (y 1) (by omega) (by omega)).trans ?_)
  refine congrArg _ ?_
  symm
  blk_ext [idx t]
end Cert.Kernel13Ideal.S5In
end
-- ==== Proof.S5Out0.lean ====
module

public import proofs.«01_k».proof.Proof.Gen.Kernel14Ideal.Frame
public import proofs.«01_k».proof.Proof.Gen.Reference14Ideal.Run
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem

namespace Cert.Reference14Ideal.S5Out
open Cert.Reference14Ideal Cert.Reference14Ideal.Gen
/-- The gated output projection, added to the residual, over its three arguments. -/
def REF (a0 a1 : FVec Ideal S8192x2048 .f32) (a2 : FVec Ideal S2x2048x4096 .f32) : FVec Ideal S8192x2048 .f32 :=
  addf a0 (mulf (extractStridedSlice S8192x2048 ![0, 0] (Host.dotGeneral dot_S8192x2048_S2048x4096_S8192x4096_1_0_0_1_n_n none a1 (shapeCast _ (extractStridedSlice S1x2048x4096 ![0, 0, 0] a2 slices_S2x2048x4096_S1x2048x4096_0_0_0) shapeCasts_S1x2048x4096_S2048x4096)) slices_S8192x4096_S8192x2048_0_0) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] (Host.dotGeneral dot_S8192x2048_S2048x4096_S8192x4096_1_0_0_1_n_n none a1 (shapeCast _ (extractStridedSlice S1x2048x4096 ![0, 0, 0] a2 slices_S2x2048x4096_S1x2048x4096_0_0_0) shapeCasts_S1x2048x4096_S2048x4096)) slices_S8192x4096_S8192x2048_0_2048))))))

/-- A gated linear unit added to the residual element. -/
def glu (h : EReal) (a wa wb : Fin 2048 → EReal) : EReal :=
  h + (∑ k : Fin 2048, a k * wa k) * Ideal.div 1 (1 + Ideal.exp (-(∑ k : Fin 2048, a k * wb k)))

theorem ref_at (a0 a1 : FVec Ideal S8192x2048 .f32) (a2 : FVec Ideal S2x2048x4096 .f32) (i : Fin 8192) (j : Fin 2048) :
    REF a0 a1 a2 (ix2 i j) = glu (a0 (ix2 i j)) (fun k => a1 (ix2 i k)) (fun k => a2 (ix3 0 k ⟨j.val, by omega⟩)) (fun k => a2 (ix3 0 k ⟨2048 + j.val, by omega⟩)) := by
  pointwise [REF]
  rfl
end Cert.Reference14Ideal.S5Out

namespace Cert.Kernel14Ideal.S5Out
open Cert.Kernel14Ideal Cert.Kernel14Ideal.Gen
open Cert.Reference14Ideal.S5Out (REF ref_at)
open Cert.Reference14Ideal.S5Out (glu)
open Idealize.ShloMosaic.Pipeline (Dat)
variable (m : (ℓ : Loc nD τ sig) → Buf (Elt Ideal) ℓ)

theorem idx : ∀ t : Fin cfg0.N, win0_0.index t = ![t.val / 4, t.val % 4] ∧ win0_1.index t = ![t.val / 4, 0] ∧ win0_2.index t = ![0, 0, t.val % 4]
    ∧ win0_3.index t = ![0, 0, 4 + t.val % 4] ∧ win0_4.index t = ![t.val / 4, t.val % 4] ∧ t.val < 32 :=
  (by decide +kernel : ∀ t : Fin grid0.N, _)

theorem p1_at (a : FVec Ideal S256x2048 .bf16) (h : FVec Ideal S256x512 .f32) (wa wb : FVec Ideal S1x2048x512 .bf16) (i : Fin 256) (j : Fin 512) :
    k0_pay1 (F := Ideal) a h wa wb (ix2 i j) = glu (h (ix2 i j)) (fun k => a (ix2 i k)) (fun k => wa (ix3 0 k j)) (fun k => wb (ix3 0 k j)) := by
  pointwise [k0_pay1]
  unfold glu
  simp only [zero_sub]

theorem p3_at (a : FVec Ideal S256x2048 .bf16) (h : FVec Ideal S256x512 .f32) (wa wb : FVec Ideal S1x2048x512 .bf16) (i : Fin 256) (j : Fin 512) :
    k0_pay3 (F := Ideal) a h wa wb (ix2 i j) = glu (h (ix2 i j)) (fun k => a (ix2 i k)) (fun k => wa (ix3 0 k j)) (fun k => wb (ix3 0 k j)) := by
  pointwise [k0_pay3]
  unfold glu
  simp only [zero_sub]

theorem p5_at (a : FVec Ideal S256x2048 .bf16) (h : FVec Ideal S256x512 .f32) (wa wb : FVec Ideal S1x2048x512 .bf16) (i : Fin 256) (j : Fin 512) :
    k0_pay5 (F := Ideal) a h (k0_pay4 (F := Ideal) a wa) wb (ix2 i j) = glu (h (ix2 i j)) (fun k => a (ix2 i k)) (fun k => wa (ix3 0 k j)) (fun k => wb (ix3 0 k j)) := by
  pointwise [k0_pay5, k0_pay4]
  unfold glu
  simp only [zero_sub]

theorem p6_at (a : FVec Ideal S256x2048 .bf16) (h : FVec Ideal S256x512 .f32) (wa wb : FVec Ideal S1x2048x512 .bf16) (i : Fin 256) (j : Fin 512) :
    k0_pay6 (F := Ideal) a h wa wb (ix2 i j) = glu (h (ix2 i j)) (fun k => a (ix2 i k)) (fun k => wa (ix3 0 k j)) (fun k => wb (ix3 0 k j)) := by
  pointwise [k0_pay6]
  unfold glu
  simp only [zero_sub]

/-- What a point computes at one element, over the rows it holds. -/
def elt (c : Dev nD) (t : Fin cfg0.N) (a : FVec Ideal S1024x2048 .bf16) (y : S1024x512.Idx) : EReal :=
  glu ((iblk m c 0 t : FVec Ideal S1024x512 .f32) y) (fun k => a (ix2 (y 0) k))
    (fun k => (iblk m c 2 t : FVec Ideal S1x2048x512 .bf16) (ix3 0 k (y 1))) (fun k => (iblk m c 3 t : FVec Ideal S1x2048x512 .bf16) (ix3 0 k (y 1)))

theorem outA (c : Dev nD) (t : Fin cfg0.N) (y : S1024x512.Idx) (e0 : t.val % 4 = 0) :
    (outsAt0 m c t.val t.isLt).1 y = elt m c t (iblk m c 1 t) y := by
  rw [outsAt0_A m c t e0]
  frame_out
  canon_tiles x h
  all_goals
    obtain ⟨i, j, rfl⟩ : ∃ (i : Fin 256) (j : Fin 512), x = ix2 i j := ⟨x 0, x 1, eq_ix2 x⟩
    have h0' := h0
    have h1' : (y 1).val = j.val := h1
    simp only [ix2_0] at h0'
    first
      | refine (p1_at _ _ _ _ i j).trans ?_
      | refine (p6_at _ _ _ _ i j).trans ?_
      | refine (p5_at _ _ _ _ i j).trans ?_
      | refine (p3_at _ _ _ _ i j).trans ?_
    have ey : y = ix2 (n0 := 1024) (n1 := 512) (y 0) (y 1) := eq_ix2 y
    have ey1 : (j : Fin 512) = y 1 := Fin.ext h1'.symm
    unfold elt
    refine congr (congr (congr (congrArg glu ?_) (funext fun k => ?_)) (funext fun k => ?_)) (funext fun k => ?_)
    · pointwise
      refine congrArg _ ((congrArg₂ (ix2 (n0 := 1024) (n1 := 512)) (Fin.ext ?_) ey1).trans ey.symm)
      dsimp only
      omega
    · rw [View.readCov_fill _ _ _ _ _ (by intro a; fin_cases a <;> rfl)]
      pointwise [k0_pay2]
      pointwise
      refine congrArg _ (congrArg (fun a => ix2 (n0 := 1024) (n1 := 2048) a k) (Fin.ext ?_))
      dsimp only
      omega
    · rw [ey1]
    · rw [ey1]

theorem scA (c : Dev nD) (t : Fin cfg0.N) (h0 : t.val % 4 = 0) :
    (outsAt0 m c t.val t.isLt).2 = k0_pay2 (F := Ideal) (iblk m c 1 t) := by
  rw [outsAt0_A m c t h0]
  frame_out
theorem outB (c : Dev nD) (t : Fin cfg0.N) (y : S1024x512.Idx) (e0 : ¬ t.val % 4 = 0) :
    (outsAt0 m c t.val t.isLt).1 y = elt m c t (outsAt0 m c (t.val - 1) (Nat.lt_of_le_of_lt (Nat.sub_le _ _) t.isLt)).2 y := by
  rw [outsAt0_B m c t e0]
  frame_out
  canon_tiles x h
  all_goals
    obtain ⟨i, j, rfl⟩ : ∃ (i : Fin 256) (j : Fin 512), x = ix2 i j := ⟨x 0, x 1, eq_ix2 x⟩
    have h0' := h0
    have h1' : (y 1).val = j.val := h1
    simp only [ix2_0] at h0'
    first
      | refine (p1_at _ _ _ _ i j).trans ?_
      | refine (p6_at _ _ _ _ i j).trans ?_
      | refine (p5_at _ _ _ _ i j).trans ?_
      | refine (p3_at _ _ _ _ i j).trans ?_
    have ey : y = ix2 (n0 := 1024) (n1 := 512) (y 0) (y 1) := eq_ix2 y
    have ey1 : (j : Fin 512) = y 1 := Fin.ext h1'.symm
    unfold elt
    refine congr (congr (congr (congrArg glu ?_) (funext fun k => ?_)) (funext fun k => ?_)) (funext fun k => ?_)
    · pointwise
      refine congrArg _ ((congrArg₂ (ix2 (n0 := 1024) (n1 := 512)) (Fin.ext ?_) ey1).trans ey.symm)
      dsimp only
      omega
    · rw [(Memref.isWhole_whole cc0_scratch0).read_unread]
      pointwise
      refine congrArg _ (congrArg (fun a => ix2 (n0 := 1024) (n1 := 2048) a k) (Fin.ext ?_))
      dsimp only
      omega
    · rw [ey1]
    · rw [ey1]

theorem scB (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

theorem pay2_at (x : FVec Ideal S1024x2048 .f32) (i : Fin 1024) (k : Fin 2048) : k0_pay2 (F := Ideal) x (ix2 i k) = x (ix2 i k) := by
  pointwise [k0_pay2]

theorem blk0_at (c : Dev nD) (t : Fin cfg0.N) (i : Fin 1024) (j : Fin 512) (h : t.val / 4 * 1024 + i.val < 8192) (h' : t.val % 4 * 512 + j.val < 2048) :
    (iblk m c 0 t : FVec Ideal S1024x512 .f32) (ix2 i j) = (m ((c : Thread nD τ).loc main_arg0) : FVec Ideal S8192x2048 .f32) (ix2 ⟨t.val / 4 * 1024 + i.val, h⟩ ⟨t.val % 4 * 512 + j.val, h'⟩) := by
  blk_point [iblk, V, idx t]
theorem blk1_at (c : Dev nD) (t : Fin cfg0.N) (i : Fin 1024) (j : Fin 2048) (h : t.val / 4 * 1024 + i.val < 8192) :
    (iblk m c 1 t : FVec Ideal S1024x2048 .f32) (ix2 i j) = (m ((c : Thread nD τ).loc main_arg1) : FVec Ideal S8192x2048 .f32) (ix2 ⟨t.val / 4 * 1024 + i.val, h⟩ j) := by
  blk_point [iblk, V, idx t]
theorem blk2_at (c : Dev nD) (t : Fin cfg0.N) (k : Fin 2048) (f : Fin 512) (h : t.val % 4 * 512 + f.val < 4096) :
    (iblk m c 2 t : FVec Ideal S1x2048x512 .bf16) (ix3 0 k f) = (m ((c : Thread nD τ).loc main_arg2) : FVec Ideal S2x2048x4096 .f32) (ix3 0 k ⟨t.val % 4 * 512 + f.val, h⟩) := by
  blk_point [iblk, V, idx t]
theorem blk3_at (c : Dev nD) (t : Fin cfg0.N) (k : Fin 2048) (f : Fin 512) (h : 2048 + (t.val % 4 * 512 + f.val) < 4096) :
    (iblk m c 3 t : FVec Ideal S1x2048x512 .bf16) (ix3 0 k f) = (m ((c : Thread nD τ).loc main_arg2) : FVec Ideal S2x2048x4096 .f32) (ix3 0 k ⟨2048 + (t.val % 4 * 512 + f.val), h⟩) := by
  blk_point [iblk, V, idx t]
  all_goals omega

/-- The launch contents of the three arguments on device `c`. -/
abbrev X (c : Dev nD) : FVec Ideal S8192x2048 .f32 := m ((c : Thread nD τ).loc main_arg0)
abbrev Y (c : Dev nD) : FVec Ideal S8192x2048 .f32 := m ((c : Thread nD τ).loc main_arg1)
abbrev W (c : Dev nD) : FVec Ideal S2x2048x4096 .f32 := m ((c : Thread nD τ).loc main_arg2)

/-- The scratch after any point holds the rows of the point's block. -/
theorem scratch_at (c : Dev nD) : ∀ (n : ℕ) (hn : n < cfg0.N) (i : Fin 1024) (k : Fin 2048) (h : n / 4 * 1024 + i.val < 8192),
    (outsAt0 m c n hn).2 (ix2 i k) = Y m c (ix2 ⟨n / 4 * 1024 + i.val, h⟩ k) := by
  intro n
  induction n with
  | zero =>
    intro hn i k h
    rw [scA m c ⟨0, hn⟩ rfl]
    exact (pay2_at _ i k).trans (blk1_at m c ⟨0, hn⟩ i k h)
  | succ n ih =>
    intro hn i k h
    by_cases h0 : (n + 1) % 4 = 0
    · rw [scA m c ⟨n + 1, hn⟩ h0]
      exact (pay2_at _ i k).trans (blk1_at m c ⟨n + 1, hn⟩ i k h)
    · rw [scB m c ⟨n + 1, hn⟩ h0]
      have e : (n + 1) / 4 = n / 4 := by omega
      have h' : n / 4 * 1024 + i.val < 8192 := by rw [← e]; exact h
      refine (ih (Nat.lt_of_succ_lt hn) i k h').trans ?_
      simp only [e]

theorem elt_ref (c : Dev nD) (t : Fin cfg0.N) (xs : FVec Ideal S1024x2048 .bf16) (i : Fin 1024) (j : Fin 512)
    (h : t.val / 4 * 1024 + i.val < 8192) (h' : t.val % 4 * 512 + j.val < 2048)
    (hxs : ∀ k, xs (ix2 i k) = Y m c (ix2 ⟨t.val / 4 * 1024 + i.val, h⟩ k)) :
    elt m c t xs (ix2 i j) = REF (X m c) (Y m c) (W m c) (ix2 ⟨t.val / 4 * 1024 + i.val, h⟩ ⟨t.val % 4 * 512 + j.val, h'⟩) := by
  refine Eq.trans ?_ (ref_at (X m c) (Y m c) (W m c) _ _).symm
  have e1 : (fun k => xs (ix2 i k)) = fun k => Y m c (ix2 ⟨t.val / 4 * 1024 + i.val, h⟩ k) := funext hxs
  have e2 : (fun k => (iblk m c 2 t : FVec Ideal S1x2048x512 .bf16) (ix3 0 k j)) = _ := funext fun k => blk2_at m c t k j (by omega)
  have e3 : (fun k => (iblk m c 3 t : FVec Ideal S1x2048x512 .bf16) (ix3 0 k j)) = _ := funext fun k => blk3_at m c t k j (by omega)
  show glu ((iblk m c 0 t : FVec Ideal S1024x512 .f32) (ix2 i j)) (fun k => xs (ix2 i k)) (fun k => (iblk m c 2 t : FVec Ideal S1x2048x512 .bf16) (ix3 0 k j))
    (fun k => (iblk m c 3 t : FVec Ideal S1x2048x512 .bf16) (ix3 0 k j)) = _
  rw [e1, e2, e3, blk0_at m c t i j h h']

/-- What a point leaves in the result's block. -/
theorem point (c : Dev nD) (t : Fin cfg0.N) (i : Fin 1024) (j : Fin 512) (h : t.val / 4 * 1024 + i.val < 8192) (h' : t.val % 4 * 512 + j.val < 2048) :
    (outsAt0 m c t.val t.isLt).1 (ix2 i j) = REF (X m c) (Y m c) (W m c) (ix2 ⟨t.val / 4 * 1024 + i.val, h⟩ ⟨t.val % 4 * 512 + j.val, h'⟩) := by
  by_cases h0 : t.val % 4 = 0
  · rw [outA m c t _ h0]
    exact elt_ref m c t _ i j h h' fun k => blk1_at m c t i k h
  · rw [outB m c t _ h0]
    refine elt_ref m c t _ i j h h' fun k => ?_
    have e : (t.val - 1) / 4 = t.val / 4 := by omega
    refine (scratch_at m c (t.val - 1) _ i k (by rw [e]; exact h)).trans ?_
    simp only [e]

/-- The result array after the run is the reference's term. -/
theorem final (c : Dev nD) : (dats m 0 c).arrAt 4 (cfgs 0).N = REF (X m c) (Y m c) (W m c) := by
  refine (dats m 0 c).arrAt_eq_of_covers 4 _ (by decide +kernel) fun t _ y => ?_
  have h1 := (idx t).2.2.2.2.2
  have hy : (y 0).val < 1024 := (y 0).isLt
  have hy' : (y 1).val < 512 := (y 1).isLt
  blk_simp
  rw [after0_4]
  refine (congrArg _ (eq_ix2 (n0 := 1024) (n1 := 512) y)).trans ((point m c t (y 0) (y 1) (by omega) (by omega)).trans ?_)
  refine congrArg _ ?_
  symm
  blk_ext [idx t]
end Cert.Kernel14Ideal.S5Out
end
-- ==== Proof.S5Out1.lean ====
module

public import proofs.«01_k».proof.Proof.Gen.Kernel15Ideal.Frame
public import proofs.«01_k».proof.Proof.Gen.Reference15Ideal.Run
public import proofs.«01_k».proof.Proof.S5Out0
public import Idealize.ShloMosaic.Lib.Pipeline.ValueKit
public import Idealize.ShloMosaic.Lib.Pipeline.ReadBack
public import Idealize.ShloMosaic.Lib.Pointwise

@[expose] public section

set_option maxRecDepth 16384

noncomputable section
open Idealize.ShloMosaic Idealize.ShloMosaic.TcCoe Idealize.SL.Sem

namespace Cert.Reference15Ideal.S5Out
open Cert.Reference15Ideal Cert.Reference15Ideal.Gen
open Cert.Reference14Ideal.S5Out (glu)
/-- The gated output projection, added to the residual, over its three arguments. -/
def REF (a0 a1 : FVec Ideal S8192x2048 .f32) (a2 : FVec Ideal S2x2048x4096 .f32) : FVec Ideal S8192x2048 .f32 :=
  addf a0 (mulf (extractStridedSlice S8192x2048 ![0, 0] (Host.dotGeneral dot_S8192x2048_S2048x4096_S8192x4096_1_0_0_1_n_n none a1 (shapeCast _ (extractStridedSlice S1x2048x4096 ![1, 0, 0] a2 slices_S2x2048x4096_S1x2048x4096_1_0_0) shapeCasts_S1x2048x4096_S2048x4096)) slices_S8192x4096_S8192x2048_0_0) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 2048] (Host.dotGeneral dot_S8192x2048_S2048x4096_S8192x4096_1_0_0_1_n_n none a1 (shapeCast _ (extractStridedSlice S1x2048x4096 ![1, 0, 0] a2 slices_S2x2048x4096_S1x2048x4096_1_0_0) shapeCasts_S1x2048x4096_S2048x4096)) slices_S8192x4096_S8192x2048_0_2048))))))

theorem ref_at (a0 a1 : FVec Ideal S8192x2048 .f32) (a2 : FVec Ideal S2x2048x4096 .f32) (i : Fin 8192) (j : Fin 2048) :
    REF a0 a1 a2 (ix2 i j) = glu (a0 (ix2 i j)) (fun k => a1 (ix2 i k)) (fun k => a2 (ix3 1 k ⟨j.val, by omega⟩)) (fun k => a2 (ix3 1 k ⟨2048 + j.val, by omega⟩)) := by
  pointwise [REF]
  rfl
end Cert.Reference15Ideal.S5Out

namespace Cert.Kernel15Ideal.S5Out
open Cert.Kernel15Ideal Cert.Kernel15Ideal.Gen
open Cert.Reference15Ideal.S5Out (REF ref_at)
open Cert.Reference14Ideal.S5Out (glu)
open Idealize.ShloMosaic.Pipeline (Dat)
variable (m : (ℓ : Loc nD τ sig) → Buf (Elt Ideal) ℓ)

theorem idx : ∀ t : Fin cfg0.N, win0_0.index t = ![t.val / 4, t.val % 4] ∧ win0_1.index t = ![t.val / 4, 0] ∧ win0_2.index t = ![1, 0, t.val % 4]
    ∧ win0_3.index t = ![1, 0, 4 + t.val % 4] ∧ win0_4.index t = ![t.val / 4, t.val % 4] ∧ t.val < 32 :=
  (by decide +kernel : ∀ t : Fin grid0.N, _)

theorem p1_at (a : FVec Ideal S256x2048 .bf16) (h : FVec Ideal S256x512 .f32) (wa wb : FVec Ideal S1x2048x512 .bf16) (i : Fin 256) (j : Fin 512) :
    k0_pay1 (F := Ideal) a h wa wb (ix2 i j) = glu (h (ix2 i j)) (fun k => a (ix2 i k)) (fun k => wa (ix3 0 k j)) (fun k => wb (ix3 0 k j)) := by
  pointwise [k0_pay1]
  unfold glu
  simp only [zero_sub]

theorem p3_at (a : FVec Ideal S256x2048 .bf16) (h : FVec Ideal S256x512 .f32) (wa wb : FVec Ideal S1x2048x512 .bf16) (i : Fin 256) (j : Fin 512) :
    k0_pay3 (F := Ideal) a h wa wb (ix2 i j) = glu (h (ix2 i j)) (fun k => a (ix2 i k)) (fun k => wa (ix3 0 k j)) (fun k => wb (ix3 0 k j)) := by
  pointwise [k0_pay3]
  unfold glu
  simp only [zero_sub]

theorem p5_at (a : FVec Ideal S256x2048 .bf16) (h : FVec Ideal S256x512 .f32) (wa wb : FVec Ideal S1x2048x512 .bf16) (i : Fin 256) (j : Fin 512) :
    k0_pay5 (F := Ideal) a h (k0_pay4 (F := Ideal) a wa) wb (ix2 i j) = glu (h (ix2 i j)) (fun k => a (ix2 i k)) (fun k => wa (ix3 0 k j)) (fun k => wb (ix3 0 k j)) := by
  pointwise [k0_pay5, k0_pay4]
  unfold glu
  simp only [zero_sub]

theorem p6_at (a : FVec Ideal S256x2048 .bf16) (h : FVec Ideal S256x512 .f32) (wa wb : FVec Ideal S1x2048x512 .bf16) (i : Fin 256) (j : Fin 512) :
    k0_pay6 (F := Ideal) a h wa wb (ix2 i j) = glu (h (ix2 i j)) (fun k => a (ix2 i k)) (fun k => wa (ix3 0 k j)) (fun k => wb (ix3 0 k j)) := by
  pointwise [k0_pay6]
  unfold glu
  simp only [zero_sub]

/-- What a point computes at one element, over the rows it holds. -/
def elt (c : Dev nD) (t : Fin cfg0.N) (a : FVec Ideal S1024x2048 .bf16) (y : S1024x512.Idx) : EReal :=
  glu ((iblk m c 0 t : FVec Ideal S1024x512 .f32) y) (fun k => a (ix2 (y 0) k))
    (fun k => (iblk m c 2 t : FVec Ideal S1x2048x512 .bf16) (ix3 0 k (y 1))) (fun k => (iblk m c 3 t : FVec Ideal S1x2048x512 .bf16) (ix3 0 k (y 1)))

theorem outA (c : Dev nD) (t : Fin cfg0.N) (y : S1024x512.Idx) (e0 : t.val % 4 = 0) :
    (outsAt0 m c t.val t.isLt).1 y = elt m c t (iblk m c 1 t) y := by
  rw [outsAt0_A m c t e0]
  frame_out
  canon_tiles x h
  all_goals
    obtain ⟨i, j, rfl⟩ : ∃ (i : Fin 256) (j : Fin 512), x = ix2 i j := ⟨x 0, x 1, eq_ix2 x⟩
    have h0' := h0
    have h1' : (y 1).val = j.val := h1
    simp only [ix2_0] at h0'
    first
      | refine (p1_at _ _ _ _ i j).trans ?_
      | refine (p6_at _ _ _ _ i j).trans ?_
      | refine (p5_at _ _ _ _ i j).trans ?_
      | refine (p3_at _ _ _ _ i j).trans ?_
    have ey : y = ix2 (n0 := 1024) (n1 := 512) (y 0) (y 1) := eq_ix2 y
    have ey1 : (j : Fin 512) = y 1 := Fin.ext h1'.symm
    unfold elt
    refine congr (congr (congr (congrArg glu ?_) (funext fun k => ?_)) (funext fun k => ?_)) (funext fun k => ?_)
    · pointwise
      refine congrArg _ ((congrArg₂ (ix2 (n0 := 1024) (n1 := 512)) (Fin.ext ?_) ey1).trans ey.symm)
      dsimp only
      omega
    · rw [View.readCov_fill _ _ _ _ _ (by intro a; fin_cases a <;> rfl)]
      pointwise [k0_pay2]
      pointwise
      refine congrArg _ (congrArg (fun a => ix2 (n0 := 1024) (n1 := 2048) a k) (Fin.ext ?_))
      dsimp only
      omega
    · rw [ey1]
    · rw [ey1]

theorem scA (c : Dev nD) (t : Fin cfg0.N) (h0 : t.val % 4 = 0) :
    (outsAt0 m c t.val t.isLt).2 = k0_pay2 (F := Ideal) (iblk m c 1 t) := by
  rw [outsAt0_A m c t h0]
  frame_out
theorem outB (c : Dev nD) (t : Fin cfg0.N) (y : S1024x512.Idx) (e0 : ¬ t.val % 4 = 0) :
    (outsAt0 m c t.val t.isLt).1 y = elt m c t (outsAt0 m c (t.val - 1) (Nat.lt_of_le_of_lt (Nat.sub_le _ _) t.isLt)).2 y := by
  rw [outsAt0_B m c t e0]
  frame_out
  canon_tiles x h
  all_goals
    obtain ⟨i, j, rfl⟩ : ∃ (i : Fin 256) (j : Fin 512), x = ix2 i j := ⟨x 0, x 1, eq_ix2 x⟩
    have h0' := h0
    have h1' : (y 1).val = j.val := h1
    simp only [ix2_0] at h0'
    first
      | refine (p1_at _ _ _ _ i j).trans ?_
      | refine (p6_at _ _ _ _ i j).trans ?_
      | refine (p5_at _ _ _ _ i j).trans ?_
      | refine (p3_at _ _ _ _ i j).trans ?_
    have ey : y = ix2 (n0 := 1024) (n1 := 512) (y 0) (y 1) := eq_ix2 y
    have ey1 : (j : Fin 512) = y 1 := Fin.ext h1'.symm
    unfold elt
    refine congr (congr (congr (congrArg glu ?_) (funext fun k => ?_)) (funext fun k => ?_)) (funext fun k => ?_)
    · pointwise
      refine congrArg _ ((congrArg₂ (ix2 (n0 := 1024) (n1 := 512)) (Fin.ext ?_) ey1).trans ey.symm)
      dsimp only
      omega
    · rw [(Memref.isWhole_whole cc0_scratch0).read_unread]
      pointwise
      refine congrArg _ (congrArg (fun a => ix2 (n0 := 1024) (n1 := 2048) a k) (Fin.ext ?_))
      dsimp only
      omega
    · rw [ey1]
    · rw [ey1]

theorem scB (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

theorem pay2_at (x : FVec Ideal S1024x2048 .f32) (i : Fin 1024) (k : Fin 2048) : k0_pay2 (F := Ideal) x (ix2 i k) = x (ix2 i k) := by
  pointwise [k0_pay2]

theorem blk0_at (c : Dev nD) (t : Fin cfg0.N) (i : Fin 1024) (j : Fin 512) (h : t.val / 4 * 1024 + i.val < 8192) (h' : t.val % 4 * 512 + j.val < 2048) :
    (iblk m c 0 t : FVec Ideal S1024x512 .f32) (ix2 i j) = (m ((c : Thread nD τ).loc main_arg0) : FVec Ideal S8192x2048 .f32) (ix2 ⟨t.val / 4 * 1024 + i.val, h⟩ ⟨t.val % 4 * 512 + j.val, h'⟩) := by
  blk_point [iblk, V, idx t]
theorem blk1_at (c : Dev nD) (t : Fin cfg0.N) (i : Fin 1024) (j : Fin 2048) (h : t.val / 4 * 1024 + i.val < 8192) :
    (iblk m c 1 t : FVec Ideal S1024x2048 .f32) (ix2 i j) = (m ((c : Thread nD τ).loc main_arg1) : FVec Ideal S8192x2048 .f32) (ix2 ⟨t.val / 4 * 1024 + i.val, h⟩ j) := by
  blk_point [iblk, V, idx t]
theorem blk2_at (c : Dev nD) (t : Fin cfg0.N) (k : Fin 2048) (f : Fin 512) (h : t.val % 4 * 512 + f.val < 4096) :
    (iblk m c 2 t : FVec Ideal S1x2048x512 .bf16) (ix3 0 k f) = (m ((c : Thread nD τ).loc main_arg2) : FVec Ideal S2x2048x4096 .f32) (ix3 1 k ⟨t.val % 4 * 512 + f.val, h⟩) := by
  blk_point [iblk, V, idx t]
theorem blk3_at (c : Dev nD) (t : Fin cfg0.N) (k : Fin 2048) (f : Fin 512) (h : 2048 + (t.val % 4 * 512 + f.val) < 4096) :
    (iblk m c 3 t : FVec Ideal S1x2048x512 .bf16) (ix3 0 k f) = (m ((c : Thread nD τ).loc main_arg2) : FVec Ideal S2x2048x4096 .f32) (ix3 1 k ⟨2048 + (t.val % 4 * 512 + f.val), h⟩) := by
  blk_point [iblk, V, idx t]
  all_goals omega

/-- The launch contents of the three arguments on device `c`. -/
abbrev X (c : Dev nD) : FVec Ideal S8192x2048 .f32 := m ((c : Thread nD τ).loc main_arg0)
abbrev Y (c : Dev nD) : FVec Ideal S8192x2048 .f32 := m ((c : Thread nD τ).loc main_arg1)
abbrev W (c : Dev nD) : FVec Ideal S2x2048x4096 .f32 := m ((c : Thread nD τ).loc main_arg2)

/-- The scratch after any point holds the rows of the point's block. -/
theorem scratch_at (c : Dev nD) : ∀ (n : ℕ) (hn : n < cfg0.N) (i : Fin 1024) (k : Fin 2048) (h : n / 4 * 1024 + i.val < 8192),
    (outsAt0 m c n hn).2 (ix2 i k) = Y m c (ix2 ⟨n / 4 * 1024 + i.val, h⟩ k) := by
  intro n
  induction n with
  | zero =>
    intro hn i k h
    rw [scA m c ⟨0, hn⟩ rfl]
    exact (pay2_at _ i k).trans (blk1_at m c ⟨0, hn⟩ i k h)
  | succ n ih =>
    intro hn i k h
    by_cases h0 : (n + 1) % 4 = 0
    · rw [scA m c ⟨n + 1, hn⟩ h0]
      exact (pay2_at _ i k).trans (blk1_at m c ⟨n + 1, hn⟩ i k h)
    · rw [scB m c ⟨n + 1, hn⟩ h0]
      have e : (n + 1) / 4 = n / 4 := by omega
      have h' : n / 4 * 1024 + i.val < 8192 := by rw [← e]; exact h
      refine (ih (Nat.lt_of_succ_lt hn) i k h').trans ?_
      simp only [e]

theorem elt_ref (c : Dev nD) (t : Fin cfg0.N) (xs : FVec Ideal S1024x2048 .bf16) (i : Fin 1024) (j : Fin 512)
    (h : t.val / 4 * 1024 + i.val < 8192) (h' : t.val % 4 * 512 + j.val < 2048)
    (hxs : ∀ k, xs (ix2 i k) = Y m c (ix2 ⟨t.val / 4 * 1024 + i.val, h⟩ k)) :
    elt m c t xs (ix2 i j) = REF (X m c) (Y m c) (W m c) (ix2 ⟨t.val / 4 * 1024 + i.val, h⟩ ⟨t.val % 4 * 512 + j.val, h'⟩) := by
  refine Eq.trans ?_ (ref_at (X m c) (Y m c) (W m c) _ _).symm
  have e1 : (fun k => xs (ix2 i k)) = fun k => Y m c (ix2 ⟨t.val / 4 * 1024 + i.val, h⟩ k) := funext hxs
  have e2 : (fun k => (iblk m c 2 t : FVec Ideal S1x2048x512 .bf16) (ix3 0 k j)) = _ := funext fun k => blk2_at m c t k j (by omega)
  have e3 : (fun k => (iblk m c 3 t : FVec Ideal S1x2048x512 .bf16) (ix3 0 k j)) = _ := funext fun k => blk3_at m c t k j (by omega)
  show glu ((iblk m c 0 t : FVec Ideal S1024x512 .f32) (ix2 i j)) (fun k => xs (ix2 i k)) (fun k => (iblk m c 2 t : FVec Ideal S1x2048x512 .bf16) (ix3 0 k j))
    (fun k => (iblk m c 3 t : FVec Ideal S1x2048x512 .bf16) (ix3 0 k j)) = _
  rw [e1, e2, e3, blk0_at m c t i j h h']

/-- What a point leaves in the result's block. -/
theorem point (c : Dev nD) (t : Fin cfg0.N) (i : Fin 1024) (j : Fin 512) (h : t.val / 4 * 1024 + i.val < 8192) (h' : t.val % 4 * 512 + j.val < 2048) :
    (outsAt0 m c t.val t.isLt).1 (ix2 i j) = REF (X m c) (Y m c) (W m c) (ix2 ⟨t.val / 4 * 1024 + i.val, h⟩ ⟨t.val % 4 * 512 + j.val, h'⟩) := by
  by_cases h0 : t.val % 4 = 0
  · rw [outA m c t _ h0]
    exact elt_ref m c t _ i j h h' fun k => blk1_at m c t i k h
  · rw [outB m c t _ h0]
    refine elt_ref m c t _ i j h h' fun k => ?_
    have e : (t.val - 1) / 4 = t.val / 4 := by omega
    refine (scratch_at m c (t.val - 1) _ i k (by rw [e]; exact h)).trans ?_
    simp only [e]

/-- The result array after the run is the reference's term. -/
theorem final (c : Dev nD) : (dats m 0 c).arrAt 4 (cfgs 0).N = REF (X m c) (Y m c) (W m c) := by
  refine (dats m 0 c).arrAt_eq_of_covers 4 _ (by decide +kernel) fun t _ y => ?_
  have h1 := (idx t).2.2.2.2.2
  have hy : (y 0).val < 1024 := (y 0).isLt
  have hy' : (y 1).val < 512 := (y 1).isLt
  blk_simp
  rw [after0_4]
  refine (congrArg _ (eq_ix2 (n0 := 1024) (n1 := 512) y)).trans ((point m c t (y 0) (y 1) (by omega) (by omega)).trans ?_)
  refine congrArg _ ?_
  symm
  blk_ext [idx t]
end Cert.Kernel15Ideal.S5Out
end
-- ==== Proof.lean ====
/- The certificate's claim, assembled: each program's frame from its generated run, each value claim from the
   modules beside this one. -/
module

public import proofs.«01_k».proof.Defs
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Reference2Ideal.Run
public import proofs.«01_k».proof.Proof.Gen.Reference3Ideal.Run
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Pre_tame
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.GdnFinal
public import proofs.«01_k».proof.Proof.Mlp
public import proofs.«01_k».proof.Proof.Ple
public import proofs.«01_k».proof.Proof.Mlp0
public import proofs.«01_k».proof.Proof.Mlp1
public import proofs.«01_k».proof.Proof.Mlp2
public import proofs.«01_k».proof.Proof.Ple0
public import proofs.«01_k».proof.Proof.Ple1
public import proofs.«01_k».proof.Proof.Ple2
public import proofs.«01_k».proof.Proof.GdnOut0
public import proofs.«01_k».proof.Proof.GdnOut1
public import proofs.«01_k».proof.Proof.S5In0
public import proofs.«01_k».proof.Proof.S5In1
public import proofs.«01_k».proof.Proof.S5Out0
public import proofs.«01_k».proof.Proof.S5Out1
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The MLP reference's run ends with its arguments unchanged; it declares no semaphore. -/
theorem frame_mlp_ref : Cert.quiescent_Reference2Ideal := fun m ρ _ =>
  (θ_run _ _ _).mono (fun r h => ⟨fun c => (h c).2, sem_eq_zero_of_no_sems (by decide) r.2⟩) (Cert.Reference2Ideal.Value.run m ρ)

/-- The MLP: the kernel's result array is the reference's. -/
theorem value_mlp : Cert.algebraic_Kernel2Ideal_Reference2Ideal := by
  pair_intro
  · run_from Cert.Kernel2Ideal.Gen.run_main m g
  · run_from Cert.Reference2Ideal.Value.run m' g'
    exact (Cert.Kernel2Ideal.Mlp.final m c).symm

/-- The gated embedding's reference ends with its arguments unchanged; it declares no semaphore. -/
theorem frame_ple_ref : Cert.quiescent_Reference3Ideal := fun m ρ _ =>
  (θ_run _ _ _).mono (fun r h => ⟨fun c => (h c).2, sem_eq_zero_of_no_sems (by decide) r.2⟩) (Cert.Reference3Ideal.Value.run m ρ)

/-- The gated embedding and the final norm: the kernel's result array is the reference's. -/
theorem value_ple : Cert.algebraic_Kernel3Ideal_Reference3Ideal := by
  pair_intro
  · run_from Cert.Kernel3Ideal.Gen.run_main m g
  · run_from Cert.Reference3Ideal.Value.run m' g'
    obtain ⟨h0, h1, h2, h3, h4, h5⟩ := hagree c
    refine Eq.trans ?_ (Cert.Kernel3Ideal.Ple.final m c).symm
    rw [← h0, ← h1, ← h2, ← h3, ← h4, ← h5]
    rfl

/-- The MLP of layer 0: its reference ends with its arguments unchanged; it declares no semaphore. -/
theorem frame_ref4 : Cert.quiescent_Reference4Ideal := fun m ρ _ =>
  (θ_run _ _ _).mono (fun r h => ⟨fun c => (h c).2, sem_eq_zero_of_no_sems (by decide) r.2⟩) (Cert.Reference4Ideal.Value.run m ρ)

/-- The MLP of layer 0: the kernel's result array is the reference's. -/
theorem value4 : Cert.algebraic_Kernel4Ideal_Reference4Ideal := by
  pair_intro
  · run_from Cert.Kernel4Ideal.Gen.run_main m g
  · run_from Cert.Reference4Ideal.Value.run m' g'
    obtain ⟨h0, h1, h2, h3⟩ := hagree c
    refine Eq.trans ?_ (Cert.Kernel4Ideal.Mlp.final m c).symm
    unfold Cert.Kernel4Ideal.Mlp.X Cert.Kernel4Ideal.Mlp.Gm Cert.Kernel4Ideal.Mlp.Up Cert.Kernel4Ideal.Mlp.Dn
    rw [← h0, ← h1, ← h2, ← h3]
    rfl

/-- The MLP of layer 1: its reference ends with its arguments unchanged; it declares no semaphore. -/
theorem frame_ref5 : Cert.quiescent_Reference5Ideal := fun m ρ _ =>
  (θ_run _ _ _).mono (fun r h => ⟨fun c => (h c).2, sem_eq_zero_of_no_sems (by decide) r.2⟩) (Cert.Reference5Ideal.Value.run m ρ)

/-- The MLP of layer 1: the kernel's result array is the reference's. -/
theorem value5 : Cert.algebraic_Kernel5Ideal_Reference5Ideal := by
  pair_intro
  · run_from Cert.Kernel5Ideal.Gen.run_main m g
  · run_from Cert.Reference5Ideal.Value.run m' g'
    obtain ⟨h0, h1, h2, h3⟩ := hagree c
    refine Eq.trans ?_ (Cert.Kernel5Ideal.Mlp.final m c).symm
    unfold Cert.Kernel5Ideal.Mlp.X Cert.Kernel5Ideal.Mlp.Gm Cert.Kernel5Ideal.Mlp.Up Cert.Kernel5Ideal.Mlp.Dn
    rw [← h0, ← h1, ← h2, ← h3]
    rfl

/-- The MLP of layer 2: its reference ends with its arguments unchanged; it declares no semaphore. -/
theorem frame_ref6 : Cert.quiescent_Reference6Ideal := fun m ρ _ =>
  (θ_run _ _ _).mono (fun r h => ⟨fun c => (h c).2, sem_eq_zero_of_no_sems (by decide) r.2⟩) (Cert.Reference6Ideal.Value.run m ρ)

/-- The MLP of layer 2: the kernel's result array is the reference's. -/
theorem value6 : Cert.algebraic_Kernel6Ideal_Reference6Ideal := by
  pair_intro
  · run_from Cert.Kernel6Ideal.Gen.run_main m g
  · run_from Cert.Reference6Ideal.Value.run m' g'
    obtain ⟨h0, h1, h2, h3⟩ := hagree c
    refine Eq.trans ?_ (Cert.Kernel6Ideal.Mlp.final m c).symm
    unfold Cert.Kernel6Ideal.Mlp.X Cert.Kernel6Ideal.Mlp.Gm Cert.Kernel6Ideal.Mlp.Up Cert.Kernel6Ideal.Mlp.Dn
    rw [← h0, ← h1, ← h2, ← h3]
    rfl

/-- The gated embedding of layer 0: its reference ends with its arguments unchanged; it declares no semaphore. -/
theorem frame_ref7 : Cert.quiescent_Reference7Ideal := fun m ρ _ =>
  (θ_run _ _ _).mono (fun r h => ⟨fun c => (h c).2, sem_eq_zero_of_no_sems (by decide) r.2⟩) (Cert.Reference7Ideal.Value.run m ρ)

/-- The gated embedding of layer 0: the kernel's result array is the reference's. -/
theorem value7 : Cert.algebraic_Kernel7Ideal_Reference7Ideal := by
  pair_intro
  · run_from Cert.Kernel7Ideal.Gen.run_main m g
  · run_from Cert.Reference7Ideal.Value.run m' g'
    obtain ⟨h0, h1, h2, h3, h4, h5⟩ := hagree c
    refine Eq.trans ?_ (Cert.Kernel7Ideal.Ple.final m c).symm
    rw [← h0, ← h1, ← h2, ← h3, ← h4]
    rfl

/-- The gated embedding of layer 1: its reference ends with its arguments unchanged; it declares no semaphore. -/
theorem frame_ref8 : Cert.quiescent_Reference8Ideal := fun m ρ _ =>
  (θ_run _ _ _).mono (fun r h => ⟨fun c => (h c).2, sem_eq_zero_of_no_sems (by decide) r.2⟩) (Cert.Reference8Ideal.Value.run m ρ)

/-- The gated embedding of layer 1: the kernel's result array is the reference's. -/
theorem value8 : Cert.algebraic_Kernel8Ideal_Reference8Ideal := by
  pair_intro
  · run_from Cert.Kernel8Ideal.Gen.run_main m g
  · run_from Cert.Reference8Ideal.Value.run m' g'
    obtain ⟨h0, h1, h2, h3, h4, h5⟩ := hagree c
    refine Eq.trans ?_ (Cert.Kernel8Ideal.Ple.final m c).symm
    rw [← h0, ← h1, ← h2, ← h3, ← h4]
    rfl

/-- The gated embedding of layer 2: its reference ends with its arguments unchanged; it declares no semaphore. -/
theorem frame_ref9 : Cert.quiescent_Reference9Ideal := fun m ρ _ =>
  (θ_run _ _ _).mono (fun r h => ⟨fun c => (h c).2, sem_eq_zero_of_no_sems (by decide) r.2⟩) (Cert.Reference9Ideal.Value.run m ρ)

/-- The gated embedding of layer 2: the kernel's result array is the reference's. -/
theorem value9 : Cert.algebraic_Kernel9Ideal_Reference9Ideal := by
  pair_intro
  · run_from Cert.Kernel9Ideal.Gen.run_main m g
  · run_from Cert.Reference9Ideal.Value.run m' g'
    obtain ⟨h0, h1, h2, h3, h4, h5⟩ := hagree c
    refine Eq.trans ?_ (Cert.Kernel9Ideal.Ple.final m c).symm
    rw [← h0, ← h1, ← h2, ← h3, ← h4]
    rfl

/-- The recurrent mixer's output projection, mixer 0: its reference ends with its arguments unchanged; it declares no semaphore. -/
theorem frame_ref10 : Cert.quiescent_Reference10Ideal := fun m ρ _ =>
  (θ_run _ _ _).mono (fun r h => ⟨fun c => (h c).2, sem_eq_zero_of_no_sems (by decide) r.2⟩) (Cert.Reference10Ideal.Value.run m ρ)

/-- The recurrent mixer's output projection, mixer 0: the kernel's result array is the reference's. -/
theorem value10 : Cert.algebraic_Kernel10Ideal_Reference10Ideal := by
  pair_intro
  · run_from Cert.Kernel10Ideal.Gen.run_main m g
  · run_from Cert.Reference10Ideal.Value.run m' g'
    obtain ⟨h0, h1, h2⟩ := hagree c
    refine Eq.trans ?_ (Cert.Kernel10Ideal.GdnOut.final m c).symm
    rw [← h0, ← h1, ← h2]
    rfl

/-- The recurrent mixer's output projection, mixer 1: its reference ends with its arguments unchanged; it declares no semaphore. -/
theorem frame_ref11 : Cert.quiescent_Reference11Ideal := fun m ρ _ =>
  (θ_run _ _ _).mono (fun r h => ⟨fun c => (h c).2, sem_eq_zero_of_no_sems (by decide) r.2⟩) (Cert.Reference11Ideal.Value.run m ρ)

/-- The recurrent mixer's output projection, mixer 1: the kernel's result array is the reference's. -/
theorem value11 : Cert.algebraic_Kernel11Ideal_Reference11Ideal := by
  pair_intro
  · run_from Cert.Kernel11Ideal.Gen.run_main m g
  · run_from Cert.Reference11Ideal.Value.run m' g'
    obtain ⟨h0, h1, h2⟩ := hagree c
    refine Eq.trans ?_ (Cert.Kernel11Ideal.GdnOut.final m c).symm
    rw [← h0, ← h1, ← h2]
    rfl

/-- The state-space mixer's input projection, mixer 0: its reference ends with its arguments unchanged; it declares no semaphore. -/
theorem frame_ref12 : Cert.quiescent_Reference12Ideal := fun m ρ _ =>
  (θ_run _ _ _).mono (fun r h => ⟨fun c => (h c).2, sem_eq_zero_of_no_sems (by decide) r.2⟩) (Cert.Reference12Ideal.Value.run m ρ)

/-- The state-space mixer's input projection, mixer 0: the kernel's result array is the reference's. -/
theorem value12 : Cert.algebraic_Kernel12Ideal_Reference12Ideal := by
  pair_intro
  · run_from Cert.Kernel12Ideal.Gen.run_main m g
  · run_from Cert.Reference12Ideal.Value.run m' g'
    obtain ⟨h0, h1, h2⟩ := hagree c
    refine Eq.trans ?_ (Cert.Kernel12Ideal.S5In.final m c).symm
    unfold Cert.Kernel12Ideal.S5In.X Cert.Kernel12Ideal.S5In.Gm Cert.Kernel12Ideal.S5In.W
    rw [← h0, ← h1, ← h2]
    rfl

/-- The state-space mixer's input projection, mixer 1: its reference ends with its arguments unchanged; it declares no semaphore. -/
theorem frame_ref13 : Cert.quiescent_Reference13Ideal := fun m ρ _ =>
  (θ_run _ _ _).mono (fun r h => ⟨fun c => (h c).2, sem_eq_zero_of_no_sems (by decide) r.2⟩) (Cert.Reference13Ideal.Value.run m ρ)

/-- The state-space mixer's input projection, mixer 1: the kernel's result array is the reference's. -/
theorem value13 : Cert.algebraic_Kernel13Ideal_Reference13Ideal := by
  pair_intro
  · run_from Cert.Kernel13Ideal.Gen.run_main m g
  · run_from Cert.Reference13Ideal.Value.run m' g'
    obtain ⟨h0, h1, h2⟩ := hagree c
    refine Eq.trans ?_ (Cert.Kernel13Ideal.S5In.final m c).symm
    unfold Cert.Kernel13Ideal.S5In.X Cert.Kernel13Ideal.S5In.Gm Cert.Kernel13Ideal.S5In.W
    rw [← h0, ← h1, ← h2]
    rfl

/-- The state-space mixer's output projection, mixer 0: its reference ends with its arguments unchanged; it declares no semaphore. -/
theorem frame_ref14 : Cert.quiescent_Reference14Ideal := fun m ρ _ =>
  (θ_run _ _ _).mono (fun r h => ⟨fun c => (h c).2, sem_eq_zero_of_no_sems (by decide) r.2⟩) (Cert.Reference14Ideal.Value.run m ρ)

/-- The state-space mixer's output projection, mixer 0: the kernel's result array is the reference's. -/
theorem value14 : Cert.algebraic_Kernel14Ideal_Reference14Ideal := by
  pair_intro
  · run_from Cert.Kernel14Ideal.Gen.run_main m g
  · run_from Cert.Reference14Ideal.Value.run m' g'
    obtain ⟨h0, h1, h2⟩ := hagree c
    refine Eq.trans ?_ (Cert.Kernel14Ideal.S5Out.final m c).symm
    unfold Cert.Kernel14Ideal.S5Out.X Cert.Kernel14Ideal.S5Out.Y Cert.Kernel14Ideal.S5Out.W
    rw [← h0, ← h1, ← h2]
    rfl

/-- The state-space mixer's output projection, mixer 1: its reference ends with its arguments unchanged; it declares no semaphore. -/
theorem frame_ref15 : Cert.quiescent_Reference15Ideal := fun m ρ _ =>
  (θ_run _ _ _).mono (fun r h => ⟨fun c => (h c).2, sem_eq_zero_of_no_sems (by decide) r.2⟩) (Cert.Reference15Ideal.Value.run m ρ)

/-- The state-space mixer's output projection, mixer 1: the kernel's result array is the reference's. -/
theorem value15 : Cert.algebraic_Kernel15Ideal_Reference15Ideal := by
  pair_intro
  · run_from Cert.Kernel15Ideal.Gen.run_main m g
  · run_from Cert.Reference15Ideal.Value.run m' g'
    obtain ⟨h0, h1, h2⟩ := hagree c
    refine Eq.trans ?_ (Cert.Kernel15Ideal.S5Out.final m c).symm
    unfold Cert.Kernel15Ideal.S5Out.X Cert.Kernel15Ideal.S5Out.Y Cert.Kernel15Ideal.S5Out.W
    rw [← h0, ← h1, ← h2]
    rfl

/-- The recurrence's reference ends with its arguments unchanged; it declares no semaphore. -/
theorem frame_gdn_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Value.run m ρ)

/-- The gated delta rule: on tame arguments the kernel's result array is the reference's. -/
theorem value_gdn : Cert.algebraic_KernelIdeal_ReferenceIdeal_pre_tame := by
  intro m g m' g' hpre hagree
  refine ⟨fun c => Cert.KernelIdeal.Gdn.RES m c, ?_, ?_⟩
  · refine (θ_run _ _ _).mono (fun r h c => ?_) (Cert.KernelIdeal.Value.run_blocks m g)
    obtain ⟨e, k⟩ := h c
    exact ⟨e.trans (Cert.KernelIdeal.Gdn.final m (Cert.GdnArr.tame_of_fn _ _ (hpre c))), k⟩
  · refine (θ_run _ _ _).mono (fun r h c => ?_) (Cert.ReferenceIdeal.Value.run m' g')
    obtain ⟨e, k⟩ := h c
    refine ⟨e.trans ((Cert.ReferenceIdeal.Gdn.result m' c).trans ?_), k⟩
    obtain ⟨h0, h1, h2, h3⟩ := hagree c
    rw [h0, h1, h2, h3]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts,
  Cert.Pre_tame.Gen.facts,
  fun m ρ _ => Cert.Kernel.Gen.frame m ρ, fun m ρ _ => Cert.KernelIdeal.Gen.frame m ρ, fun m ρ _ => Cert.KernelIdeal.Gen.frame m ρ,
  fun m ρ _ => frame_gdn_ref m ρ, fun m ρ _ => frame_gdn_ref m ρ,
  fun m ρ _ => Cert.Kernel2.Gen.frame m ρ, fun m ρ _ => Cert.Kernel2Ideal.Gen.frame m ρ, frame_mlp_ref,
  fun m ρ _ => Cert.Kernel3.Gen.frame m ρ, fun m ρ _ => Cert.Kernel3Ideal.Gen.frame m ρ, frame_ple_ref,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  fun m ρ _ => Cert.Kernel11.Gen.frame m ρ, fun m ρ _ => Cert.Kernel11Ideal.Gen.frame m ρ, frame_ref11,
  fun m ρ _ => Cert.Kernel12.Gen.frame m ρ, fun m ρ _ => Cert.Kernel12Ideal.Gen.frame m ρ, frame_ref12,
  fun m ρ _ => Cert.Kernel13.Gen.frame m ρ, fun m ρ _ => Cert.Kernel13Ideal.Gen.frame m ρ, frame_ref13,
  fun m ρ _ => Cert.Kernel14.Gen.frame m ρ, fun m ρ _ => Cert.Kernel14Ideal.Gen.frame m ρ, frame_ref14,
  fun m ρ _ => Cert.Kernel15.Gen.frame m ρ, fun m ρ _ => Cert.Kernel15Ideal.Gen.frame m ρ, frame_ref15,
  trivial, value_gdn, trivial, value_mlp, trivial, value_ple,
  trivial, value4, trivial, value5, trivial, value6, trivial, value7, trivial, value8, trivial, value9, trivial, value10, trivial, value11, trivial, value12, trivial, value13, trivial, value14, trivial, value15⟩

end Cert.Proof

end
